-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_KernelIdeal_bounded_inputs [hPre_bounded_inputs : Cert.Pre_bounded_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.1 = (fun _ => 1#1)
    ∧ (Cert.Pre_bounded_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_ReferenceIdeal_bounded_inputs [hPre_bounded_inputs : Cert.Pre_bounded_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.1 = (fun _ => 1#1)
    ∧ (Cert.Pre_bounded_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bounded_inputs [hKernelIdeal : Cert.KernelIdeal.Facts] [hPre_bounded_inputs : Cert.Pre_bounded_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bounded_inputs [hReferenceIdeal : Cert.ReferenceIdeal.Facts] [hPre_bounded_inputs : Cert.Pre_bounded_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pack.Statement Cert.KernelIdeal.S1x128
  ∧ IdealRules.bf16_pack.Statement Cert.KernelIdeal.S8x128

def algebraic_KernelIdeal_ReferenceIdeal_on_statistics_pre_finite_inputs [hKernelIdeal : Cert.KernelIdeal.Facts] [hReferenceIdeal : Cert.ReferenceIdeal.Facts] [hPre_finite_inputs : Cert.Pre_finite_inputs.Facts] [hOn_statistics : Cert.On_statistics.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1536, 6912]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v5_0) i = v0 c i)
          ∧ (∀ i : (⟨2, ![1536, 54]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v5_1) i = v1 c i)
          ∧ (∀ i : (⟨2, ![12, 128]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v5_2) i = v2 c i)
          ∧ (∀ i : (⟨2, ![12, 128]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v5_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1536, 6912]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v4_0) i = v0 c i)
          ∧ (∀ i : (⟨2, ![1536, 54]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v4_1) i = v1 c i)
          ∧ (∀ i : (⟨2, ![12, 128]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v4_2) i = v2 c i)
          ∧ (∀ i : (⟨2, ![12, 128]⟩ : Shape).Idx, (Cert.On_statistics.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v4_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_pre_bounded_inputs [hKernelIdeal : Cert.KernelIdeal.Facts] [hReferenceIdeal : Cert.ReferenceIdeal.Facts] [hPre_bounded_inputs : Cert.Pre_bounded_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hPre_bounded_inputs : Cert.Pre_bounded_inputs.Facts) (hOn_statistics : Cert.On_statistics.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_KernelIdeal_pre_bounded_inputs (hKernelIdeal := hKernelIdeal) (hPre_bounded_inputs := hPre_bounded_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_ReferenceIdeal_pre_bounded_inputs (hReferenceIdeal := hReferenceIdeal) (hPre_bounded_inputs := hPre_bounded_inputs)
    ∧ preserves_Kernel_KernelIdeal
    ∧ algebraic_KernelIdeal_ReferenceIdeal_on_statistics_pre_finite_inputs (hKernelIdeal := hKernelIdeal) (hReferenceIdeal := hReferenceIdeal) (hPre_finite_inputs := hPre_finite_inputs) (hOn_statistics := hOn_statistics)
    ∧ algebraic_KernelIdeal_ReferenceIdeal_pre_bounded_inputs (hKernelIdeal := hKernelIdeal) (hReferenceIdeal := hReferenceIdeal) (hPre_bounded_inputs := hPre_bounded_inputs)
-- ==== On_statistics.lean ====
abbrev S12x128x6912 : Shape := ⟨3, ![12, 128, 6912]⟩
abbrev S12x128x54 : Shape := ⟨3, ![12, 128, 54]⟩
abbrev S3 : Shape := ⟨1, ![3]⟩
abbrev S3x12x128 : Shape := ⟨3, ![3, 12, 128]⟩
abbrev S6912 : Shape := ⟨1, ![6912]⟩
abbrev S_ : Shape := ⟨0, ![]⟩
abbrev S1536x6912 : Shape := ⟨2, ![1536, 6912]⟩
abbrev S1536x54 : Shape := ⟨2, ![1536, 54]⟩
abbrev S12x128 : Shape := ⟨2, ![12, 128]⟩

class Facts : Prop where
  bcast_S_S1536x6912 : S_.BroadcastsInDim S1536x6912 (![] : Fin 0 → Fin S1536x6912.rank)
  bcast_S_S1536x54 : S_.BroadcastsInDim S1536x54 (![] : Fin 0 → Fin S1536x54.rank)
  bcast_S_S12x128 : S_.BroadcastsInDim S12x128 (![] : Fin 0 → Fin S12x128.rank)

variable [Facts]

def fn {F : FTy → Type} [FloatOps F] (main_arg0 : FVec F S12x128x6912 .f32) (main_arg1 : FVec F S12x128x54 .f32) (main_arg2 : FVec F S3 .f32) (main_arg3 : FVec F S3x12x128 .f32) (main_arg4 : FVec F S3x12x128 .f32) (main_arg5 : FVec F S6912 .f32) (main_arg6 : FVec F S6912 .f32) : IVec S1536x6912 1 × IVec S1536x54 1 × IVec S12x128 1 × IVec S12x128 1 :=
  let main_c : IVec S_ 1 := constantI S_ 1 0#1
  let main_v0 : IVec S1536x6912 1 := broadcastInDim S1536x6912 ![] bcast_S_S1536x6912 main_c
  let main_c_0 : IVec S_ 1 := constantI S_ 1 0#1
  let main_v1 : IVec S1536x54 1 := broadcastInDim S1536x54 ![] bcast_S_S1536x54 main_c_0
  let main_c_1 : IVec S_ 1 := constantI S_ 1 1#1
  let main_v2 : IVec S12x128 1 := broadcastInDim S12x128 ![] bcast_S_S12x128 main_c_1
  let main_c_2 : IVec S_ 1 := constantI S_ 1 1#1
  let main_v3 : IVec S12x128 1 := broadcastInDim S12x128 ![] bcast_S_S12x128 main_c_2
  (main_v0, main_v1, main_v2, main_v3)
-- ==== Pre_bounded_inputs.lean ====
abbrev S12x128x6912 : Shape := ⟨3, ![12, 128, 6912]⟩
abbrev S12x128x54 : Shape := ⟨3, ![12, 128, 54]⟩
abbrev S3 : Shape := ⟨1, ![3]⟩
abbrev S3x12x128 : Shape := ⟨3, ![3, 12, 128]⟩
abbrev S6912 : Shape := ⟨1, ![6912]⟩
abbrev S_ : Shape := ⟨0, ![]⟩

class Facts : Prop where
  bcast_S_S12x128x6912 : S_.BroadcastsInDim S12x128x6912 (![] : Fin 0 → Fin S12x128x6912.rank)
  bcast_S_S12x128x54 : S_.BroadcastsInDim S12x128x54 (![] : Fin 0 → Fin S12x128x54.rank)
  bcast_S_S3 : S_.BroadcastsInDim S3 (![] : Fin 0 → Fin S3.rank)
  bcast_S_S3x12x128 : S_.BroadcastsInDim S3x12x128 (![] : Fin 0 → Fin S3x12x128.rank)
  bcast_S_S6912 : S_.BroadcastsInDim S6912 (![] : Fin 0 → Fin S6912.rank)

variable [Facts]

def fn_part1 {F : FTy → Type} [FloatOps F] (main_arg4 : FVec F S3x12x128 .f32) (main_arg5 : FVec F S6912 .f32) (main_arg6 : FVec F S6912 .f32) (main_v2 : IVec S12x128x6912 1) (main_v4 : IVec S12x128x54 1) (main_v6 : IVec S12x128x54 1) (main_v8 : IVec S3 1) (main_v10 : IVec S3 1) (main_v13 : IVec S3x12x128 1) (main_v15 : IVec S3x12x128 1) (main_cst_6 : FVec F S_ .f32) : IVec S12x128x6912 1 × IVec S12x128x54 1 × IVec S12x128x54 1 × IVec S3 1 × IVec S3 1 × IVec S3x12x128 1 × IVec S3x12x128 1 × IVec S3x12x128 1 × IVec S6912 1 × IVec S6912 1 :=
  let main_v16 : FVec F S3x12x128 .f32 := broadcastInDim S3x12x128 ![] bcast_S_S3x12x128 main_cst_6
  let main_v17 : IVec S3x12x128 1 := cmpf .olt main_arg4 main_v16
  let main_v18 : FVec F S6912 .f32 := Host.absf main_arg5
  let main_cst_7 : FVec F S_ .f32 := constant S_ .f32 0x53800000#32
  let main_v19 : FVec F S6912 .f32 := broadcastInDim S6912 ![] bcast_S_S6912 main_cst_7
  let main_v20 : IVec S6912 1 := cmpf .ole main_v18 main_v19
  let main_v21 : FVec F S6912 .f32 := Host.absf main_arg6
  let main_cst_8 : FVec F S_ .f32 := constant S_ .f32 0x71800000#32
  let main_v22 : FVec F S6912 .f32 := broadcastInDim S6912 ![] bcast_S_S6912 main_cst_8
  let main_v23 : IVec S6912 1 := cmpf .ole main_v21 main_v22
  (main_v2, main_v4, main_v6, main_v8, main_v10, main_v13, main_v15, main_v17, main_v20, main_v23)

def fn {F : FTy → Type} [FloatOps F] (main_arg0 : FVec F S12x128x6912 .f32) (main_arg1 : FVec F S12x128x54 .f32) (main_arg2 : FVec F S3 .f32) (main_arg3 : FVec F S3x12x128 .f32) (main_arg4 : FVec F S3x12x128 .f32) (main_arg5 : FVec F S6912 .f32) (main_arg6 : FVec F S6912 .f32) : IVec S12x128x6912 1 × IVec S12x128x54 1 × IVec S12x128x54 1 × IVec S3 1 × IVec S3 1 × IVec S3x12x128 1 × IVec S3x12x128 1 × IVec S3x12x128 1 × IVec S6912 1 × IVec S6912 1 :=
  let main_v0 : FVec F S12x128x6912 .f32 := Host.absf main_arg0
  let main_cst : FVec F S_ .f32 := constant S_ .f32 0x43E00000#32
  let main_v1 : FVec F S12x128x6912 .f32 := broadcastInDim S12x128x6912 ![] bcast_S_S12x128x6912 main_cst
  let main_v2 : IVec S12x128x6912 1 := cmpf .ole main_v0 main_v1
  let main_cst_0 : FVec F S_ .f32 := constant S_ .f32 0x00000000#32
  let main_v3 : FVec F S12x128x54 .f32 := broadcastInDim S12x128x54 ![] bcast_S_S12x128x54 main_cst_0
  let main_v4 : IVec S12x128x54 1 := cmpf .ogt main_arg1 main_v3
  let main_cst_1 : FVec F S_ .f32 := constant S_ .f32 0x53800000#32
  let main_v5 : FVec F S12x128x54 .f32 := broadcastInDim S12x128x54 ![] bcast_S_S12x128x54 main_cst_1
  let main_v6 : IVec S12x128x54 1 := cmpf .ole main_arg1 main_v5
  let main_cst_2 : FVec F S_ .f32 := constant S_ .f32 0x00000000#32
  let main_v7 : FVec F S3 .f32 := broadcastInDim S3 ![] bcast_S_S3 main_cst_2
  let main_v8 : IVec S3 1 := cmpf .ogt main_arg2 main_v7
  let main_cst_3 : FVec F S_ .f32 := constant S_ .f32 0x7F800000#32
  let main_v9 : FVec F S3 .f32 := broadcastInDim S3 ![] bcast_S_S3 main_cst_3
  let main_v10 : IVec S3 1 := cmpf .olt main_arg2 main_v9
  let main_v11 : FVec F S3x12x128 .f32 := Host.absf main_arg3
  let main_cst_4 : FVec F S_ .f32 := constant S_ .f32 0x57800000#32
  let main_v12 : FVec F S3x12x128 .f32 := broadcastInDim S3x12x128 ![] bcast_S_S3x12x128 main_cst_4
  let main_v13 : IVec S3x12x128 1 := cmpf .ole main_v11 main_v12
  let main_cst_5 : FVec F S_ .f32 := constant S_ .f32 0x00000000#32
  let main_v14 : FVec F S3x12x128 .f32 := broadcastInDim S3x12x128 ![] bcast_S_S3x12x128 main_cst_5
  let main_v15 : IVec S3x12x128 1 := cmpf .oge main_arg4 main_v14
  let main_cst_6 : FVec F S_ .f32 := constant S_ .f32 0x7F800000#32
  fn_part1 (F := F) main_arg4 main_arg5 main_arg6 main_v2 main_v4 main_v6 main_v8 main_v10 main_v13 main_v15 main_cst_6
-- ==== Pre_finite_inputs.lean ====
abbrev S12x128x6912 : Shape := ⟨3, ![12, 128, 6912]⟩
abbrev S12x128x54 : Shape := ⟨3, ![12, 128, 54]⟩
abbrev S3 : Shape := ⟨1, ![3]⟩
abbrev S3x12x128 : Shape := ⟨3, ![3, 12, 128]⟩
abbrev S6912 : Shape := ⟨1, ![6912]⟩
abbrev S_ : Shape := ⟨0, ![]⟩

class Facts : Prop where
  bcast_S_S12x128x6912 : S_.BroadcastsInDim S12x128x6912 (![] : Fin 0 → Fin S12x128x6912.rank)
  bcast_S_S12x128x54 : S_.BroadcastsInDim S12x128x54 (![] : Fin 0 → Fin S12x128x54.rank)

variable [Facts]

def fn {F : FTy → Type} [FloatOps F] (main_arg0 : FVec F S12x128x6912 .f32) (main_arg1 : FVec F S12x128x54 .f32) (main_arg2 : FVec F S3 .f32) (main_arg3 : FVec F S3x12x128 .f32) (main_arg4 : FVec F S3x12x128 .f32) (main_arg5 : FVec F S6912 .f32) (main_arg6 : FVec F S6912 .f32) : IVec S12x128x6912 1 × IVec S12x128x54 1 :=
  let main_v0 : FVec F S12x128x6912 .f32 := Host.absf main_arg0
  let main_cst : FVec F S_ .f32 := constant S_ .f32 0x7F800000#32
  let main_v1 : FVec F S12x128x6912 .f32 := broadcastInDim S12x128x6912 ![] bcast_S_S12x128x6912 main_cst
  let main_v2 : IVec S12x128x6912 1 := cmpf .olt main_v0 main_v1
  let main_v3 : FVec F S12x128x54 .f32 := Host.absf main_arg1
  let main_cst_0 : FVec F S_ .f32 := constant S_ .f32 0x7F800000#32
  let main_v4 : FVec F S12x128x54 .f32 := broadcastInDim S12x128x54 ![] bcast_S_S12x128x54 main_cst_0
  let main_v5 : IVec S12x128x54 1 := cmpf .olt main_v3 main_v4
  (main_v2, main_v5)
-- ==== Kernel.lean ====
abbrev S12x128x6912 : Shape := ⟨3, ![12, 128, 6912]⟩
abbrev S12x128x54 : Shape := ⟨3, ![12, 128, 54]⟩
abbrev S3 : Shape := ⟨1, ![3]⟩
abbrev S3x12x128 : Shape := ⟨3, ![3, 12, 128]⟩
abbrev S6912 : Shape := ⟨1, ![6912]⟩
abbrev S1536x6912 : Shape := ⟨2, ![1536, 6912]⟩
abbrev S1536x54 : Shape := ⟨2, ![1536, 54]⟩
abbrev S1x6912 : Shape := ⟨2, ![1, 6912]⟩
abbrev S12x128 : Shape := ⟨2, ![12, 128]⟩
abbrev S3x54x512x128 : Shape := ⟨4, ![3, 54, 512, 128]⟩
abbrev S54x512x128 : Shape := ⟨3, ![54, 512, 128]⟩
abbrev S3x432x128 : Shape := ⟨3, ![3, 432, 128]⟩
abbrev S128x54 : Shape := ⟨2, ![128, 54]⟩
abbrev S54x128 : Shape := ⟨2, ![54, 128]⟩
abbrev S1x54x128 : Shape := ⟨3, ![1, 54, 128]⟩
abbrev S512x128 : Shape := ⟨2, ![512, 128]⟩
abbrev S8x512 : Shape := ⟨2, ![8, 512]⟩
abbrev S8x128 : Shape := ⟨2, ![8, 128]⟩
abbrev S128x4x128 : Shape := ⟨3, ![128, 4, 128]⟩
abbrev S1x1x512x128 : Shape := ⟨4, ![1, 1, 512, 128]⟩
abbrev S1x8x128 : Shape := ⟨3, ![1, 8, 128]⟩
abbrev S1x128 : Shape := ⟨2, ![1, 128]⟩
abbrev S128x128 : Shape := ⟨2, ![128, 128]⟩
abbrev S1x512x128 : Shape := ⟨3, ![1, 512, 128]⟩
abbrev S1x12x128 : Shape := ⟨3, ![1, 12, 128]⟩
abbrev S4x128 : Shape := ⟨2, ![4, 128]⟩
abbrev S128 : Shape := ⟨1, ![128]⟩
abbrev S1x432x128 : Shape := ⟨3, ![1, 432, 128]⟩
abbrev S432x128 : Shape := ⟨2, ![432, 128]⟩
abbrev S54x8x128 : Shape := ⟨3, ![54, 8, 128]⟩
abbrev S1 : Shape := ⟨1, ![1]⟩
abbrev S128x512 : Shape := ⟨2, ![128, 512]⟩
abbrev S512x512 : Shape := ⟨2, ![512, 512]⟩
abbrev S64x8x128 : Shape := ⟨3, ![64, 8, 128]⟩

abbrev nBuf : Space → Nat
  | .hbm => 16
  | .vmem => 16
  | .smem => 1
  | _ => 0

abbrev bufTy : (tb : Table) → Fin (tcTables nBuf tb) → BufTy
  | .hbm, ⟨0, _⟩ => ⟨S12x128x6912, .f32⟩
  | .hbm, ⟨1, _⟩ => ⟨S12x128x54, .f32⟩
  | .hbm, ⟨2, _⟩ => ⟨S3, .f32⟩
  | .hbm, ⟨3, _⟩ => ⟨S3x12x128, .f32⟩
  | .hbm, ⟨4, _⟩ => ⟨S3x12x128, .f32⟩
  | .hbm, ⟨5, _⟩ => ⟨S6912, .f32⟩
  | .hbm, ⟨6, _⟩ => ⟨S6912, .f32⟩
  | .hbm, ⟨7, _⟩ => ⟨S12x128x6912, .fp8e4m3⟩
  | .hbm, ⟨8, _⟩ => ⟨S1536x6912, .fp8e4m3⟩
  | .hbm, ⟨9, _⟩ => ⟨S1536x54, .f32⟩
  | .hbm, ⟨10, _⟩ => ⟨S1x6912, .f32⟩
  | .hbm, ⟨11, _⟩ => ⟨S1x6912, .f32⟩
  | .hbm, ⟨12, _⟩ => ⟨S1536x6912, .fp8e4m3⟩
  | .hbm, ⟨13, _⟩ => ⟨S1536x54, .f32⟩
  | .hbm, ⟨14, _⟩ => ⟨S12x128, .f32⟩
  | .hbm, ⟨15, _⟩ => ⟨S12x128, .f32⟩
  | .local _ .vmem, ⟨0, _⟩ => ⟨S1536x6912, .fp8e4m3⟩
  | .local _ .vmem, ⟨1, _⟩ => ⟨S1536x54, .f32⟩
  | .local _ .vmem, ⟨2, _⟩ => ⟨S3x12x128, .f32⟩
  | .local _ .vmem, ⟨3, _⟩ => ⟨S3x12x128, .f32⟩
  | .local _ .vmem, ⟨4, _⟩ => ⟨S1x6912, .f32⟩
  | .local _ .vmem, ⟨5, _⟩ => ⟨S1x6912, .f32⟩
  | .local _ .vmem, ⟨6, _⟩ => ⟨S1536x6912, .fp8e4m3⟩
  | .local _ .vmem, ⟨7, _⟩ => ⟨S1536x54, .f32⟩
  | .local _ .vmem, ⟨8, _⟩ => ⟨S12x128, .f32⟩
  | .local _ .vmem, ⟨9, _⟩ => ⟨S12x128, .f32⟩
  | .local _ .vmem, ⟨10, _⟩ => ⟨S3x54x512x128, .fp8e4m3⟩
  | .local _ .vmem, ⟨11, _⟩ => ⟨S54x512x128, .bf16⟩
  | .local _ .vmem, ⟨12, _⟩ => ⟨S3x432x128, .f32⟩
  | .local _ .vmem, ⟨13, _⟩ => ⟨S3x432x128, .f32⟩
  | .local _ .vmem, ⟨14, _⟩ => ⟨S3x432x128, .f32⟩
  | .local _ .vmem, ⟨15, _⟩ => ⟨S3x432x128, .f32⟩
  | .local _ .smem, ⟨0, _⟩ => ⟨S3, .f32⟩
  | _, _ => ⟨S12x128x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [BitOps F]

abbrev grid0 : Pipeline.Grid := .none

@[reducible] def k0_t1_loop : Scf.Loop 32 :=
  let c0_i32_113 : BitVec 32 := 0#32
  let c54_i32 : BitVec 32 := 54#32
  let v217 : BitVec 32 := Scalar.addi c0_i32_113 c54_i32
  let c1_i32_114 : BitVec 32 := 1#32
  ⟨c0_i32_113, v217, c1_i32_114⟩
def k0_mult1 (k0_t1 : Fin k0_t1_loop.trips) : BitVec 32 :=
  let c0_i32_113 : BitVec 32 := 0#32
  let c1_i32_114 : BitVec 32 := 1#32
  let arg17 : BitVec 32 := Scf.iv c0_i32_113 c1_i32_114 k0_t1
  let c128_i32 : BitVec 32 := 128#32
  let v3570 : BitVec 32 := Scalar.muli arg17 c128_i32
  v3570
def k0_mult2 (k0_t1 : Fin k0_t1_loop.trips) : BitVec 32 :=
  let c0_i32_113 : BitVec 32 := 0#32
  let c1_i32_114 : BitVec 32 := 1#32
  let arg17 : BitVec 32 := Scf.iv c0_i32_113 c1_i32_114 k0_t1
  let c8_i32 : BitVec 32 := 8#32
  let v3572 : BitVec 32 := Scalar.muli arg17 c8_i32
  v3572
def k0_off1 (k0_t1 : Fin k0_t1_loop.trips) : Fin 2 → Nat :=
  let c0_1342 : Index := 0#32
  let c0_i32_113 : BitVec 32 := 0#32
  let c1_i32_114 : BitVec 32 := 1#32
  let arg17 : BitVec 32 := Scf.iv c0_i32_113 c1_i32_114 k0_t1
  let c128_i32 : BitVec 32 := 128#32
  let v3570 : BitVec 32 := Scalar.muli arg17 c128_i32
  let v3571 : BitVec 32 := v3570
  let v3574 : Index := Scalar.indexCast v3571
  ![0, v3574.toNat]
def k0_off2 (k0_t1 : Fin k0_t1_loop.trips) : Fin 4 → Nat :=
  let c0_1343 : Index := 0#32
  let c0_i32_113 : BitVec 32 := 0#32
  let c1_i32_114 : BitVec 32 := 1#32
  let arg17 : BitVec 32 := Scf.iv c0_i32_113 c1_i32_114 k0_t1
  let v3580 : Index := Scalar.indexCast arg17
  let c0_1344 : Index := 0#32
  let c0_1345 : Index := 0#32
  ![0, v3580.toNat, 0, 0]
def k0_off3 (k0_t1 : Fin k0_t1_loop.trips) : Fin 3 → Nat :=
  let c0_1347 : Index := 0#32
  let c0_i32_113 : BitVec 32 := 0#32
  let c1_i32_114 : BitVec 32 := 1#32
  let arg17 : BitVec 32 := Scf.iv c0_i32_113 c1_i32_114 k0_t1
  let c8_i32 : BitVec 32 := 8#32
  let v3572 : BitVec 32 := Scalar.muli arg17 c8_i32
  let v3573 : BitVec 32 := v3572
  let v3586 : Index := Scalar.indexCast v3573
  let c0_1348 : Index := 0#32
  ![0, v3586.toNat, 0]
def k0_off4 (k0_t1 : Fin k0_t1_loop.trips) : Fin 2 → Nat :=
  let c512_1352 : Index := 512#32
  let c0_i32_113 : BitVec 32 := 0#32
  let c1_i32_114 : BitVec 32 := 1#32
  let arg17 : BitVec 32 := Scf.iv c0_i32_113 c1_i32_114 k0_t1
  let c128_i32 : BitVec 32 := 128#32
  let v3570 : BitVec 32 := Scalar.muli arg17 c128_i32
  let v3571 : BitVec 32 := v3570
  let v3596 : Index := Scalar.indexCast v3571
  ![512, v3596.toNat]
def k0_off5 (k0_t1 : Fin k0_t1_loop.trips) : Fin 4 → Nat :=
  let c1_1353 : Index := 1#32
  let c0_i32_113 : BitVec 32 := 0#32
  let c1_i32_114 : BitVec 32 := 1#32
  let arg17 : BitVec 32 := Scf.iv c0_i32_113 c1_i32_114 k0_t1
  let v3602 : Index := Scalar.indexCast arg17
  let c0_1354 : Index := 0#32
  let c0_1355 : Index := 0#32
  ![1, v3602.toNat, 0, 0]
def k0_off6 (k0_t1 : Fin k0_t1_loop.trips) : Fin 3 → Nat :=
  let c1_1357 : Index := 1#32
  let c0_i32_113 : BitVec 32 := 0#32
  let c1_i32_114 : BitVec 32 := 1#32
  let arg17 : BitVec 32 := Scf.iv c0_i32_113 c1_i32_114 k0_t1
  let c8_i32 : BitVec 32 := 8#32
  let v3572 : BitVec 32 := Scalar.muli arg17 c8_i32
  let v3573 : BitVec 32 := v3572
  let v3608 : Index := Scalar.indexCast v3573
  let c0_1358 : Index := 0#32
  ![1, v3608.toNat, 0]
def k0_off7 (k0_t1 : Fin k0_t1_loop.trips) : Fin 2 → Nat :=
  let c1024_1362 : Index := 1024#32
  let c0_i32_113 : BitVec 32 := 0#32
  let c1_i32_114 : BitVec 32 := 1#32
  let arg17 : BitVec 32 := Scf.iv c0_i32_113 c1_i32_114 k0_t1
  let c128_i32 : BitVec 32 := 128#32
  let v3570 : BitVec 32 := Scalar.muli arg17 c128_i32
  let v3571 : BitVec 32 := v3570
  let v3618 : Index := Scalar.indexCast v3571
  ![1024, v3618.toNat]
def k0_off8 (k0_t1 : Fin k0_t1_loop.trips) : Fin 4 → Nat :=
  let c2_1363 : Index := 2#32
  let c0_i32_113 : BitVec 32 := 0#32
  let c1_i32_114 : BitVec 32 := 1#32
  let arg17 : BitVec 32 := Scf.iv c0_i32_113 c1_i32_114 k0_t1
  let v3624 : Index := Scalar.indexCast arg17
  let c0_1364 : Index := 0#32
  let c0_1365 : Index := 0#32
  ![2, v3624.toNat, 0, 0]
def k0_off9 (k0_t1 : Fin k0_t1_loop.trips) : Fin 3 → Nat :=
  let c2_1367 : Index := 2#32
  let c0_i32_113 : BitVec 32 := 0#32
  let c1_i32_114 : BitVec 32 := 1#32
  let arg17 : BitVec 32 := Scf.iv c0_i32_113 c1_i32_114 k0_t1
  let c8_i32 : BitVec 32 := 8#32
  let v3572 : BitVec 32 := Scalar.muli arg17 c8_i32
  let v3573 : BitVec 32 := v3572
  let v3630 : Index := Scalar.indexCast v3573
  let c0_1368 : Index := 0#32
  ![2, v3630.toNat, 0]
def k0_off10 (k0_t1 : Fin k0_t1_loop.trips) : Fin 2 → Nat :=
  let c0_1372 : Index := 0#32
  let c0_i32_113 : BitVec 32 := 0#32
  let c1_i32_114 : BitVec 32 := 1#32
  let arg17 : BitVec 32 := Scf.iv c0_i32_113 c1_i32_114 k0_t1
  let c128_i32 : BitVec 32 := 128#32
  let v3570 : BitVec 32 := Scalar.muli arg17 c128_i32
  let v3571 : BitVec 32 := v3570
  let v3640 : Index := Scalar.indexCast v3571
  ![0, v3640.toNat]
def k0_off11 (k0_t1 : Fin k0_t1_loop.trips) : Fin 3 → Nat :=
  let c0_i32_113 : BitVec 32 := 0#32
  let c1_i32_114 : BitVec 32 := 1#32
  let arg17 : BitVec 32 := Scf.iv c0_i32_113 c1_i32_114 k0_t1
  let v3688 : Index := Scalar.indexCast arg17
  let c0_1379 : Index := 0#32
  let c0_1380 : Index := 0#32
  ![v3688.toNat, 0, 0]
@[reducible] def k0_t2_loop : Scf.Loop 32 :=
  let c0_i32_1278 : BitVec 32 := 0#32
  let c54_i32_1279 : BitVec 32 := 54#32
  let v3521 : BitVec 32 := Scalar.addi c0_i32_1278 c54_i32_1279
  let c1_i32_1280 : BitVec 32 := 1#32
  ⟨c0_i32_1278, v3521, c1_i32_1280⟩
def k0_mult3 (k0_t2 : Fin k0_t2_loop.trips) : BitVec 32 :=
  let c0_i32_1278 : BitVec 32 := 0#32
  let c1_i32_1280 : BitVec 32 := 1#32
  let arg17 : BitVec 32 := Scf.iv c0_i32_1278 c1_i32_1280 k0_t2
  let c128_i32 : BitVec 32 := 128#32
  let v3570 : BitVec 32 := Scalar.muli arg17 c128_i32
  v3570
def k0_mult4 (k0_t2 : Fin k0_t2_loop.trips) : BitVec 32 :=
  let c0_i32_1278 : BitVec 32 := 0#32
  let c1_i32_1280 : BitVec 32 := 1#32
  let arg17 : BitVec 32 := Scf.iv c0_i32_1278 c1_i32_1280 k0_t2
  let c8_i32 : BitVec 32 := 8#32
  let v3572 : BitVec 32 := Scalar.muli arg17 c8_i32
  v3572
def k0_off12 (k0_t2 : Fin k0_t2_loop.trips) : Fin 3 → Nat :=
  let c0_1342 : Index := 0#32
  let c0_i32_1278 : BitVec 32 := 0#32
  let c1_i32_1280 : BitVec 32 := 1#32
  let arg17 : BitVec 32 := Scf.iv c0_i32_1278 c1_i32_1280 k0_t2
  let c8_i32 : BitVec 32 := 8#32
  let v3572 : BitVec 32 := Scalar.muli arg17 c8_i32
  let v3573 : BitVec 32 := v3572
  let v3574 : Index := Scalar.indexCast v3573
  let c0_1343 : Index := 0#32
  ![0, v3574.toNat, 0]
def k0_off13 (k0_t2 : Fin k0_t2_loop.trips) : Fin 3 → Nat :=
  let c1_1350 : Index := 1#32
  let c0_i32_1278 : BitVec 32 := 0#32
  let c1_i32_1280 : BitVec 32 := 1#32
  let arg17 : BitVec 32 := Scf.iv c0_i32_1278 c1_i32_1280 k0_t2
  let c8_i32 : BitVec 32 := 8#32
  let v3572 : BitVec 32 := Scalar.muli arg17 c8_i32
  let v3573 : BitVec 32 := v3572
  let v3607 : Index := Scalar.indexCast v3573
  let c0_1351 : Index := 0#32
  ![1, v3607.toNat, 0]
def k0_off14 (k0_t2 : Fin k0_t2_loop.trips) : Fin 3 → Nat :=
  let c2_1359 : Index := 2#32
  let c0_i32_1278 : BitVec 32 := 0#32
  let c1_i32_1280 : BitVec 32 := 1#32
  let arg17 : BitVec 32 := Scf.iv c0_i32_1278 c1_i32_1280 k0_t2
  let c8_i32 : BitVec 32 := 8#32
  let v3572 : BitVec 32 := Scalar.muli arg17 c8_i32
  let v3573 : BitVec 32 := v3572
  let v3640 : Index := Scalar.indexCast v3573
  let c0_1360 : Index := 0#32
  ![2, v3640.toNat, 0]
def k0_off15 (k0_t2 : Fin k0_t2_loop.trips) : Fin 3 → Nat :=
  let c0_i32_1278 : BitVec 32 := 0#32
  let c1_i32_1280 : BitVec 32 := 1#32
  let arg17 : BitVec 32 := Scf.iv c0_i32_1278 c1_i32_1280 k0_t2
  let v3674 : Index := Scalar.indexCast arg17
  let c0_1368 : Index := 0#32
  let c0_1369 : Index := 0#32
  ![v3674.toNat, 0, 0]
def k0_off16 (k0_t2 : Fin k0_t2_loop.trips) : Fin 4 → Nat :=
  let c0_1371 : Index := 0#32
  let c0_i32_1278 : BitVec 32 := 0#32
  let c1_i32_1280 : BitVec 32 := 1#32
  let arg17 : BitVec 32 := Scf.iv c0_i32_1278 c1_i32_1280 k0_t2
  let v3680 : Index := Scalar.indexCast arg17
  let c0_1372 : Index := 0#32
  let c0_1373 : Index := 0#32
  ![0, v3680.toNat, 0, 0]
def k0_off17 (k0_t2 : Fin k0_t2_loop.trips) : Fin 2 → Nat :=
  let c0_1386 : Index := 0#32
  let c0_i32_1278 : BitVec 32 := 0#32
  let c1_i32_1280 : BitVec 32 := 1#32
  let arg17 : BitVec 32 := Scf.iv c0_i32_1278 c1_i32_1280 k0_t2
  let c128_i32 : BitVec 32 := 128#32
  let v3570 : BitVec 32 := Scalar.muli arg17 c128_i32
  let v3571 : BitVec 32 := v3570
  let v3768 : Index := Scalar.indexCast v3571
  ![0, v3768.toNat]
def k0_off18 (k0_t2 : Fin k0_t2_loop.trips) : Fin 4 → Nat :=
  let c1_1387 : Index := 1#32
  let c0_i32_1278 : BitVec 32 := 0#32
  let c1_i32_1280 : BitVec 32 := 1#32
  let arg17 : BitVec 32 := Scf.iv c0_i32_1278 c1_i32_1280 k0_t2
  let v3770 : Index := Scalar.indexCast arg17
  let c0_1388 : Index := 0#32
  let c0_1389 : Index := 0#32
  ![1, v3770.toNat, 0, 0]
def k0_off19 (k0_t2 : Fin k0_t2_loop.trips) : Fin 2 → Nat :=
  let c512_1412 : Index := 512#32
  let c0_i32_1278 : BitVec 32 := 0#32
  let c1_i32_1280 : BitVec 32 := 1#32
  let arg17 : BitVec 32 := Scf.iv c0_i32_1278 c1_i32_1280 k0_t2
  let c128_i32 : BitVec 32 := 128#32
  let v3570 : BitVec 32 := Scalar.muli arg17 c128_i32
  let v3571 : BitVec 32 := v3570
  let v3858 : Index := Scalar.indexCast v3571
  ![512, v3858.toNat]
def k0_off20 (k0_t2 : Fin k0_t2_loop.trips) : Fin 4 → Nat :=
  let c2_1413 : Index := 2#32
  let c0_i32_1278 : BitVec 32 := 0#32
  let c1_i32_1280 : BitVec 32 := 1#32
  let arg17 : BitVec 32 := Scf.iv c0_i32_1278 c1_i32_1280 k0_t2
  let v3860 : Index := Scalar.indexCast arg17
  let c0_1414 : Index := 0#32
  let c0_1415 : Index := 0#32
  ![2, v3860.toNat, 0, 0]
def k0_off21 (k0_t2 : Fin k0_t2_loop.trips) : Fin 2 → Nat :=
  let c1024_1438 : Index := 1024#32
  let c0_i32_1278 : BitVec 32 := 0#32
  let c1_i32_1280 : BitVec 32 := 1#32
  let arg17 : BitVec 32 := Scf.iv c0_i32_1278 c1_i32_1280 k0_t2
  let c128_i32 : BitVec 32 := 128#32
  let v3570 : BitVec 32 := Scalar.muli arg17 c128_i32
  let v3571 : BitVec 32 := v3570
  let v3948 : Index := Scalar.indexCast v3571
  ![1024, v3948.toNat]
abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x54 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x6912 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6912 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x54 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F]
-- ==== ReferenceIdeal.lean ====
abbrev S12x128x6912 : Shape := ⟨3, ![12, 128, 6912]⟩
abbrev S12x128x54 : Shape := ⟨3, ![12, 128, 54]⟩
abbrev S3 : Shape := ⟨1, ![3]⟩
abbrev S3x12x128 : Shape := ⟨3, ![3, 12, 128]⟩
abbrev S6912 : Shape := ⟨1, ![6912]⟩
abbrev S12x128x54x128 : Shape := ⟨4, ![12, 128, 54, 128]⟩
abbrev S54x128 : Shape := ⟨2, ![54, 128]⟩
abbrev S1536x6912 : Shape := ⟨2, ![1536, 6912]⟩
abbrev S1536x54 : Shape := ⟨2, ![1536, 54]⟩
abbrev S12x128 : Shape := ⟨2, ![12, 128]⟩
abbrev S12x128x54x1 : Shape := ⟨4, ![12, 128, 54, 1]⟩
abbrev S12x128x1x1 : Shape := ⟨4, ![12, 128, 1, 1]⟩
abbrev S1 : Shape := ⟨1, ![1]⟩
abbrev S1x12x128 : Shape := ⟨3, ![1, 12, 128]⟩
abbrev S1x1x54x128 : Shape := ⟨4, ![1, 1, 54, 128]⟩

abbrev nBuf : Space → Nat
  | .hbm => 15
  | .vmem => 10
  | .smem => 1
  | _ => 0

abbrev bufTy : (tb : Table) → Fin (tcTables nBuf tb) → BufTy
  | .hbm, ⟨0, _⟩ => ⟨S12x128x6912, .f32⟩
  | .hbm, ⟨1, _⟩ => ⟨S12x128x54, .f32⟩
  | .hbm, ⟨2, _⟩ => ⟨S3, .f32⟩
  | .hbm, ⟨3, _⟩ => ⟨S3x12x128, .f32⟩
  | .hbm, ⟨4, _⟩ => ⟨S3x12x128, .f32⟩
  | .hbm, ⟨5, _⟩ => ⟨S6912, .f32⟩
  | .hbm, ⟨6, _⟩ => ⟨S6912, .f32⟩
  | .hbm, ⟨7, _⟩ => ⟨S12x128x6912, .fp8e4m3⟩
  | .hbm, ⟨8, _⟩ => ⟨S12x128x54x128, .fp8e4m3⟩
  | .hbm, ⟨9, _⟩ => ⟨S54x128, .f32⟩
  | .hbm, ⟨10, _⟩ => ⟨S54x128, .f32⟩
  | .hbm, ⟨11, _⟩ => ⟨S1536x6912, .fp8e4m3⟩
  | .hbm, ⟨12, _⟩ => ⟨S1536x54, .f32⟩
  | .hbm, ⟨13, _⟩ => ⟨S12x128, .f32⟩
  | .hbm, ⟨14, _⟩ => ⟨S12x128, .f32⟩
  | .local _ .vmem, ⟨0, _⟩ => ⟨S12x128x54x128, .fp8e4m3⟩
  | .local _ .vmem, ⟨1, _⟩ => ⟨S12x128x54, .f32⟩
  | .local _ .vmem, ⟨2, _⟩ => ⟨S3x12x128, .f32⟩
  | .local _ .vmem, ⟨3, _⟩ => ⟨S3x12x128, .f32⟩
  | .local _ .vmem, ⟨4, _⟩ => ⟨S54x128, .f32⟩
  | .local _ .vmem, ⟨5, _⟩ => ⟨S54x128, .f32⟩
  | .local _ .vmem, ⟨6, _⟩ => ⟨S1536x6912, .fp8e4m3⟩
  | .local _ .vmem, ⟨7, _⟩ => ⟨S1536x54, .f32⟩
  | .local _ .vmem, ⟨8, _⟩ => ⟨S12x128, .f32⟩
  | .local _ .vmem, ⟨9, _⟩ => ⟨S12x128, .f32⟩
  | .local _ .smem, ⟨0, _⟩ => ⟨S3, .f32⟩
  | _, _ => ⟨S12x128x6912, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x54x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x128x54 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S54x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S54x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6912 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x54 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelRun.lean ====
/- One run of the kernel body of `Kernel` on any staging buffers: it terminates and hands every
   buffer back; what the outputs and the scratch hold is not named here. -/
module

public import proofs.«01_k».proof.Proof.Gen.Kernel.Frame
public import proofs.«01_k».proof.Proof.Gen.Kernel.Loops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 0
abbrev ms0_1 (t : Fin cfg0.N) : Memref sig .tc .vmem S1536x6912 .fp8e4m3 := win0_1.stage (cfg0.slots t 1)
abbrev hs0_1 (t : Fin cfg0.N) : (ms0_1 t).IsWhole := hstage0_1 0
abbrev ms0_2 (t : Fin cfg0.N) : Memref sig .tc .vmem S1536x54 .f32 := win0_2.stage (cfg0.slots t 2)
abbrev hs0_2 (t : Fin cfg0.N) : (ms0_2 t).IsWhole := hstage0_2 0
abbrev ms0_3 (t : Fin cfg0.N) : Memref sig .tc .vmem S3x12x128 .f32 := win0_3.stage (cfg0.slots t 3)
abbrev hs0_3 (t : Fin cfg0.N) : (ms0_3 t).IsWhole := hstage0_3 0
abbrev ms0_4 (t : Fin cfg0.N) : Memref sig .tc .vmem S3x12x128 .f32 := win0_4.stage (cfg0.slots t 4)
abbrev hs0_4 (t : Fin cfg0.N) : (ms0_4 t).IsWhole := hstage0_4 0
abbrev ms0_5 (t : Fin cfg0.N) : Memref sig .tc .vmem S1x6912 .f32 := win0_5.stage (cfg0.slots t 5)
abbrev hs0_5 (t : Fin cfg0.N) : (ms0_5 t).IsWhole := hstage0_5 0
abbrev ms0_6 (t : Fin cfg0.N) : Memref sig .tc .vmem S1x6912 .f32 := win0_6.stage (cfg0.slots t 6)
abbrev hs0_6 (t : Fin cfg0.N) : (ms0_6 t).IsWhole := hstage0_6 0
abbrev ms0_7 (t : Fin cfg0.N) : Memref sig .tc .vmem S1536x6912 .fp8e4m3 := win0_7.stage (cfg0.slots t 7)
abbrev hs0_7 (t : Fin cfg0.N) : (ms0_7 t).IsWhole := hstage0_7 0
abbrev ms0_8 (t : Fin cfg0.N) : Memref sig .tc .vmem S1536x54 .f32 := win0_8.stage (cfg0.slots t 8)
abbrev hs0_8 (t : Fin cfg0.N) : (ms0_8 t).IsWhole := hstage0_8 0
abbrev ms0_9 (t : Fin cfg0.N) : Memref sig .tc .vmem S12x128 .f32 := win0_9.stage (cfg0.slots t 9)
abbrev hs0_9 (t : Fin cfg0.N) : (ms0_9 t).IsWhole := hstage0_9 0
abbrev ms0_10 (t : Fin cfg0.N) : Memref sig .tc .vmem S12x128 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S3x54x512x128 .fp8e4m3 := Memref.whole cc0_scratch0
abbrev scM0_1 : Memref sig .tc .vmem S54x512x128 .bf16 := Memref.whole cc0_scratch1
abbrev scM0_2 : Memref sig .tc .vmem S3x432x128 .f32 := Memref.whole cc0_scratch2
abbrev scM0_3 : Memref sig .tc .vmem S3x432x128 .f32 := Memref.whole cc0_scratch3
abbrev scM0_4 : Memref sig .tc .vmem S3x432x128 .f32 := Memref.whole cc0_scratch4
abbrev scM0_5 : Memref sig .tc .vmem S3x432x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 2084000 in set_option sl_exec.stridedRows true in
/-- The body's triple: on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs (Lib/Exec.lean). -/
theorem bodyRun (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
    (x0 : Vec F S3 .f32) (x1 : Vec F S1536x6912 .fp8e4m3) (x2 : Vec F S1536x54 .f32) (x3 : Vec F S3x12x128 .f32) (x4 : Vec F S3x12x128 .f32) (x5 : Vec F S1x6912 .f32) (x6 : Vec F S1x6912 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_layernorm_fp8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_layernorm_fp8_eq_skeleton]; unfold cc0_layernorm_fp8_skel
    simp only [k0_part93_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part94_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Kernel.Gen

end
-- ==== Proof.KernelFrame.lean ====
/- The frame of `Kernel`: from any memory, @main terminates, leaves its argument arrays as they were and
   ends with every semaphore counter at zero. -/
module

public import proofs.«01_k».proof.Proof.KernelRun

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of @main terminates with the input arrays as the region found them and every semaphore
    counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, its argument arrays end as they were launched, and every semaphore counter is zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
     )
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans ((A_eq m c 0).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.Kernel.Gen

end
-- ==== Proof.KernelIdealRun.lean ====
/- One run of the kernel body of `KernelIdeal` on any staging buffers: it terminates and hands every
   buffer back; what the outputs and the scratch hold is not named here. -/
module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 0
abbrev ms0_1 (t : Fin cfg0.N) : Memref sig .tc .vmem S1536x6912 .fp8e4m3 := win0_1.stage (cfg0.slots t 1)
abbrev hs0_1 (t : Fin cfg0.N) : (ms0_1 t).IsWhole := hstage0_1 0
abbrev ms0_2 (t : Fin cfg0.N) : Memref sig .tc .vmem S1536x54 .f32 := win0_2.stage (cfg0.slots t 2)
abbrev hs0_2 (t : Fin cfg0.N) : (ms0_2 t).IsWhole := hstage0_2 0
abbrev ms0_3 (t : Fin cfg0.N) : Memref sig .tc .vmem S3x12x128 .f32 := win0_3.stage (cfg0.slots t 3)
abbrev hs0_3 (t : Fin cfg0.N) : (ms0_3 t).IsWhole := hstage0_3 0
abbrev ms0_4 (t : Fin cfg0.N) : Memref sig .tc .vmem S3x12x128 .f32 := win0_4.stage (cfg0.slots t 4)
abbrev hs0_4 (t : Fin cfg0.N) : (ms0_4 t).IsWhole := hstage0_4 0
abbrev ms0_5 (t : Fin cfg0.N) : Memref sig .tc .vmem S1x6912 .f32 := win0_5.stage (cfg0.slots t 5)
abbrev hs0_5 (t : Fin cfg0.N) : (ms0_5 t).IsWhole := hstage0_5 0
abbrev ms0_6 (t : Fin cfg0.N) : Memref sig .tc .vmem S1x6912 .f32 := win0_6.stage (cfg0.slots t 6)
abbrev hs0_6 (t : Fin cfg0.N) : (ms0_6 t).IsWhole := hstage0_6 0
abbrev ms0_7 (t : Fin cfg0.N) : Memref sig .tc .vmem S1536x6912 .fp8e4m3 := win0_7.stage (cfg0.slots t 7)
abbrev hs0_7 (t : Fin cfg0.N) : (ms0_7 t).IsWhole := hstage0_7 0
abbrev ms0_8 (t : Fin cfg0.N) : Memref sig .tc .vmem S1536x54 .f32 := win0_8.stage (cfg0.slots t 8)
abbrev hs0_8 (t : Fin cfg0.N) : (ms0_8 t).IsWhole := hstage0_8 0
abbrev ms0_9 (t : Fin cfg0.N) : Memref sig .tc .vmem S12x128 .f32 := win0_9.stage (cfg0.slots t 9)
abbrev hs0_9 (t : Fin cfg0.N) : (ms0_9 t).IsWhole := hstage0_9 0
abbrev ms0_10 (t : Fin cfg0.N) : Memref sig .tc .vmem S12x128 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S3x54x512x128 .fp8e4m3 := Memref.whole cc0_scratch0
abbrev scM0_1 : Memref sig .tc .vmem S54x512x128 .bf16 := Memref.whole cc0_scratch1
abbrev scM0_2 : Memref sig .tc .vmem S3x432x128 .f32 := Memref.whole cc0_scratch2
abbrev scM0_3 : Memref sig .tc .vmem S3x432x128 .f32 := Memref.whole cc0_scratch3
abbrev scM0_4 : Memref sig .tc .vmem S3x432x128 .f32 := Memref.whole cc0_scratch4
abbrev scM0_5 : Memref sig .tc .vmem S3x432x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

-- (the run's proof term is large: checking it walks past the default budget)
set_option maxHeartbeats 2068000 in set_option sl_exec.stridedRows true in
/-- The body's triple: on whole staging memrefs — the inputs' at their contents,
    the FORGOTTEN outputs' (7, 8, 9, 10) at anything, handed back at some contents nothing names —
    the body runs to the continuation holding the inputs' as they were, the scratch at some contents: the printed functions are their skeletons (`Gen.*_eq_skeleton`),
    which `sl_exec` runs (Lib/Exec.lean). -/
theorem bodyRun (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
    (x0 : Vec F S3 .f32) (x1 : Vec F S1536x6912 .fp8e4m3) (x2 : Vec F S1536x54 .f32) (x3 : Vec F S3x12x128 .f32) (x4 : Vec F S3x12x128 .f32) (x5 : Vec F S1x6912 .f32) (x6 : Vec F S1x6912 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_layernorm_fp8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_layernorm_fp8_eq_skeleton]; unfold cc0_layernorm_fp8_skel
    simp only [k0_part93_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part94_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gen

end
-- ==== Proof.KernelIdealFrame.lean ====
/- The frame of `KernelIdeal`: from any memory, @main terminates, leaves its argument arrays as they were and
   ends with every semaphore counter at zero. -/
module

public import proofs.«01_k».proof.Proof.KernelIdealRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (7, 8, 9, 10): nothing reads what the kernel leaves in them, so nothing
    of it is named (Lib/Pipeline/Dat.lean `Dat.toRForget`). -/
def forgets0 : Fin 11 → Bool := fun w => w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of @main terminates with the input arrays as the region found them and every semaphore
    counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, its argument arrays end as they were launched, and every semaphore counter is zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
     )
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 0 rfl).trans ((A_eq m c 0).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ)

end Cert.KernelIdeal.Gen

end
-- ==== Proof.LnLoop.lean ====
/- The pieces the first loop writes, trip by trip: the rearranged codes, the spread weights, and the sums and the sums of
   squares over the 128 columns of the trip's block. -/
module

public import proofs.«01_k».proof.Proof.Gen.KernelIdeal.Loops
import all proofs.«01_k».proof.Proof.Gen.KernelIdeal.Loops

@[expose] public section

set_option maxRecDepth 16384

noncomputable section

namespace Cert.Ln

open Idealize.ShloMosaic Idealize.ShloMosaic.TcCoe
open Cert.KernelIdeal Cert.KernelIdeal.Gen

/-- What the trips before `n` list, the newest first. -/
def upto {α : Type} {T : Nat} (L : Fin T → List α) : Nat → List α
  | 0 => []
  | n + 1 => (if h : n < T then L ⟨n, h⟩ else []) ++ upto L n

theorem mem_upto {α : Type} {T : Nat} (L : Fin T → List α) (p : α) :
    ∀ n, p ∈ upto L n ↔ ∃ k : Fin T, k.val < n ∧ p ∈ L k
  | 0 => by simp [upto]
  | n + 1 => by
    rw [upto, List.mem_append, mem_upto L p n]
    constructor
    · rintro (h | ⟨k, hk, h⟩)
      · by_cases hn : n < T
        · rw [dif_pos hn] at h; exact ⟨⟨n, hn⟩, Nat.lt_succ_self n, h⟩
        · rw [dif_neg hn] at h; cases h
      · exact ⟨k, Nat.lt_succ_of_lt hk, h⟩
    · rintro ⟨k, hk, h⟩
      rcases Nat.lt_succ_iff_lt_or_eq.mp hk with hk | hk
      · exact Or.inr ⟨k, hk, h⟩
      · left
        have hn : n < T := hk ▸ k.isLt
        rw [dif_pos hn]
        have : (⟨n, hn⟩ : Fin T) = k := Fin.ext hk.symm
        rw [this]; exact h

theorem upto_succ {α : Type} {T : Nat} (L : Fin T → List α) (k : Fin T) : upto L (k.val + 1) = L k ++ upto L k.val := by
  rw [upto, dif_pos k.isLt]

variable {F : FTy → Type} [FloatOps F]

section Pieces
variable (arg1 : Memref sig .tc .vmem S1536x6912 .fp8e4m3) (X1 : arg1.view.ty.Contents (Elt F))
  (arg5 arg6 : Memref sig .tc .vmem S1x6912 .f32) (X5 : arg5.view.ty.Contents (Elt F)) (X6 : arg6.view.ty.Contents (Elt F))
  (fold : FVec F S8x512 .bf16) (rep : FVec F S512x128 .bf16) (res : IVec S512x128 1) (k : Fin k0_t1_loop.trips)

/-- Block `k` of the codes' columns, the rows of each group of 512. -/
def ld0 : Vec F S512x128 .fp8e4m3 :=
  View.readAt (Elt F) arg1.view (Rect.unit (s := S1536x6912) (k0_off1 k) S512x128.size (k0_off1_inb k)).toLoadRect X1
def ld1 : Vec F S512x128 .fp8e4m3 :=
  View.readAt (Elt F) arg1.view (Rect.unit (s := S1536x6912) (k0_off4 k) S512x128.size (k0_off4_inb k)).toLoadRect X1
def ld2 : Vec F S512x128 .fp8e4m3 :=
  View.readAt (Elt F) arg1.view (Rect.unit (s := S1536x6912) (k0_off7 k) S512x128.size (k0_off7_inb k)).toLoadRect X1

/-- The sums a trip stores. -/
def sumL : List (View.Piece (Elt F) S3x432x128 .f32) :=
  [⟨Rect.unit (k0_off9 k) S1x8x128.size (k0_off9_inb k), k0_pay6 fold (ld2 arg1 X1 k)⟩,
   ⟨Rect.unit (k0_off6 k) S1x8x128.size (k0_off6_inb k), k0_pay6 fold (ld1 arg1 X1 k)⟩,
   ⟨Rect.unit (k0_off3 k) S1x8x128.size (k0_off3_inb k), k0_pay6 fold (ld0 arg1 X1 k)⟩]

/-- The sums of squares a trip stores. -/
def sqL : List (View.Piece (Elt F) S3x432x128 .f32) :=
  [⟨Rect.unit (k0_off9 k) S1x8x128.size (k0_off9_inb k), k0_pay7 fold (ld2 arg1 X1 k)⟩,
   ⟨Rect.unit (k0_off6 k) S1x8x128.size (k0_off6_inb k), k0_pay7 fold (ld1 arg1 X1 k)⟩,
   ⟨Rect.unit (k0_off3 k) S1x8x128.size (k0_off3_inb k), k0_pay7 fold (ld0 arg1 X1 k)⟩]

/-- The rearranged codes a trip stores. -/
def xtL : List (View.Piece (Elt F) S3x54x512x128 .fp8e4m3) :=
  [⟨Rect.unit (k0_off8 k) S1x1x512x128.size (k0_off8_inb k), k0_pay4 (ld2 arg1 X1 k)⟩,
   ⟨Rect.unit (k0_off5 k) S1x1x512x128.size (k0_off5_inb k), k0_pay4 (ld1 arg1 X1 k)⟩,
   ⟨Rect.unit (k0_off2 k) S1x1x512x128.size (k0_off2_inb k), k0_pay4 (ld0 arg1 X1 k)⟩]

/-- The spread weights a trip stores. -/
def lhsL : List (View.Piece (Elt F) S54x512x128 .bf16) :=
  [⟨Rect.unit (k0_off11 k) S1x512x128.size (k0_off11_inb k), k0_pay104 rep res (trip_k0_t1.sl.r_2 arg5 X5 k) (trip_k0_t1.sl.r_3 arg5 X5 k)
      (View.readAt (Elt F) arg6.view (Rect.unit (s := S1x6912) (k0_off10 k) S1x128.size (k0_off10_inb k)).toLoadRect X6)⟩]

end Pieces

section Loop
variable (𝒱 : Variants) (c : Dev nD) (bd : Option 𝒱.V) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole) (v138 : FVec F S512x128 .bf16) (v173 : IVec S512x128 1) (v190 : IVec S8x512 32) (v195 : IVec S8x512 32) (v204 : IVec S8x512 1) (v206 : IVec S8x512 32) (X_arg1 : BufTy.Contents (Elt F) arg1.view.ty) (X_arg5 : BufTy.Contents (Elt F) arg5.view.ty) (X_arg6 : BufTy.Contents (Elt F) arg6.view.ty)

/-- One trip's four lists. -/
theorem trip_eq (k : Fin k0_t1_loop.trips) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v138 v173 v190 v195 v204 v206 X_arg1 X_arg5 X_arg6 k
      = (xtL arg1 X_arg1 k, lhsL arg5 arg6 X_arg5 X_arg6 v138 v173 k,
          sumL arg1 X_arg1 (k0_pay103 v190 v195 v204 v206) k, sqL arg1 X_arg1 (k0_pay103 v190 v195 v204 v206) k) := by
  unfold tripL_k0_t1 trip_k0_t1; rfl

/-- The lists after `n` trips. -/
theorem pb_eq : ∀ n, n ≤ k0_t1_loop.trips →
    pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v138 v173 v190 v195 v204 v206 X_arg1 X_arg5 X_arg6 n
      = (upto (xtL arg1 X_arg1) n, upto (lhsL arg5 arg6 X_arg5 X_arg6 v138 v173) n,
          upto (sumL arg1 X_arg1 (k0_pay103 v190 v195 v204 v206)) n, upto (sqL arg1 X_arg1 (k0_pay103 v190 v195 v204 v206)) n)
  | 0, _ => by rw [pb_k0_t1.eq_1]; rfl
  | n + 1, h => by
    have e := pb_k0_t1_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v138 v173 v190 v195 v204 v206 X_arg1 X_arg5 X_arg6 ⟨n, h⟩
    rw [trip_eq] at e
    have ih := pb_eq n (Nat.le_of_succ_le h)
    simp only at e
    rw [ih] at e
    rw [e]
    simp only [show n + 1 = (⟨n, h⟩ : Fin k0_t1_loop.trips).val + 1 from rfl, upto_succ]

end Loop

end Cert.Ln

end
-- ==== Proof.KernelIdealVals.lean ====
/- One run of the kernel body of `KernelIdeal` on any whole buffers with the contents of every one of them
   given: what the four outputs hold afterwards is read off the run. -/
module

public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in set_option sl_exec.stridedRows true in
/-- What the body leaves in its four outputs, from the contents of every buffer before it, with the body's triple:
    the run finds the four. -/
def kernelRun (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
    (x0 : Vec F S3 .f32) (x1 : Vec F S1536x6912 .fp8e4m3) (x2 : Vec F S1536x54 .f32) (x3 : Vec F S3x12x128 .f32) (x4 : Vec F S3x12x128 .f32) (x5 : Vec F S1x6912 .f32) (x6 : Vec F S1x6912 .f32)
    (d7 : Vec F S1536x6912 .fp8e4m3) (d8 : Vec F S1536x54 .f32) (d9 : Vec F S12x128 .f32) (d10 : Vec F S12x128 .f32) (d11 : Vec F S3x54x512x128 .fp8e4m3) (d12 : Vec F S54x512x128 .bf16) (d13 : Vec F S3x432x128 .f32) (d14 : Vec F S3x432x128 .f32) (d15 : Vec F S3x432x128 .f32) (d16 : Vec F S3x432x128 .f32) :
    Σ' (o7 : Vec F S1536x6912 .fp8e4m3) (o8 : Vec F S1536x54 .f32) (o9 : Vec F S12x128 .f32), { o10 : Vec F S12x128 .f32 //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare o7 ∗ owns (c : Thread nD τ) arg8 fullShare o8 ∗ owns (c : Thread nD τ) arg9 fullShare o9 ∗ owns (c : Thread nD τ) arg10 fullShare o10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_layernorm_fp8 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
    refine ⟨?_, ?_, ?_, ?_, fun E K => ?run⟩
    case run =>
      simp only [cc0_layernorm_fp8_eq_skeleton]; unfold cc0_layernorm_fp8_skel
      simp only [k0_part93_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part94_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
      obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
      sl_exec
      sl_step
      iapply Hk
      isplitl [H0]
      · iexists _; isplitr; · ipureintro; exact harg0.read_unread _
        iexact H0
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro; rfl
      isplitl [H8]
      · iexists _; isplitr; swap; · iexact H8
        ipureintro; rfl
      isplitl [H9]
      · iexists _; isplitr; swap; · iexact H9
        ipureintro; rfl
      isplitl [H10]
      · iexists _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      iexists _, _; isplitr; swap; · iexact H16
      ipureintro; rfl

end Cert.KernelIdeal.Gen

end
-- ==== Proof.LnOps.lean ====
/- The rearrangements between `(batch, position)` arrays and the word layout of the kernel, as towers of the printed
   operations: how the kernel spells `a mod d`, the one-hot selectors, `_to_words` and `_from_words`. -/
module

public import proofs.«01_k».proof.Proof.Gen.KernelIdeal.Skeleton
public import Idealize.ShloMosaic.Lib.Pointwise

@[expose] public section

noncomputable section

namespace Cert.Ln

open Idealize.ShloMosaic Idealize.ShloMosaic.TcCoe
open Cert.KernelIdeal Cert.KernelIdeal.Gen

/-- A word reduced modulo `d` as the host library spells it: the truncated remainder, moved up by the divisor where its sign
    differs from the divisor's. -/
def modV (S : Shape) (hb : S.Broadcasts S) (a : IVec S 32) (d : BitVec 32) : IVec S 32 :=
  let w := Scalar.select (Scalar.cmpi .eq d 0#32) 1#32 d
  let r := remsi a (broadcast S w)
  select (andi (xori (cmpi .slt r (broadcast S 0#32)) (broadcastTo S (broadcast S (Scalar.cmpi .slt w 0#32)) hb))
    (cmpi .ne r (broadcast S 0#32))) (addi r (broadcast S w)) r

/-- A word divided by `d` rounding down, as the host library spells it. -/
def divV (S : Shape) (a : IVec S 32) (d : BitVec 32) : IVec S 32 :=
  let q := divsi a (broadcast S d)
  let sg := subi (extui 32 (cmpi .sgt a (broadcast S 0#32)) natLt_1_32) (extui 32 (cmpi .slt a (broadcast S 0#32)) natLt_1_32)
  let sd := Scalar.subi (Scalar.extui (Scalar.cmpi .sgt d 0#32)) (Scalar.extui (Scalar.cmpi .slt d 0#32))
  select (andi (cmpi .ne sg (broadcast S sd)) (cmpi .ne (remsi a (broadcast S d)) (broadcast S 0#32)))
    (subi q (broadcast S 1#32)) q

variable {F : FTy → Type} [FloatOps F]

/-- The one-hot selector of the positions `4 (l mod 32) + j`. -/
def selOp (j : BitVec 32) : FVec F S128x128 .f32 :=
  select (cmpi .eq (iota .tc S128x128 32 [0] iota_S128x128_d0_w32)
      (addi (muli (broadcast S128x128 4#32) (modV S128x128 broadcasts_S128x128_S128x128 (iota .tc S128x128 32 [1] iota_S128x128_d1_w32) 32#32))
        (broadcast S128x128 j)))
    (broadcast S128x128 (Scalar.ofBits .f32 0x3F800000#32)) (broadcast S128x128 (Scalar.ofBits .f32 0x00000000#32))

/-- The batches a lane takes part in: `b mod 4 = l / 32`. -/
def keepOp : IVec S12x128 1 :=
  cmpi .eq (modV S12x128 broadcasts_S12x128_S12x128 (iota .tc S12x128 32 [0] iota_S12x128_d0_w32) 4#32)
    (divV S12x128 (iota .tc S12x128 32 [1] iota_S12x128_d1_w32) 32#32)

/-- The array times the selector, kept where the batch belongs to the lane. -/
def perJ (v : FVec F S12x128 .f32) (j : BitVec 32) : FVec F S12x128 .f32 :=
  select keepOp (matmul dot_S12x128_S128x128_S12x128_1_0_0_1_n_n (some .fp32) v (selOp j) (constant S12x128 .f32 0x00000000#32))
    (broadcast S12x128 (Scalar.ofBits .f32 0x00000000#32))

/-- The sum over a group's four batches. -/
def rowSum (off : Fin 2 → Nat) (h : S12x128.Slices off S4x128) (o : FVec F S12x128 .f32) : FVec F S1x128 .f32 :=
  shapeCast S1x128 (multiReduction .add [0] S128 (extractStridedSlice S4x128 off o h) 0x00000000#32 reduces_S4x128_S128
    (.inl rfl) rfl) shapeCasts_S128_S1x128

/-- A row put in the sublanes of residue `j`. -/
def putRow (r : FVec F S8x128 .f32) (row : FVec F S1x128 .f32) (j : BitVec 32) : FVec F S8x128 .f32 :=
  select (cmpi .eq (modV S8x128 broadcasts_S8x128_S8x128 (iota .tc S8x128 32 [0] iota_S8x128_d0_w32) 4#32) (broadcast S8x128 j))
    (broadcastTo S8x128 (shapeCast S1x128 row shapeCasts_S1x128_S1x128) broadcasts_S1x128_S8x128) r

/-- One group's words of a `(batch, position)` array. -/
def toW (off : Fin 2 → Nat) (h : S12x128.Slices off S4x128) (v : FVec F S12x128 .f32) : FVec F S8x128 .f32 :=
  putRow (putRow (putRow (putRow (broadcast S8x128 (Scalar.ofBits .f32 0x00000000#32)) (rowSum off h (perJ v 0#32)) 0#32)
    (rowSum off h (perJ v 1#32)) 1#32) (rowSum off h (perJ v 2#32)) 2#32) (rowSum off h (perJ v 3#32)) 3#32

/-- One row of each group's words, each repeated over its group's four batches. -/
def rowsOf (off : Fin 2 → Nat) (h : S8x128.Slices off S1x128) (w0 w1 w2 : FVec F S8x128 .f32) : FVec F S12x128 .f32 :=
  concatenate S12x128 0
    [⟨S4x128, broadcastTo S4x128 (shapeCast S1x128 (extractStridedSlice S1x128 off w0 h) shapeCasts_S1x128_S1x128) broadcasts_S1x128_S4x128⟩,
     ⟨S4x128, broadcastTo S4x128 (shapeCast S1x128 (extractStridedSlice S1x128 off w1 h) shapeCasts_S1x128_S1x128) broadcasts_S1x128_S4x128⟩,
     ⟨S4x128, broadcastTo S4x128 (shapeCast S1x128 (extractStridedSlice S1x128 off w2 h) shapeCasts_S1x128_S1x128) broadcasts_S1x128_S4x128⟩]
    concatenates_S4x128_S4x128_S4x128_S12x128_d0

/-- The words' rows of residue `j` back at their positions. -/
def backJ (rows : FVec F S12x128 .f32) (j : BitVec 32) : FVec F S12x128 .f32 :=
  matmul dot_S12x128_S128x128_S12x128_1_1_0_0_n_n (some .fp32)
    (select keepOp rows (broadcast S12x128 (Scalar.ofBits .f32 0x00000000#32))) (selOp j) (constant S12x128 .f32 0x00000000#32)

/-- Three groups' words as a `(batch, position)` array. -/
def fromW (w0 w1 w2 : FVec F S8x128 .f32) : FVec F S12x128 .f32 :=
  addf (addf (addf (addf (broadcast S12x128 (Scalar.ofBits .f32 0x00000000#32))
    (backJ (rowsOf ![0, 0] slices_S8x128_o0_0_S1x128 w0 w1 w2) 0#32))
    (backJ (rowsOf ![1, 0] slices_S8x128_o1_0_S1x128 w0 w1 w2) 1#32))
    (backJ (rowsOf ![2, 0] slices_S8x128_o2_0_S1x128 w0 w1 w2) 2#32))
    (backJ (rowsOf ![3, 0] slices_S8x128_o3_0_S1x128 w0 w1 w2) 3#32)

end Cert.Ln

end
-- ==== Proof.LnWordsValue.lean ====
/- The rearrangements of `LnOps` read at an index over the reals: a word holds the array's element at its row, and the words
   put back are the array again. -/
module

public import proofs.«01_k».proof.Proof.LnOps

@[expose] public section

noncomputable section

namespace Cert.Ln

open Idealize.ShloMosaic Idealize.ShloMosaic.TcCoe
open Cert.KernelIdeal Cert.KernelIdeal.Gen

/-- A number below a power of two, equal as a word exactly when equal. -/
theorem word_eq_iff (a b : ℕ) (ha : a < 4096) (hb : b < 4096) : IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      rw [BitVec.toNat_ofNat, BitVec.toNat_ofNat] at this
      omega
    · rintro rfl; rfl
  by_cases h : a = b
  · subst h; simp [IntOp.cmpi]
  · have hne : ¬ (BitVec.ofNat 32 a = BitVec.ofNat 32 b) := fun e => h (this.1 e)
    rw [if_neg h]
    show BitVec.ofBool (BitVec.ofNat 32 a == BitVec.ofNat 32 b) = 0#1
    rw [beq_eq_false_iff_ne.2 hne]; rfl

theorem select_if {α : Type} (p : Prop) [Decidable p] (a b : α) :
    Scalar.select (if p then 1#1 else 0#1) a b = if p then a else b := by
  by_cases h : p <;> simp [h, Scalar.select]

theorem mod32_apply (r l : Fin 128) : modV S128x128 broadcasts_S128x128_S128x128 (iota .tc S128x128 32 [1] iota_S128x128_d1_w32) 32#32 (ix2 r l)
    = BitVec.ofNat 32 (l.val % 32) := by
  pointwise [modV]
  revert l
  decide

theorem mod8_apply (s : Fin 8) (l : Fin 128) : modV S8x128 broadcasts_S8x128_S8x128 (iota .tc S8x128 32 [0] iota_S8x128_d0_w32) 4#32 (ix2 s l)
    = BitVec.ofNat 32 (s.val % 4) := by
  pointwise [modV]
  revert s
  decide

theorem keepOp_apply (b : Fin 12) (l : Fin 128) : keepOp (ix2 b l) = if b.val % 4 = l.val / 32 then 1#1 else 0#1 := by
  pointwise [keepOp, modV, divV]
  revert b l
  decide +kernel

theorem selOp_apply (j : Fin 4) (r l : Fin 128) :
    selOp (F := Ideal) (BitVec.ofNat 32 j.val) (ix2 r l) = if r.val = 4 * (l.val % 32) + j.val then 1 else 0 := by
  pointwise [selOp]
  have e : IntOp.addi (IntOp.muli 4#32 (BitVec.ofNat 32 (l.val % 32))) (BitVec.ofNat 32 j.val) = BitVec.ofNat 32 (4 * (l.val % 32) + j.val) := by
    simp [IntOp.addi, IntOp.muli, BitVec.ofNat_add, BitVec.ofNat_mul]
  rw [mod32_apply, e, word_eq_iff _ _ (by omega) (by omega), select_if]

/-- A selected column: the array at position `4 (l mod 32) + j`, for the lane's batches. -/
theorem perJ_apply (v : FVec Ideal S12x128 .f32) (j : Fin 4) (b : Fin 12) (l : Fin 128) :
    perJ v (BitVec.ofNat 32 j.val) (ix2 b l)
      = if b.val % 4 = l.val / 32 then v (ix2 b ⟨4 * (l.val % 32) + j.val, by omega⟩) else 0 := by
  pointwise [perJ]
  rw [keepOp_apply, select_if]
  refine if_congr Iff.rfl ?_ rfl
  rw [Finset.sum_eq_single ⟨4 * (l.val % 32) + j.val, by omega⟩]
  · rw [selOp_apply, if_pos rfl, mul_one]
  · intro x _ hx
    rw [selOp_apply, if_neg (fun h => hx (Fin.ext h)), mul_zero]
  · simp

/-- The word layout of a per-row function: at group `g`, sublane `s` and lane `l` stands the row of batch `4 g + l / 32` and
    position `4 (l mod 32) + s mod 4`. -/
def word (f : Fin 12 → Fin 128 → EReal) (g : Fin 3) : FVec Ideal S8x128 .f32 := fun i =>
  f ⟨4 * g.val + (i 1).val / 32, by have := (i 1).isLt; have : (i 1).val < 128 := this; omega⟩
    ⟨4 * ((i 1).val % 32) + (i 0).val % 4, by omega⟩

theorem rowSum_perJ (o : Fin 2 → Nat) (h : S12x128.Slices o S4x128) (g : Fin 3) (ho : o = ![4 * g.val, 0])
    (v : FVec Ideal S12x128 .f32) (j : Fin 4) (l : Fin 128) :
    rowSum o h (perJ v (BitVec.ofNat 32 j.val)) (ix2 0 l)
      = v (ix2 ⟨4 * g.val + l.val / 32, by omega⟩ ⟨4 * (l.val % 32) + j.val, by omega⟩) := by
  subst ho
  pointwise [rowSum]
  rw [Finset.sum_eq_single ⟨l.val / 32, by omega⟩]
  · rw [perJ_apply, if_pos (by simp; omega)]
  · intro x _ hx
    rw [perJ_apply, if_neg]
    intro e; apply hx; apply Fin.ext
    have : x.val < 4 := x.isLt
    simp at e ⊢; omega
  · simp

theorem putRow_apply (v : FVec Ideal S8x128 .f32) (r : FVec Ideal S1x128 .f32) (j : Fin 4) (s : Fin 8) (l : Fin 128) :
    putRow v r (BitVec.ofNat 32 j.val) (ix2 s l) = if s.val % 4 = j.val then r (ix2 0 l) else v (ix2 s l) := by
  pointwise [putRow]
  rw [mod8_apply, word_eq_iff _ _ (by omega) (by omega), select_if]

/-- A group's words hold the array's elements at their rows. -/
theorem toW_eq (o : Fin 2 → Nat) (h : S12x128.Slices o S4x128) (g : Fin 3) (ho : o = ![4 * g.val, 0])
    (v : FVec Ideal S12x128 .f32) : toW o h v = word (fun b p => v (ix2 b p)) g := by
  funext i
  rw [eq_ix2 i]
  generalize i 0 = s, i 1 = l
  change Fin 8 at s; change Fin 128 at l
  have P := putRow_apply
  have R := rowSum_perJ o h g ho v
  unfold toW
  rw [show (0#32) = BitVec.ofNat 32 (0 : Fin 4).val from rfl, show (1#32) = BitVec.ofNat 32 (1 : Fin 4).val from rfl,
    show (2#32) = BitVec.ofNat 32 (2 : Fin 4).val from rfl, show (3#32) = BitVec.ofNat 32 (3 : Fin 4).val from rfl,
    P, P, P, P, R, R, R, R]
  show _ = v (ix2 ⟨4 * g.val + l.val / 32, _⟩ ⟨4 * (l.val % 32) + s.val % 4, _⟩)
  have hs : s.val % 4 = 0 ∨ s.val % 4 = 1 ∨ s.val % 4 = 2 ∨ s.val % 4 = 3 := by omega
  rcases hs with hs | hs | hs | hs <;> simp [hs]

theorem rowsOf_apply (j : Fin 4) (o : Fin 2 → Nat) (h : S8x128.Slices o S1x128) (ho : o = ![j.val, 0])
    (f : Fin 12 → Fin 128 → EReal) (b : Fin 12) (l : Fin 128) (hb : b.val % 4 = l.val / 32) :
    rowsOf o h (word f 0) (word f 1) (word f 2) (ix2 b l) = f b ⟨4 * (l.val % 32) + j.val, by omega⟩ := by
  subst ho
  pointwise [rowsOf, word]
  split_ifs with h1 h2 <;>
    · congr 1 <;> apply Fin.ext <;> simp <;> omega

theorem backJ_apply (j : Fin 4) (o : Fin 2 → Nat) (h : S8x128.Slices o S1x128) (ho : o = ![j.val, 0])
    (f : Fin 12 → Fin 128 → EReal) (b : Fin 12) (p : Fin 128) :
    backJ (rowsOf o h (word f 0) (word f 1) (word f 2)) (BitVec.ofNat 32 j.val) (ix2 b p) = if p.val % 4 = j.val then f b p else 0 := by
  pointwise [backJ]
  have T : ∀ x : Fin 128, Scalar.select (keepOp (ix2 b x))
      (rowsOf o h (word f 0) (word f 1) (word f 2) (ix2 b x) * selOp (F := Ideal) (BitVec.ofNat 32 j.val) (ix2 p x)) 0
        = if b.val % 4 = x.val / 32 ∧ p.val = 4 * (x.val % 32) + j.val then f b p else 0 := by
    intro x
    rw [keepOp_apply, select_if, selOp_apply]
    by_cases h1 : b.val % 4 = x.val / 32
    · rw [if_pos h1, rowsOf_apply j o h ho f b x h1]
      by_cases h2 : p.val = 4 * (x.val % 32) + j.val
      · rw [if_pos h2, if_pos ⟨h1, h2⟩, mul_one]; congr 1; exact Fin.ext h2.symm
      · rw [if_neg h2, if_neg (fun h => h2 h.2), mul_zero]
    · rw [if_neg h1, if_neg (fun h => h1 h.1)]
  rw [Finset.sum_congr rfl fun x _ => T x]
  by_cases hj : p.val % 4 = j.val
  · rw [if_pos hj, Finset.sum_eq_single ⟨32 * (b.val % 4) + p.val / 4, by omega⟩, if_pos]
    · simp; omega
    · intro x _ hx
      rw [if_neg]
      rintro ⟨h1, h2⟩
      apply hx; apply Fin.ext; simp; omega
    · simp
  · rw [if_neg hj]
    refine Finset.sum_eq_zero fun x _ => ?_
    rw [if_neg]
    rintro ⟨_, h2⟩; omega

/-- The three groups' words put back are the per-row array. -/
theorem fromW_word (f : Fin 12 → Fin 128 → EReal) :
    fromW (F := Ideal) (word f 0) (word f 1) (word f 2) = fun i => f (i 0) (i 1) := by
  funext i
  rw [eq_ix2 i]
  generalize i 0 = b, i 1 = p
  change Fin 12 at b; change Fin 128 at p
  unfold fromW
  pointwise
  rw [show (0#32) = BitVec.ofNat 32 (0 : Fin 4).val from rfl, show (1#32) = BitVec.ofNat 32 (1 : Fin 4).val from rfl,
    show (2#32) = BitVec.ofNat 32 (2 : Fin 4).val from rfl, show (3#32) = BitVec.ofNat 32 (3 : Fin 4).val from rfl,

    backJ_apply 0 ![0, 0] _ rfl, backJ_apply 1 ![1, 0] _ rfl, backJ_apply 2 ![2, 0] _ rfl, backJ_apply 3 ![3, 0] _ rfl]
  have hs : p.val % 4 = 0 ∨ p.val % 4 = 1 ∨ p.val % 4 = 2 ∨ p.val % 4 = 3 := by omega
  rcases hs with hs | hs | hs | hs <;> simp [hs]

end Cert.Ln

end
-- ==== Proof.LnMasks.lean ====
/- The kernel's three fixed 0/1 matrices: which word holds which column (`rep`), which rows share a residue (`residue`),
   and the folding matrix that sums the words of one residue (`fold`). -/
module

public import proofs.«01_k».proof.Proof.KernelIdealVals
public import proofs.«01_k».proof.Proof.LnWordsValue

@[expose] public section

set_option maxRecDepth 16384

noncomputable section

namespace Cert.Ln

open Idealize.ShloMosaic Idealize.ShloMosaic.TcCoe
open Cert.KernelIdeal Cert.KernelIdeal.Gen

section Ops
variable {F : FTy → Type} [FloatOps F]

/-- Whether sublane and word agree modulo 4, as a matrix of ones and zeros. -/
def foldOp : FVec F S8x512 .bf16 :=
  truncf .bf16 (select (cmpi .eq (modV S8x512 broadcasts_S8x512_S8x512 (iota .tc S8x512 32 [0] iota_S8x512_d0_w32) 4#32)
      (modV S8x512 broadcasts_S8x512_S8x512 (iota .tc S8x512 32 [1] iota_S8x512_d1_w32) 4#32))
    (broadcast S8x512 (Scalar.ofBits .f32 0x3F800000#32 : F .f32)) (broadcast S8x512 (Scalar.ofBits .f32 0x00000000#32 : F .f32))) bitsLt_bf16_f32

/-- Whether word and lane agree modulo 4. -/
def resOp : IVec S512x128 1 :=
  cmpi .eq (modV S512x128 broadcasts_S512x128_S512x128 (iota .tc S512x128 32 [0] iota_S512x128_d0_w32) 4#32)
      (modV S512x128 broadcasts_S512x128_S512x128 (iota .tc S512x128 32 [1] iota_S512x128_d1_w32) 4#32)

/-- Whether a word belongs to a column, as a matrix of ones and zeros. -/
def repOp : FVec F S512x128 .bf16 :=
  truncf .bf16 (select (cmpi .eq (divV S512x128 (iota .tc S512x128 32 [0] iota_S512x128_d0_w32) 4#32)
      (iota .tc S512x128 32 [1] iota_S512x128_d1_w32))
    (broadcast S512x128 (Scalar.ofBits .f32 0x3F800000#32 : F .f32)) (broadcast S512x128 (Scalar.ofBits .f32 0x00000000#32 : F .f32))) bitsLt_bf16_f32

theorem fold_eq : k0_pay103 (F := F) kernelRun.sl.v190 (remsi kernelRun.sl.v191 kernelRun.sl.v177)
    (andi kernelRun.sl.v203 kernelRun.sl.v197) kernelRun.sl.v206 = foldOp := rfl

theorem res_eq : cmpi .eq k0_pay96 kernelRun.sl.v172 = resOp := rfl

theorem rep_eq : kernelRun.sl.r_1 (F := F) = repOp := rfl

end Ops

theorem mod8w (s : Fin 8) (l : Fin 512) : modV S8x512 broadcasts_S8x512_S8x512 (iota .tc S8x512 32 [0] iota_S8x512_d0_w32) 4#32 (ix2 s l)
    = BitVec.ofNat 32 (s.val % 4) := by
  pointwise [modV]
  revert s
  decide

theorem mod512w (s : Fin 8) (l : Fin 512) : modV S8x512 broadcasts_S8x512_S8x512 (iota .tc S8x512 32 [1] iota_S8x512_d1_w32) 4#32 (ix2 s l)
    = BitVec.ofNat 32 (l.val % 4) := by
  pointwise [modV]
  revert l
  decide +kernel

theorem mod512r (k : Fin 512) (l : Fin 128) : modV S512x128 broadcasts_S512x128_S512x128 (iota .tc S512x128 32 [0] iota_S512x128_d0_w32) 4#32 (ix2 k l)
    = BitVec.ofNat 32 (k.val % 4) := by
  pointwise [modV]
  revert k
  decide +kernel

theorem mod128r (k : Fin 512) (l : Fin 128) : modV S512x128 broadcasts_S512x128_S512x128 (iota .tc S512x128 32 [1] iota_S512x128_d1_w32) 4#32 (ix2 k l)
    = BitVec.ofNat 32 (l.val % 4) := by
  pointwise [modV]
  revert l
  decide +kernel

theorem div512r (k : Fin 512) (l : Fin 128) : divV S512x128 (iota .tc S512x128 32 [0] iota_S512x128_d0_w32) 4#32 (ix2 k l)
    = BitVec.ofNat 32 (k.val / 4) := by
  pointwise [divV]
  revert k
  decide +kernel

theorem foldOp_apply (s : Fin 8) (r : Fin 512) : foldOp (F := Ideal) (ix2 s r) = if s.val % 4 = r.val % 4 then 1 else 0 := by
  pointwise [foldOp]
  rw [mod8w, mod512w, word_eq_iff _ _ (by omega) (by omega), select_if]

theorem repOp_apply (k : Fin 512) (i : Fin 128) : repOp (F := Ideal) (ix2 k i) = if k.val / 4 = i.val then 1 else 0 := by
  pointwise [repOp]
  rw [div512r, word_eq_iff _ _ (by omega) (by omega), select_if]

theorem resOp_apply (k : Fin 512) (l : Fin 128) : resOp (ix2 k l) = if k.val % 4 = l.val % 4 then 1#1 else 0#1 := by
  pointwise [resOp]
  rw [mod512r, mod128r, word_eq_iff _ _ (by omega) (by omega)]

/-- The codes of a group and block rearranged into words. -/
theorem pay5_apply (v : Vec Ideal S512x128 .fp8e4m3) (k : Fin 512) (l : Fin 128) :
    k0_pay5 (F := Ideal) v (ix2 k l) = v (ix2 ⟨4 * l.val + k.val % 4, by omega⟩ ⟨k.val / 4, by omega⟩) := by
  pointwise [k0_pay5, k0_pay3]
  simp only [Nat.mul_comm _ 4]

theorem pay4_apply (v : Vec Ideal S512x128 .fp8e4m3) (a b : Fin 1) (k : Fin 512) (l : Fin 128) :
    k0_pay4 (F := Ideal) v (ix4 a b k l) = v (ix2 ⟨4 * l.val + k.val % 4, by omega⟩ ⟨k.val / 4, by omega⟩) := by
  pointwise [k0_pay4, k0_pay3]
  simp only [Nat.mul_comm _ 4]

theorem pay6_apply (f : FVec Ideal S8x512 .bf16) (v : Vec Ideal S512x128 .fp8e4m3) (a : Fin 1) (s : Fin 8) (l : Fin 128) :
    k0_pay6 (F := Ideal) f v (ix3 a s l) = ∑ r : Fin 512, f (ix2 s r) * v (ix2 ⟨4 * l.val + r.val % 4, by omega⟩ ⟨r.val / 4, by omega⟩) := by
  pointwise [k0_pay6]
  simp only [pay5_apply]

theorem pay7_apply (f : FVec Ideal S8x512 .bf16) (v : Vec Ideal S512x128 .fp8e4m3) (a : Fin 1) (s : Fin 8) (l : Fin 128) :
    k0_pay7 (F := Ideal) f v (ix3 a s l) = ∑ r : Fin 512, f (ix2 s r) * (v (ix2 ⟨4 * l.val + r.val % 4, by omega⟩ ⟨r.val / 4, by omega⟩)
      * v (ix2 ⟨4 * l.val + r.val % 4, by omega⟩ ⟨r.val / 4, by omega⟩)) := by
  pointwise [k0_pay7]
  simp only [pay5_apply]

end Cert.Ln

end
-- ==== Proof.LnSums.lean ====
/- What the first loop leaves: in one scratch array the sums of each token's codes over every block of 128 columns, in
   another the sums of their squares, in a third the codes rearranged into words. -/
module

public import proofs.«01_k».proof.Proof.LnLoop
public import proofs.«01_k».proof.Proof.LnMasks
public import Idealize.ShloMosaic.Lib.WholeRead

@[expose] public section

set_option maxRecDepth 16384

noncomputable section

namespace Cert.Ln

open Idealize.ShloMosaic Idealize.ShloMosaic.TcCoe
open Cert.KernelIdeal Cert.KernelIdeal.Gen

theorem t1_trips : k0_t1_loop.trips = 54 := by decide +kernel

theorem trip_lt (k : Fin k0_t1_loop.trips) : k.val < 54 := k.isLt.trans_eq t1_trips

theorem off1_eq : ∀ k : Fin k0_t1_loop.trips, k0_off1 k = ![0, 128 * k.val] := by decide +kernel
theorem off4_eq : ∀ k : Fin k0_t1_loop.trips, k0_off4 k = ![512, 128 * k.val] := by decide +kernel
theorem off7_eq : ∀ k : Fin k0_t1_loop.trips, k0_off7 k = ![1024, 128 * k.val] := by decide +kernel
theorem off2_eq : ∀ k : Fin k0_t1_loop.trips, k0_off2 k = ![0, k.val, 0, 0] := by decide +kernel
theorem off5_eq : ∀ k : Fin k0_t1_loop.trips, k0_off5 k = ![1, k.val, 0, 0] := by decide +kernel
theorem off8_eq : ∀ k : Fin k0_t1_loop.trips, k0_off8 k = ![2, k.val, 0, 0] := by decide +kernel
theorem off3_eq : ∀ k : Fin k0_t1_loop.trips, k0_off3 k = ![0, 8 * k.val, 0] := by decide +kernel
theorem off6_eq : ∀ k : Fin k0_t1_loop.trips, k0_off6 k = ![1, 8 * k.val, 0] := by decide +kernel
theorem off9_eq : ∀ k : Fin k0_t1_loop.trips, k0_off9 k = ![2, 8 * k.val, 0] := by decide +kernel
theorem off10_eq : ∀ k : Fin k0_t1_loop.trips, k0_off10 k = ![0, 128 * k.val] := by decide +kernel
theorem off11_eq : ∀ k : Fin k0_t1_loop.trips, k0_off11 k = ![k.val, 0, 0] := by decide +kernel

/-- The words of one residue, summed: the 128 columns of a block. -/
theorem sum_residue (s : ℕ) (hs : s < 4) (h : ℕ → ℕ → EReal) :
    ∑ r : Fin 512, (if s = r.val % 4 then (1 : EReal) else 0) * h (r.val % 4) (r.val / 4) = ∑ i : Fin 128, h s i.val := by
  have e := (finProdFinEquiv (m := 128) (n := 4)).sum_comp
    (fun r => (if s = r.val % 4 then (1 : EReal) else 0) * h (r.val % 4) (r.val / 4))
  rw [← e, Fintype.sum_prod_type]
  refine Finset.sum_congr rfl fun i _ => ?_
  have hv : ∀ j : Fin 4, (finProdFinEquiv (m := 128) (n := 4) (i, j)).val = j.val + 4 * i.val := fun j => rfl
  simp only [hv]
  obtain ⟨t, ht⟩ : ∃ t : Fin 4, t.val = s := ⟨⟨s, hs⟩, rfl⟩
  rw [Finset.sum_eq_single t]
  · rw [if_pos (by omega), one_mul]
    congr 1 <;> omega
  · intro j _ hj
    rw [if_neg, zero_mul]
    intro hh
    apply hj
    apply Fin.ext
    have := j.isLt
    omega
  · intro hh; exact absurd (Finset.mem_univ _) hh

/-- The row of the token at sublane `r`, lane `l` of group `g`. -/
abbrev rowOf (g : Fin 3) (r : ℕ) (l : Fin 128) : Fin 1536 := ⟨512 * g.val + (4 * l.val + r % 4), by omega⟩

/-- The column of a block. -/
abbrev colOf (b : Fin 54) (i : Fin 128) : Fin 6912 := ⟨128 * b.val + i.val, by omega⟩

/-- The block of a sublane of the scratch arrays. -/
abbrev blkOf (r : Fin 432) : Fin 54 := ⟨r.val / 8, by omega⟩

/-- The sums over a block's columns, at every group, sublane and lane. -/
def sumG (f : EReal → EReal) (x1 : Vec Ideal S1536x6912 .fp8e4m3) : Vec Ideal S3x432x128 .f32 :=
  fun y => ∑ i : Fin 128, f (x1 (ix2 (rowOf (y 0) (y 1).val (y 2)) (colOf (blkOf (y 1)) i)))

section Reads
variable (arg1 : Memref sig .tc .vmem S1536x6912 .fp8e4m3) (harg1 : arg1.IsWhole) (x1 : Vec Ideal S1536x6912 .fp8e4m3)

theorem ld0_apply (k : Fin k0_t1_loop.trips) (a : Fin 512) (b : Fin 128) :
    ld0 (F := Ideal) arg1 (harg1.unread x1) k (ix2 a b)
      = x1 (ix2 ⟨512 * (0 : Fin 3).val + a.val, by simp; omega⟩ ⟨128 * k.val + b.val, by have := trip_lt k; omega⟩) := by
  refine (harg1.readAt_unread x1 _ _).trans (congrArg x1 ?_)
  rw [eq_ix2 (LoadRect.idx _ _)]
  congr 1 <;> apply Fin.ext <;> simp [LoadRect.idx_apply, off1_eq]

theorem ld1_apply (k : Fin k0_t1_loop.trips) (a : Fin 512) (b : Fin 128) :
    ld1 (F := Ideal) arg1 (harg1.unread x1) k (ix2 a b)
      = x1 (ix2 ⟨512 * (1 : Fin 3).val + a.val, by simp; omega⟩ ⟨128 * k.val + b.val, by have := trip_lt k; omega⟩) := by
  refine (harg1.readAt_unread x1 _ _).trans (congrArg x1 ?_)
  rw [eq_ix2 (LoadRect.idx _ _)]
  congr 1 <;> apply Fin.ext <;> simp [LoadRect.idx_apply, off4_eq]

theorem ld2_apply (k : Fin k0_t1_loop.trips) (a : Fin 512) (b : Fin 128) :
    ld2 (F := Ideal) arg1 (harg1.unread x1) k (ix2 a b)
      = x1 (ix2 ⟨512 * (2 : Fin 3).val + a.val, by simp; omega⟩ ⟨128 * k.val + b.val, by have := trip_lt k; omega⟩) := by
  refine (harg1.readAt_unread x1 _ _).trans (congrArg x1 ?_)
  rw [eq_ix2 (LoadRect.idx _ _)]
  congr 1 <;> apply Fin.ext <;> simp [LoadRect.idx_apply, off7_eq]

end Reads

/-- One group's sums, as a piece of the whole array. -/
theorem sum_piece (g : Fin 3) (k : Fin k0_t1_loop.trips) (v : Vec Ideal S512x128 .fp8e4m3) (x1 : Vec Ideal S1536x6912 .fp8e4m3)
    (hv : ∀ (a : Fin 512) (b : Fin 128), v (ix2 a b)
      = x1 (ix2 ⟨512 * g.val + a.val, by omega⟩ ⟨128 * k.val + b.val, by have := trip_lt k; omega⟩))
    (o : Fin 3 → ℕ) (ho : o = ![g.val, 8 * k.val, 0]) (hi : ∀ a, o a + S1x8x128.size a ≤ S3x432x128.size a)
    (f : EReal → EReal) (P : FVec Ideal S1x8x128 .f32)
    (hP : ∀ (a : Fin 1) (s : Fin 8) (l : Fin 128), P (ix3 a s l)
      = ∑ r : Fin 512, foldOp (F := Ideal) (ix2 s r) * f (v (ix2 ⟨4 * l.val + r.val % 4, by omega⟩ ⟨r.val / 4, by omega⟩)))
    (x : (Rect.unit (s := S3x432x128) o S1x8x128.size hi).shape.Idx) :
    P x = sumG f x1 ((Rect.unit (s := S3x432x128) o S1x8x128.size hi).emb x) := by
  have hk : k.val < 54 := trip_lt k
  subst ho
  have ex : x = ix3 (x 0) (x 1) (x 2) := eq_ix3 x
  rw [ex]
  generalize x 0 = a, x 1 = s, x 2 = l
  change Fin 1 at a; change Fin 8 at s; change Fin 128 at l
  have e : (Rect.unit (s := S3x432x128) ![g.val, 8 * k.val, 0] S1x8x128.size hi).emb (ix3 a s l)
      = ix3 g ⟨8 * k.val + s.val, by omega⟩ l := by
    funext d; apply Fin.ext
    rw [Rect.emb_apply]
    fin_cases d <;> simp
  refine (hP a s l).trans (Eq.trans ?_ (congrArg (sumG f x1) e).symm)
  show _ = ∑ i : Fin 128, f (x1 (ix2 (rowOf g (8 * k.val + s.val) l) (colOf ⟨(8 * k.val + s.val) / 8, by omega⟩ i)))
  have key := sum_residue (s.val % 4) (by omega) (fun j i => if h : j < 4 ∧ i < 128 then
    f (x1 (ix2 ⟨512 * g.val + (4 * l.val + j), by omega⟩ ⟨128 * k.val + i, by omega⟩)) else 0)
  refine Eq.trans ?_ (key.trans ?_)
  · refine Finset.sum_congr rfl fun r _ => ?_
    rw [foldOp_apply, dif_pos ⟨by omega, by omega⟩, hv]
  · refine Finset.sum_congr rfl fun i _ => ?_
    rw [dif_pos ⟨by omega, i.isLt⟩]
    congr 3 <;> apply Fin.ext <;> simp only [rowOf, colOf] <;> omega

section Contents
variable (arg1 : Memref sig .tc .vmem S1536x6912 .fp8e4m3) (harg1 : arg1.IsWhole) (x1 : Vec Ideal S1536x6912 .fp8e4m3)

theorem sumL_agrees (k : Fin k0_t1_loop.trips) (p) (hp : p ∈ sumL (F := Ideal) arg1 (harg1.unread x1) foldOp k) (x : p.1.shape.Idx) :
    p.2 x = sumG id x1 (p.1.emb x) := by
  simp only [sumL, List.mem_cons, List.not_mem_nil, or_false] at hp
  rcases hp with rfl | rfl | rfl
  · exact sum_piece 2 k _ x1 (ld2_apply arg1 harg1 x1 k) _ (off9_eq k) (k0_off9_inb k) id _ (pay6_apply foldOp _) x
  · exact sum_piece 1 k _ x1 (ld1_apply arg1 harg1 x1 k) _ (off6_eq k) (k0_off6_inb k) id _ (pay6_apply foldOp _) x
  · exact sum_piece 0 k _ x1 (ld0_apply arg1 harg1 x1 k) _ (off3_eq k) (k0_off3_inb k) id _ (pay6_apply foldOp _) x

theorem sqL_agrees (k : Fin k0_t1_loop.trips) (p) (hp : p ∈ sqL (F := Ideal) arg1 (harg1.unread x1) foldOp k) (x : p.1.shape.Idx) :
    p.2 x = sumG (fun a => a * a) x1 (p.1.emb x) := by
  simp only [sqL, List.mem_cons, List.not_mem_nil, or_false] at hp
  rcases hp with rfl | rfl | rfl
  · exact sum_piece 2 k _ x1 (ld2_apply arg1 harg1 x1 k) _ (off9_eq k) (k0_off9_inb k) (fun a => a * a) _ (pay7_apply foldOp _) x
  · exact sum_piece 1 k _ x1 (ld1_apply arg1 harg1 x1 k) _ (off6_eq k) (k0_off6_inb k) (fun a => a * a) _ (pay7_apply foldOp _) x
  · exact sum_piece 0 k _ x1 (ld0_apply arg1 harg1 x1 k) _ (off3_eq k) (k0_off3_inb k) (fun a => a * a) _ (pay7_apply foldOp _) x

/-- Every place of the arrays of sums lies in some trip's pieces. -/
theorem mem_group (y : S3x432x128.Idx) (g : Fin 3) (hg : y 0 = g) (o : Fin 3 → ℕ) (ho : o = ![g.val, 8 * ((y 1).val / 8), 0])
    (hi : ∀ a, o a + S1x8x128.size a ≤ S3x432x128.size a) : y ∈ (Rect.unit (s := S3x432x128) o S1x8x128.size hi).set := by
  subst ho
  refine Rect.mem_set_unit.mpr fun a => ?_
  have h2 := (y 2).isLt
  change (y 2).val < 128 at h2
  subst hg
  fin_cases a
  · simp
  · simp; omega
  · simp; omega

theorem trip_of (y : S3x432x128.Idx) : (y 1).val / 8 < k0_t1_loop.trips := by
  have h := (y 1).isLt
  change (y 1).val < 432 at h
  rw [t1_trips]; omega

theorem sumL_cover (f : FVec Ideal S8x512 .bf16) (X : arg1.view.ty.Contents (Elt Ideal)) (y : S3x432x128.Idx) :
    ∃ p ∈ sumL (F := Ideal) arg1 X f ⟨(y 1).val / 8, trip_of y⟩, y ∈ p.1.set := by
  have h3 : ∀ g : Fin 3, g = 0 ∨ g = 1 ∨ g = 2 := by decide
  rcases h3 (y 0) with h | h | h
  · exact ⟨_, List.mem_cons_of_mem _ (List.mem_cons_of_mem _ List.mem_cons_self), mem_group y 0 h _ (off3_eq _) (k0_off3_inb _)⟩
  · exact ⟨_, List.mem_cons_of_mem _ List.mem_cons_self, mem_group y 1 h _ (off6_eq _) (k0_off6_inb _)⟩
  · exact ⟨_, List.mem_cons_self, mem_group y 2 h _ (off9_eq _) (k0_off9_inb _)⟩

theorem sqL_cover (f : FVec Ideal S8x512 .bf16) (X : arg1.view.ty.Contents (Elt Ideal)) (y : S3x432x128.Idx) :
    ∃ p ∈ sqL (F := Ideal) arg1 X f ⟨(y 1).val / 8, trip_of y⟩, y ∈ p.1.set := by
  have h3 : ∀ g : Fin 3, g = 0 ∨ g = 1 ∨ g = 2 := by decide
  rcases h3 (y 0) with h | h | h
  · exact ⟨_, List.mem_cons_of_mem _ (List.mem_cons_of_mem _ List.mem_cons_self), mem_group y 0 h _ (off3_eq _) (k0_off3_inb _)⟩
  · exact ⟨_, List.mem_cons_of_mem _ List.mem_cons_self, mem_group y 1 h _ (off6_eq _) (k0_off6_inb _)⟩
  · exact ⟨_, List.mem_cons_self, mem_group y 2 h _ (off9_eq _) (k0_off9_inb _)⟩

variable (arg14 : Memref sig .tc .vmem S3x432x128 .f32) (f : arg14.view.ty.Contents (Elt Ideal))

/-- After the loop the array of sums reads the sums, whatever it held. -/
theorem sums_read (y : S3x432x128.Idx) :
    arg14.view.read (Elt Ideal) (arg14.view.writes (Elt Ideal) f (upto (sumL (F := Ideal) arg1 (harg1.unread x1) foldOp) k0_t1_loop.trips)) y
      = sumG id x1 y := by
  refine View.read_writes_apply_of_pieces _ _ _ _ (fun p hp x => ?_) y ?_
  · obtain ⟨k, _, hp⟩ := (mem_upto _ _ _).mp hp
    exact sumL_agrees arg1 harg1 x1 k p hp x
  · obtain ⟨p, hp, hy⟩ := sumL_cover arg1 foldOp (harg1.unread x1) y
    exact ⟨p, (mem_upto _ _ _).mpr ⟨_, trip_of y, hp⟩, hy⟩

theorem sqs_read (y : S3x432x128.Idx) :
    arg14.view.read (Elt Ideal) (arg14.view.writes (Elt Ideal) f (upto (sqL (F := Ideal) arg1 (harg1.unread x1) foldOp) k0_t1_loop.trips)) y
      = sumG (fun a => a * a) x1 y := by
  refine View.read_writes_apply_of_pieces _ _ _ _ (fun p hp x => ?_) y ?_
  · obtain ⟨k, _, hp⟩ := (mem_upto _ _ _).mp hp
    exact sqL_agrees arg1 harg1 x1 k p hp x
  · obtain ⟨p, hp, hy⟩ := sqL_cover arg1 foldOp (harg1.unread x1) y
    exact ⟨p, (mem_upto _ _ _).mpr ⟨_, trip_of y, hp⟩, hy⟩

end Contents

end Cert.Ln

end
-- ==== Proof.LnScales.lean ====
/- The scales rearranged into words: what the first stores of the kernel leave in their scratch array. -/
module

public import proofs.«01_k».proof.Proof.LnSums

@[expose] public section

set_option maxRecDepth 16384

noncomputable section

namespace Cert.Ln

open Idealize.ShloMosaic Idealize.ShloMosaic.TcCoe
open Cert.KernelIdeal Cert.KernelIdeal.Gen

/-- The sublanes of group `g` congruent to `j` modulo 8. -/
def scRect (g : Fin 3) (j : Fin 8) : Rect S3x432x128 where
  off := ![g.val, j.val, 0]
  size := S1x54x128.size
  stride := ![1, 8, 1]
  inb a := by right; fin_cases a <;> simp; omega
  stride_pos a := by fin_cases a <;> simp

/-- The rows of group `g` congruent to `j` modulo 4. -/
def xsRect (g : Fin 3) (j : Fin 4) : LoadRect S1536x54 where
  off := ![512 * g.val + j.val, 0]
  size := S128x54.size
  stride := ![4, 1]
  inb a := by right; fin_cases a <;> simp; omega

/-- The order in which the strips of scales are stored, the last first. -/
def scOrder : List (Fin 3 × Fin 8) :=
  [(2, 7), (2, 3), (2, 6), (2, 2), (2, 5), (2, 1), (2, 4), (2, 0), (1, 7), (1, 3), (1, 6), (1, 2), (1, 5), (1, 1), (1, 4), (1, 0),
    (0, 7), (0, 3), (0, 6), (0, 2), (0, 5), (0, 1), (0, 4), (0, 0)]

theorem mem_scOrder : ∀ p : Fin 3 × Fin 8, p ∈ scOrder := by decide

section Ops
variable {F : FTy → Type} [FloatOps F]

def scPay (v : Vec F S128x54 .f32) : FVec F S1x54x128 .f32 :=
  shapeCast S1x54x128 (transpose S54x128 [1, 0] (shapeCast S128x54 v shapeCasts_S128x54_S128x54) transposes_S128x54_p1_0_S54x128) shapeCasts_S54x128_S1x54x128

def scPiece (arg2 : Memref sig .tc .vmem S1536x54 .f32) (X : arg2.view.ty.Contents (Elt F)) (p : Fin 3 × Fin 8) :
    View.Piece (Elt F) S3x432x128 .f32 :=
  ⟨scRect p.1 p.2, scPay (View.readAt (Elt F) arg2.view (xsRect p.1 ⟨p.2.val % 4, by omega⟩) X)⟩

variable (c : Dev nD) (arg2 : Memref sig .tc .vmem S1536x54 .f32) (harg2 : arg2.IsWhole) (x2 : Vec F S1536x54 .f32)

theorem H13_eq : kernelRun.sl.H13_24 c arg2 harg2 x2 = scOrder.map (scPiece arg2 (harg2.unread x2)) := rfl

end Ops

theorem scPay_apply (v : Vec Ideal S128x54 .f32) (a : Fin 1) (b : Fin 54) (l : Fin 128) :
    scPay (F := Ideal) v (ix3 a b l) = v (ix2 l b) := by
  pointwise [scPay]

/-- The scale of each token and block, at every group, sublane and lane. -/
def scG (x2 : Vec Ideal S1536x54 .f32) : Vec Ideal S3x432x128 .f32 :=
  fun y => x2 (ix2 (rowOf (y 0) (y 1).val (y 2)) (blkOf (y 1)))

section Contents
variable (arg2 : Memref sig .tc .vmem S1536x54 .f32) (harg2 : arg2.IsWhole) (x2 : Vec Ideal S1536x54 .f32)

theorem scPiece_agrees (p : Fin 3 × Fin 8) (x : (scPiece (F := Ideal) arg2 (harg2.unread x2) p).1.shape.Idx) :
    (scPiece (F := Ideal) arg2 (harg2.unread x2) p).2 x = scG x2 ((scPiece (F := Ideal) arg2 (harg2.unread x2) p).1.emb x) := by
  obtain ⟨g, j⟩ := p
  have ex : x = ix3 (x 0) (x 1) (x 2) := eq_ix3 x
  rw [ex]
  generalize x 0 = a, x 1 = b, x 2 = l
  change Fin 1 at a; change Fin 54 at b; change Fin 128 at l
  have e : (scRect g j).emb (ix3 a b l) = ix3 g ⟨j.val + 8 * b.val, by omega⟩ l := by
    funext d; apply Fin.ext
    refine (Rect.emb_apply (scRect g j) (ix3 a b l) d).trans ?_
    fin_cases d <;> simp [scRect]
  show scPay (F := Ideal) (View.readAt (Elt Ideal) arg2.view (xsRect g ⟨j.val % 4, by omega⟩) (harg2.unread x2)) (ix3 a b l) = scG x2 ((scRect g j).emb (ix3 a b l))
  refine (scPay_apply _ a b l).trans (Eq.trans ?_ (congrArg (scG x2) e).symm)
  refine (harg2.readAt_unread x2 _ _).trans ?_
  show x2 _ = x2 (ix2 (rowOf g (j.val + 8 * b.val) l) ⟨(j.val + 8 * b.val) / 8, by omega⟩)
  refine congrArg x2 ?_
  funext d; apply Fin.ext
  refine (LoadRect.idx_apply (xsRect g ⟨j.val % 4, by omega⟩) (ix2 l b) d).trans ?_
  fin_cases d <;> simp [xsRect] <;> omega

theorem mem_scRect (y : S3x432x128.Idx) : y ∈ (scRect (y 0) ⟨(y 1).val % 8, by omega⟩).set := by
  have h1 := (y 1).isLt
  change (y 1).val < 432 at h1
  have h2 := (y 2).isLt
  change (y 2).val < 128 at h2
  refine (LoadRect.mem_set _).mpr fun a => ?_
  fin_cases a
  · exact ⟨0, by simp [scRect], by simp [scRect]⟩
  · exact ⟨(y 1).val / 8, by simp [scRect]; omega, by simp [scRect]; omega⟩
  · exact ⟨(y 2).val, h2, by simp [scRect]⟩

variable (c : Dev nD) (arg13 : Memref sig .tc .vmem S3x432x128 .f32) (f : arg13.view.ty.Contents (Elt Ideal))

/-- The scratch array of scales, read after those stores. -/
theorem sc_read (y : S3x432x128.Idx) :
    arg13.view.read (Elt Ideal) (arg13.view.writes (Elt Ideal) f (kernelRun.sl.H13_24 (F := Ideal) c arg2 harg2 x2)) y = scG x2 y := by
  rw [H13_eq]
  refine View.read_writes_apply_of_pieces _ _ _ _ (fun p hp x => ?_) y ?_
  · obtain ⟨q, _, rfl⟩ := List.mem_map.mp hp
    exact scPiece_agrees arg2 harg2 x2 q x
  · exact ⟨_, List.mem_map_of_mem (mem_scOrder (y 0, ⟨(y 1).val % 8, by omega⟩)), mem_scRect y⟩

end Contents

end Cert.Ln

end
-- ==== Proof.LnWords.lean ====
/- The kernel's named values of the section between its two loops, read as the rearrangements of `LnOps`: each peer
   array's words, and the two arrays the section stores. -/
module

public import proofs.«01_k».proof.Proof.KernelIdealVals
public import proofs.«01_k».proof.Proof.LnOps

@[expose] public section

set_option maxRecDepth 16384

noncomputable section

namespace Cert.Ln

open Idealize.ShloMosaic Idealize.ShloMosaic.TcCoe
open Cert.KernelIdeal Cert.KernelIdeal.Gen

variable {F : FTy → Type} [FloatOps F]

section Peers
variable (c : Dev nD) (arg3 : Memref sig .tc .vmem S3x12x128 .f32) (harg3 : arg3.IsWhole)
  (arg4 : Memref sig .tc .vmem S3x12x128 .f32) (harg4 : arg4.IsWhole) (x3 x4 : Vec F S3x12x128 .f32)

theorem r_13_eq : kernelRun.sl.r_13 c arg3 harg3 x3 = toW ![0, 0] slices_S12x128_o0_0_S4x128 (kernelRun.sl.r_2 c arg3 harg3 x3) := rfl
theorem r_18_eq : kernelRun.sl.r_18 c arg3 harg3 x3 = toW ![4, 0] slices_S12x128_o4_0_S4x128 (kernelRun.sl.r_2 c arg3 harg3 x3) := rfl
theorem r_23_eq : kernelRun.sl.r_23 c arg3 harg3 x3 = toW ![8, 0] slices_S12x128_o8_0_S4x128 (kernelRun.sl.r_2 c arg3 harg3 x3) := rfl
theorem r_36_eq : kernelRun.sl.r_36 c arg3 harg3 x3 = toW ![0, 0] slices_S12x128_o0_0_S4x128 (kernelRun.sl.r_24 c arg3 harg3 x3) := rfl
theorem r_41_eq : kernelRun.sl.r_41 c arg3 harg3 x3 = toW ![4, 0] slices_S12x128_o4_0_S4x128 (kernelRun.sl.r_24 c arg3 harg3 x3) := rfl
theorem r_45_eq : kernelRun.sl.r_45 c arg3 harg3 x3 = toW ![8, 0] slices_S12x128_o8_0_S4x128 (kernelRun.sl.r_24 c arg3 harg3 x3) := rfl
theorem r_58_eq : kernelRun.sl.r_58 c arg3 harg3 x3 = toW ![0, 0] slices_S12x128_o0_0_S4x128 (kernelRun.sl.r_46 c arg3 harg3 x3) := rfl
theorem r_62_eq : kernelRun.sl.r_62 c arg3 harg3 x3 = toW ![4, 0] slices_S12x128_o4_0_S4x128 (kernelRun.sl.r_46 c arg3 harg3 x3) := rfl
theorem r_66_eq : kernelRun.sl.r_66 c arg3 harg3 x3 = toW ![8, 0] slices_S12x128_o8_0_S4x128 (kernelRun.sl.r_46 c arg3 harg3 x3) := rfl
theorem r_78_eq : kernelRun.sl.r_78 c arg4 harg4 x4 = toW ![0, 0] slices_S12x128_o0_0_S4x128 (kernelRun.sl.r_67 c arg4 harg4 x4) := rfl
theorem r_82_eq : kernelRun.sl.r_82 c arg4 harg4 x4 = toW ![4, 0] slices_S12x128_o4_0_S4x128 (kernelRun.sl.r_67 c arg4 harg4 x4) := rfl
theorem r_86_eq : kernelRun.sl.r_86 c arg4 harg4 x4 = toW ![8, 0] slices_S12x128_o8_0_S4x128 (kernelRun.sl.r_67 c arg4 harg4 x4) := rfl
theorem r_97_eq : kernelRun.sl.r_97 c arg4 harg4 x4 = toW ![0, 0] slices_S12x128_o0_0_S4x128 (kernelRun.sl.r_87 c arg4 harg4 x4) := rfl
theorem r_101_eq : kernelRun.sl.r_101 c arg4 harg4 x4 = toW ![4, 0] slices_S12x128_o4_0_S4x128 (kernelRun.sl.r_87 c arg4 harg4 x4) := rfl
theorem r_106_eq : kernelRun.sl.r_106 c arg4 harg4 x4 = toW ![8, 0] slices_S12x128_o8_0_S4x128 (kernelRun.sl.r_87 c arg4 harg4 x4) := rfl
theorem r_117_eq : kernelRun.sl.r_117 c arg4 harg4 x4 = toW ![0, 0] slices_S12x128_o0_0_S4x128 (kernelRun.sl.r_107 c arg4 harg4 x4) := rfl
theorem r_122_eq : kernelRun.sl.r_122 c arg4 harg4 x4 = toW ![4, 0] slices_S12x128_o4_0_S4x128 (kernelRun.sl.r_107 c arg4 harg4 x4) := rfl
theorem r_127_eq : kernelRun.sl.r_127 c arg4 harg4 x4 = toW ![8, 0] slices_S12x128_o8_0_S4x128 (kernelRun.sl.r_107 c arg4 harg4 x4) := rfl

end Peers

section Outputs
variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
  (x0 : Vec F S3 .f32) (x1 : Vec F S1536x6912 .fp8e4m3) (x2 : Vec F S1536x54 .f32) (x3 : Vec F S3x12x128 .f32) (x4 : Vec F S3x12x128 .f32) (x5 : Vec F S1x6912 .f32) (x6 : Vec F S1x6912 .f32)
  (d7 : Vec F S1536x6912 .fp8e4m3) (d8 : Vec F S1536x54 .f32) (d9 : Vec F S12x128 .f32) (d10 : Vec F S12x128 .f32) (d11 : Vec F S3x54x512x128 .fp8e4m3) (d12 : Vec F S54x512x128 .bf16) (d13 : Vec F S3x432x128 .f32) (d14 : Vec F S3x432x128 .f32) (d15 : Vec F S3x432x128 .f32) (d16 : Vec F S3x432x128 .f32)

/-- The array of means is stored as the three groups' words put back. -/
theorem H9_eq : kernelRun.sl.H9_1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14
    = [⟨Rect.unit ![0, 0] S12x128.size inb_S12x128_S12x128_0_0, fromW (kernelRun.sl.r_133 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14)
        (kernelRun.sl.r_141 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14)
        (kernelRun.sl.r_146 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14)⟩] := rfl

/-- The array of reciprocal deviations likewise. -/
theorem H10_eq : kernelRun.sl.H10_1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15
    = [⟨Rect.unit ![0, 0] S12x128.size inb_S12x128_S12x128_0_0, fromW (kernelRun.sl.r_134 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15)
        (kernelRun.sl.r_142 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15)
        (kernelRun.sl.r_147 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15)⟩] := rfl

end Outputs

end Cert.Ln

end
-- ==== Proof.LnChan.lean ====
/- The merge of the ranks' statistics, for one position, as plain arithmetic. -/
module

public import Idealize.ShloMosaic.Lib.Pointwise

@[expose] public section

noncomputable section

namespace Cert.Ln

open Idealize.ShloMosaic

/-- The literals of the merge. -/
def width : EReal := Ideal.ofBits .f32 0x45D80000#32
def recip128 : EReal := Ideal.ofBits .f32 0x3C000000#32
def lit128 : EReal := Ideal.ofBits .f32 0x43000000#32
def eps : EReal := Ideal.ofBits .f32 0x3727C5AC#32

/-- Chan's merge of four means, the third of them over `width` columns. -/
def chanMean (n0 n1 n2 p0 p1 ml p2 : EReal) : EReal :=
  let m1 := p0 + (p1 - p0) * Ideal.div n1 (n0 + n1)
  let m2 := m1 + (ml - m1) * Ideal.div width (n0 + n1 + width)
  m2 + (p2 - m2) * Ideal.div n2 (n0 + n1 + width + n2)

/-- Chan's merge of four sums of squared deviations, divided by the count. -/
def chanVar (n0 n1 n2 p0 p1 ml p2 v0 v1 vl v2 : EReal) : EReal :=
  let m1 := p0 + (p1 - p0) * Ideal.div n1 (n0 + n1)
  let m2 := m1 + (ml - m1) * Ideal.div width (n0 + n1 + width)
  let w1 := v0 + v1 + (p1 - p0) * (p1 - p0) * Ideal.div (n0 * n1) (n0 + n1)
  let w2 := w1 + vl + (ml - m1) * (ml - m1) * Ideal.div ((n0 + n1) * width) (n0 + n1 + width)
  let w3 := w2 + v2 + (p2 - m2) * (p2 - m2) * Ideal.div ((n0 + n1 + width) * n2) (n0 + n1 + width + n2)
  Ideal.div w3 (n0 + n1 + width + n2)

/-- The kernel's own mean of the columns it holds. -/
def kMean (sc s : Fin 54 → EReal) : EReal := Ideal.div (∑ b, sc b * s b) width

/-- The kernel's own sum of squared deviations. -/
def kM2 (sc s q : Fin 54 → EReal) : EReal :=
  ∑ b, (sc b * sc b * (q b - s b * (s b * recip128))
    + lit128 * ((sc b * (s b * recip128) - kMean sc s) * (sc b * (s b * recip128) - kMean sc s)))

end Cert.Ln

end
-- ==== Proof.LnMerge.lean ====
/- The section between the two loops: each group's mean and reciprocal deviation, from the sums, the scales, the peers'
   words and counts. -/
module

public import proofs.«01_k».proof.Proof.LnScales
public import proofs.«01_k».proof.Proof.LnWords
public import proofs.«01_k».proof.Proof.LnChan

@[expose] public section

set_option maxRecDepth 16384

noncomputable section

namespace Cert.Ln

open Idealize.ShloMosaic Idealize.ShloMosaic.TcCoe
open Cert.KernelIdeal Cert.KernelIdeal.Gen

section Ops
variable {F : FTy → Type} [FloatOps F]

/-- A group's merged means. -/
def meanOp (sc s : Vec F S1x432x128 .f32) (p0 p1 p2 : FVec F S8x128 .f32) (n0 n1 n2 : Elt F .f32) : FVec F S8x128 .f32 :=
  k0_pay361 p0 p1 p2 (k0_pay347 sc s) n0 n1 n2

/-- A group's reciprocal deviations. -/
def rstdOp (sc s q : Vec F S1x432x128 .f32) (p0 p1 p2 v0 v1 v2 : FVec F S8x128 .f32) (n0 n1 n2 : Elt F .f32) : FVec F S8x128 .f32 :=
  k0_pay362 p0 p1 p2 v0 v1 v2 (k0_pay347 sc s) (k0_pay348 sc s q) n0 n1 n2

variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
  (x0 : Vec F S3 .f32) (x1 : Vec F S1536x6912 .fp8e4m3) (x2 : Vec F S1536x54 .f32) (x3 : Vec F S3x12x128 .f32) (x4 : Vec F S3x12x128 .f32) (x5 : Vec F S1x6912 .f32) (x6 : Vec F S1x6912 .f32)
  (d7 : Vec F S1536x6912 .fp8e4m3) (d8 : Vec F S1536x54 .f32) (d9 : Vec F S12x128 .f32) (d10 : Vec F S12x128 .f32) (d11 : Vec F S3x54x512x128 .fp8e4m3) (d12 : Vec F S54x512x128 .bf16) (d13 : Vec F S3x432x128 .f32) (d14 : Vec F S3x432x128 .f32) (d15 : Vec F S3x432x128 .f32) (d16 : Vec F S3x432x128 .f32)

theorem r_133_eq : kernelRun.sl.r_133 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14
    = meanOp (kernelRun.sl.v2900 c arg2 harg2 arg13 x2) (kernelRun.sl.v2903 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.r_13 c arg3 harg3 x3) (kernelRun.sl.r_36 c arg3 harg3 x3) (kernelRun.sl.r_58 c arg3 harg3 x3) (kernelRun.sl.r_130 c arg0 harg0 x0) (kernelRun.sl.r_131 c arg0 harg0 x0) (kernelRun.sl.r_132 c arg0 harg0 x0) := rfl
theorem r_134_eq : kernelRun.sl.r_134 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15
    = rstdOp (kernelRun.sl.v2900 c arg2 harg2 arg13 x2) (kernelRun.sl.v2903 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.v2906 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)
      (kernelRun.sl.r_13 c arg3 harg3 x3) (kernelRun.sl.r_36 c arg3 harg3 x3) (kernelRun.sl.r_58 c arg3 harg3 x3)
      (kernelRun.sl.r_78 c arg4 harg4 x4) (kernelRun.sl.r_97 c arg4 harg4 x4) (kernelRun.sl.r_117 c arg4 harg4 x4) (kernelRun.sl.r_130 c arg0 harg0 x0) (kernelRun.sl.r_131 c arg0 harg0 x0) (kernelRun.sl.r_132 c arg0 harg0 x0) := rfl

theorem r_141_eq : kernelRun.sl.r_141 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14
    = meanOp (kernelRun.sl.v2972 c arg2 harg2 arg13 x2) (kernelRun.sl.v2975 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.r_18 c arg3 harg3 x3) (kernelRun.sl.r_41 c arg3 harg3 x3) (kernelRun.sl.r_62 c arg3 harg3 x3) (kernelRun.sl.r_130 c arg0 harg0 x0) (kernelRun.sl.r_131 c arg0 harg0 x0) (kernelRun.sl.r_132 c arg0 harg0 x0) := rfl
theorem r_142_eq : kernelRun.sl.r_142 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15
    = rstdOp (kernelRun.sl.v2972 c arg2 harg2 arg13 x2) (kernelRun.sl.v2975 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.v2978 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)
      (kernelRun.sl.r_18 c arg3 harg3 x3) (kernelRun.sl.r_41 c arg3 harg3 x3) (kernelRun.sl.r_62 c arg3 harg3 x3)
      (kernelRun.sl.r_82 c arg4 harg4 x4) (kernelRun.sl.r_101 c arg4 harg4 x4) (kernelRun.sl.r_122 c arg4 harg4 x4) (kernelRun.sl.r_130 c arg0 harg0 x0) (kernelRun.sl.r_131 c arg0 harg0 x0) (kernelRun.sl.r_132 c arg0 harg0 x0) := rfl

theorem r_146_eq : kernelRun.sl.r_146 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14
    = meanOp (kernelRun.sl.v3044 c arg2 harg2 arg13 x2) (kernelRun.sl.v3047 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.r_23 c arg3 harg3 x3) (kernelRun.sl.r_45 c arg3 harg3 x3) (kernelRun.sl.r_66 c arg3 harg3 x3) (kernelRun.sl.r_130 c arg0 harg0 x0) (kernelRun.sl.r_131 c arg0 harg0 x0) (kernelRun.sl.r_132 c arg0 harg0 x0) := rfl
theorem r_147_eq : kernelRun.sl.r_147 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15
    = rstdOp (kernelRun.sl.v3044 c arg2 harg2 arg13 x2) (kernelRun.sl.v3047 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)
      (kernelRun.sl.v3050 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)
      (kernelRun.sl.r_23 c arg3 harg3 x3) (kernelRun.sl.r_45 c arg3 harg3 x3) (kernelRun.sl.r_66 c arg3 harg3 x3)
      (kernelRun.sl.r_86 c arg4 harg4 x4) (kernelRun.sl.r_106 c arg4 harg4 x4) (kernelRun.sl.r_127 c arg4 harg4 x4) (kernelRun.sl.r_130 c arg0 harg0 x0) (kernelRun.sl.r_131 c arg0 harg0 x0) (kernelRun.sl.r_132 c arg0 harg0 x0) := rfl

end Ops

/-- A scratch row: the sublane of block `b` at sublane `s`. -/
abbrev subOf (b : Fin 54) (s : Fin 8) : Fin 432 := ⟨8 * b.val + s.val, by omega⟩

theorem meanOp_apply (sc s : Vec Ideal S1x432x128 .f32) (p0 p1 p2 : FVec Ideal S8x128 .f32) (n0 n1 n2 : EReal) (i : Fin 8) (l : Fin 128) :
    meanOp (F := Ideal) sc s p0 p1 p2 n0 n1 n2 (ix2 i l)
      = chanMean n0 n1 n2 (p0 (ix2 i l)) (p1 (ix2 i l))
          (kMean (fun b => sc (ix3 0 (subOf b i) l)) (fun b => s (ix3 0 (subOf b i) l))) (p2 (ix2 i l)) := by
  pointwise [meanOp, k0_pay361, k0_pay347, k0_pay345, k0_pay346, k0_pay349, k0_pay350, k0_pay351, k0_pay352, k0_pay353, k0_pay354, k0_pay355, k0_pay356, k0_pay357, k0_pay358, k0_pay359, k0_pay360]
  simp only [chanMean, kMean, width, subOf, Nat.mul_comm _ 8]

theorem rstdOp_apply (sc s q : Vec Ideal S1x432x128 .f32) (p0 p1 p2 v0 v1 v2 : FVec Ideal S8x128 .f32) (n0 n1 n2 : EReal) (i : Fin 8) (l : Fin 128) :
    rstdOp (F := Ideal) sc s q p0 p1 p2 v0 v1 v2 n0 n1 n2 (ix2 i l)
      = Ideal.rsqrt (chanVar n0 n1 n2 (p0 (ix2 i l)) (p1 (ix2 i l))
          (kMean (fun b => sc (ix3 0 (subOf b i) l)) (fun b => s (ix3 0 (subOf b i) l))) (p2 (ix2 i l))
          (v0 (ix2 i l)) (v1 (ix2 i l))
          (kM2 (fun b => sc (ix3 0 (subOf b i) l)) (fun b => s (ix3 0 (subOf b i) l)) (fun b => q (ix3 0 (subOf b i) l))) (v2 (ix2 i l)) + eps) := by
  pointwise [rstdOp, k0_pay362, k0_pay347, k0_pay345, k0_pay346, k0_pay348, k0_pay349, k0_pay350, k0_pay351, k0_pay352, k0_pay353, k0_pay354, k0_pay355, k0_pay356, k0_pay357, k0_pay358, k0_pay359, k0_pay360]
  simp only [chanVar, kM2, kMean, width, recip128, lit128, eps, subOf, Nat.mul_comm _ 8]

end Cert.Ln

end
-- ==== Proof.LnGroup.lean ====
/- What each group's mean and reciprocal deviation are, row by row of the inputs. -/
module

public import proofs.«01_k».proof.Proof.LnMerge
public import proofs.«01_k».proof.Proof.LnWordsValue

@[expose] public section

set_option maxRecDepth 16384

noncomputable section

namespace Cert.Ln

open Idealize.ShloMosaic Idealize.ShloMosaic.TcCoe
open Cert.KernelIdeal Cert.KernelIdeal.Gen

/-- The row of a batch's position. -/
abbrev rowAt (b : Fin 12) (p : Fin 128) : Fin 1536 := ⟨128 * b.val + p.val, by omega⟩

section Spec
variable (x0 : Vec Ideal S3 .f32) (x1 : Vec Ideal S1536x6912 .fp8e4m3) (x2 : Vec Ideal S1536x54 .f32)
  (x3 x4 : Vec Ideal S3x12x128 .f32)

/-- A row's block sums of codes and of squared codes, and its scales. -/
def blockSum (r : Fin 1536) (b : Fin 54) : EReal := ∑ i, x1 (ix2 r (colOf b i))
def blockSq (r : Fin 1536) (b : Fin 54) : EReal := ∑ i, x1 (ix2 r (colOf b i)) * x1 (ix2 r (colOf b i))
def rowScale (r : Fin 1536) (b : Fin 54) : EReal := x2 (ix2 r b)

/-- The merged mean of one position. -/
def meanAt (b : Fin 12) (p : Fin 128) : EReal :=
  chanMean (x0 (ix1 0)) (x0 (ix1 1)) (x0 (ix1 2)) (x3 (ix3 0 b p)) (x3 (ix3 1 b p))
    (kMean (rowScale x2 (rowAt b p)) (blockSum x1 (rowAt b p))) (x3 (ix3 2 b p))

/-- The reciprocal deviation of one position. -/
def rstdAt (b : Fin 12) (p : Fin 128) : EReal :=
  Ideal.rsqrt (chanVar (x0 (ix1 0)) (x0 (ix1 1)) (x0 (ix1 2)) (x3 (ix3 0 b p)) (x3 (ix3 1 b p))
    (kMean (rowScale x2 (rowAt b p)) (blockSum x1 (rowAt b p))) (x3 (ix3 2 b p))
    (x4 (ix3 0 b p)) (x4 (ix3 1 b p)) (kM2 (rowScale x2 (rowAt b p)) (blockSum x1 (rowAt b p)) (blockSq x1 (rowAt b p)))
    (x4 (ix3 2 b p)) + eps)

/-- The batch and position of a word. -/
abbrev batchOf (g : Fin 3) (l : Fin 128) : Fin 12 := ⟨4 * g.val + l.val / 32, by omega⟩
abbrev posOf (s : Fin 8) (l : Fin 128) : Fin 128 := ⟨4 * (l.val % 32) + s.val % 4, by omega⟩

theorem word_apply (f : Fin 12 → Fin 128 → EReal) (g : Fin 3) (s : Fin 8) (l : Fin 128) :
    word f g (ix2 s l) = f (batchOf g l) (posOf s l) := rfl

theorem rowOf_subOf (g : Fin 3) (b : Fin 54) (s : Fin 8) (l : Fin 128) : rowOf g (subOf b s) l = rowAt (batchOf g l) (posOf s l) := by
  refine Fin.ext ?_
  simp only [rowOf, subOf, rowAt, batchOf, posOf]
  omega

theorem blkOf_subOf (b : Fin 54) (s : Fin 8) : blkOf (subOf b s) = b := by
  refine Fin.ext ?_
  simp only [blkOf, subOf]
  omega

theorem scG_at (g : Fin 3) (b : Fin 54) (s : Fin 8) (l : Fin 128) :
    scG x2 (ix3 g (subOf b s) l) = rowScale x2 (rowAt (batchOf g l) (posOf s l)) b := by
  change x2 (ix2 (rowOf g (subOf b s) l) (blkOf (subOf b s))) = _
  rw [rowOf_subOf, blkOf_subOf]; rfl

theorem sumG_at (f : EReal → EReal) (g : Fin 3) (b : Fin 54) (s : Fin 8) (l : Fin 128) :
    sumG f x1 (ix3 g (subOf b s) l) = ∑ i, f (x1 (ix2 (rowAt (batchOf g l) (posOf s l)) (colOf b i))) := by
  change ∑ i, f (x1 (ix2 (rowOf g (subOf b s) l) (colOf (blkOf (subOf b s)) i))) = _
  rw [rowOf_subOf, blkOf_subOf]

variable {x0 x1 x2 x3 x4}

theorem mean_group (g : Fin 3) (sc s : Vec Ideal S1x432x128 .f32) (hsc : ∀ r l, sc (ix3 0 r l) = scG x2 (ix3 g r l))
    (hs : ∀ r l, s (ix3 0 r l) = sumG id x1 (ix3 g r l)) :
    meanOp (F := Ideal) sc s (word (fun b p => x3 (ix3 0 b p)) g) (word (fun b p => x3 (ix3 1 b p)) g) (word (fun b p => x3 (ix3 2 b p)) g)
      (x0 (ix1 0)) (x0 (ix1 1)) (x0 (ix1 2)) = word (meanAt x0 x1 x2 x3) g := by
  funext i
  rw [eq_ix2 i]
  generalize i 0 = s, i 1 = l
  change Fin 8 at s
  change Fin 128 at l
  refine (meanOp_apply _ _ _ _ _ _ _ _ s l).trans ?_
  simp only [word_apply, hsc, hs, scG_at, sumG_at]
  rfl

theorem rstd_group (g : Fin 3) (sc s q : Vec Ideal S1x432x128 .f32) (hsc : ∀ r l, sc (ix3 0 r l) = scG x2 (ix3 g r l))
    (hs : ∀ r l, s (ix3 0 r l) = sumG id x1 (ix3 g r l)) (hq : ∀ r l, q (ix3 0 r l) = sumG (fun a => a * a) x1 (ix3 g r l)) :
    rstdOp (F := Ideal) sc s q (word (fun b p => x3 (ix3 0 b p)) g) (word (fun b p => x3 (ix3 1 b p)) g) (word (fun b p => x3 (ix3 2 b p)) g)
      (word (fun b p => x4 (ix3 0 b p)) g) (word (fun b p => x4 (ix3 1 b p)) g) (word (fun b p => x4 (ix3 2 b p)) g)
      (x0 (ix1 0)) (x0 (ix1 1)) (x0 (ix1 2)) = word (rstdAt x0 x1 x2 x3 x4) g := by
  funext i
  rw [eq_ix2 i]
  generalize i 0 = s, i 1 = l
  change Fin 8 at s
  change Fin 128 at l
  refine (rstdOp_apply _ _ _ _ _ _ _ _ _ _ _ _ s l).trans ?_
  simp only [word_apply, hsc, hs, hq, scG_at, sumG_at]
  rfl
end Spec

section Read
variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole)
  (x0 : Vec Ideal S3 .f32) (x1 : Vec Ideal S1536x6912 .fp8e4m3) (x2 : Vec Ideal S1536x54 .f32) (x3 : Vec Ideal S3x12x128 .f32) (x4 : Vec Ideal S3x12x128 .f32) (x5 : Vec Ideal S1x6912 .f32) (x6 : Vec Ideal S1x6912 .f32)
  (d7 : Vec Ideal S1536x6912 .fp8e4m3) (d8 : Vec Ideal S1536x54 .f32) (d9 : Vec Ideal S12x128 .f32) (d10 : Vec Ideal S12x128 .f32) (d11 : Vec Ideal S3x54x512x128 .fp8e4m3) (d12 : Vec Ideal S54x512x128 .bf16) (d13 : Vec Ideal S3x432x128 .f32) (d14 : Vec Ideal S3x432x128 .f32) (d15 : Vec Ideal S3x432x128 .f32) (d16 : Vec Ideal S3x432x128 .f32)

theorem emb_row (g : Fin 3) (hi : ∀ a, (![g.val, 0, 0] : Fin 3 → ℕ) a + S1x432x128.size a ≤ S3x432x128.size a) (r : Fin 432) (l : Fin 128) :
    (Rect.unit (s := S3x432x128) ![g.val, 0, 0] S1x432x128.size hi).toLoadRect.idx (ix3 0 r l) = ix3 g r l := by
  rw [eq_ix3 (LoadRect.idx _ _)]
  congr 1 <;> apply Fin.ext <;> simp [LoadRect.idx_apply]

theorem v2900_at (r : Fin 432) (l : Fin 128) : kernelRun.sl.v2900 (F := Ideal) c arg2 harg2 arg13 x2 (ix3 0 r l) = scG x2 (ix3 0 r l) :=
  (sc_read arg2 harg2 x2 c arg13 arg13.view.junk _).trans (congrArg (scG x2) (emb_row 0 _ r l))

theorem v2903_at (r : Fin 432) (l : Fin 128) : kernelRun.sl.v2903 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14 (ix3 0 r l) = sumG id x1 (ix3 0 r l) := by
  unfold kernelRun.sl.v2903
  rw [pb_eq _ _ _ _ _ _ _ _ _ _ _ _ _ _ _ _ _ _ _ _ _ _ _ _ _ _ _ _ _ _ _ _ _ _ _ _ _ _ _ _ _ _ _ _ _ _ _ le_rfl, fold_eq]
  exact (sums_read arg1 harg1 x1 arg14 _ _).trans (congrArg (sumG id x1) (emb_row 0 _ r l))

theorem v2906_at (r : Fin 432) (l : Fin 128) : kernelRun.sl.v2906 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15 (ix3 0 r l) = sumG (fun a => a * a) x1 (ix3 0 r l) := by
  unfold kernelRun.sl.v2906
  rw [pb_eq _ _ _ _ _ _ _ _ _ _ _ _ _ _ _ _ _ _ _ _ _ _ _ _ _ _ _ _ _ _ _ _ _ _ _ _ _ _ _ _ _ _ _ _ _ _ _ le_rfl, fold_eq]
  exact (sqs_read arg1 harg1 x1 arg15 _ _).trans (congrArg (sumG (fun a => a * a) x1) (emb_row 0 _ r l))

theorem v2972_at (r : Fin 432) (l : Fin 128) : kernelRun.sl.v2972 (F := Ideal) c arg2 harg2 arg13 x2 (ix3 0 r l) = scG x2 (ix3 1 r l) :=
  (sc_read arg2 harg2 x2 c arg13 arg13.view.junk _).trans (congrArg (scG x2) (emb_row 1 _ r l))

theorem v2975_at (r : Fin 432) (l : Fin 128) : kernelRun.sl.v2975 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14 (ix3 0 r l) = sumG id x1 (ix3 1 r l) := by
  unfold kernelRun.sl.v2975
  rw [pb_eq _ _ _ _ _ _ _ _ _ _ _ _ _ _ _ _ _ _ _ _ _ _ _ _ _ _ _ _ _ _ _ _ _ _ _ _ _ _ _ _ _ _ _ _ _ _ _ le_rfl, fold_eq]
  exact (sums_read arg1 harg1 x1 arg14 _ _).trans (congrArg (sumG id x1) (emb_row 1 _ r l))

theorem v2978_at (r : Fin 432) (l : Fin 128) : kernelRun.sl.v2978 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15 (ix3 0 r l) = sumG (fun a => a * a) x1 (ix3 1 r l) := by
  unfold kernelRun.sl.v2978
  rw [pb_eq _ _ _ _ _ _ _ _ _ _ _ _ _ _ _ _ _ _ _ _ _ _ _ _ _ _ _ _ _ _ _ _ _ _ _ _ _ _ _ _ _ _ _ _ _ _ _ le_rfl, fold_eq]
  exact (sqs_read arg1 harg1 x1 arg15 _ _).trans (congrArg (sumG (fun a => a * a) x1) (emb_row 1 _ r l))

theorem v3044_at (r : Fin 432) (l : Fin 128) : kernelRun.sl.v3044 (F := Ideal) c arg2 harg2 arg13 x2 (ix3 0 r l) = scG x2 (ix3 2 r l) :=
  (sc_read arg2 harg2 x2 c arg13 arg13.view.junk _).trans (congrArg (scG x2) (emb_row 2 _ r l))

theorem v3047_at (r : Fin 432) (l : Fin 128) : kernelRun.sl.v3047 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14 (ix3 0 r l) = sumG id x1 (ix3 2 r l) := by
  unfold kernelRun.sl.v3047
  rw [pb_eq _ _ _ _ _ _ _ _ _ _ _ _ _ _ _ _ _ _ _ _ _ _ _ _ _ _ _ _ _ _ _ _ _ _ _ _ _ _ _ _ _ _ _ _ _ _ _ le_rfl, fold_eq]
  exact (sums_read arg1 harg1 x1 arg14 _ _).trans (congrArg (sumG id x1) (emb_row 2 _ r l))

theorem v3050_at (r : Fin 432) (l : Fin 128) : kernelRun.sl.v3050 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15 (ix3 0 r l) = sumG (fun a => a * a) x1 (ix3 2 r l) := by
  unfold kernelRun.sl.v3050
  rw [pb_eq _ _ _ _ _ _ _ _ _ _ _ _ _ _ _ _ _ _ _ _ _ _ _ _ _ _ _ _ _ _ _ _ _ _ _ _ _ _ _ _ _ _ _ _ _ _ _ le_rfl, fold_eq]
  exact (sqs_read arg1 harg1 x1 arg15 _ _).trans (congrArg (sumG (fun a => a * a) x1) (emb_row 2 _ r l))

theorem r_2_at (b : Fin 12) (p : Fin 128) : kernelRun.sl.r_2 (F := Ideal) c arg3 harg3 x3 (ix2 b p) = x3 (ix3 0 b p) := by
  unfold kernelRun.sl.r_2
  have e : ∀ v : Vec Ideal S1x12x128 .f32, k0_pay105 v (ix2 b p) = v (ix3 0 b p) := fun v => by pointwise [k0_pay105]
  refine (e _).trans ?_
  rw [harg3.readAt_unread x3 _ _]
  refine congrArg x3 ?_
  rw [eq_ix3 (LoadRect.idx _ _)]
  congr 1 <;> apply Fin.ext <;> simp [LoadRect.idx_apply]

theorem r_24_at (b : Fin 12) (p : Fin 128) : kernelRun.sl.r_24 (F := Ideal) c arg3 harg3 x3 (ix2 b p) = x3 (ix3 1 b p) := by
  unfold kernelRun.sl.r_24
  have e : ∀ v : Vec Ideal S1x12x128 .f32, k0_pay146 v (ix2 b p) = v (ix3 0 b p) := fun v => by pointwise [k0_pay146]
  refine (e _).trans ?_
  rw [harg3.readAt_unread x3 _ _]
  refine congrArg x3 ?_
  rw [eq_ix3 (LoadRect.idx _ _)]
  congr 1 <;> apply Fin.ext <;> simp [LoadRect.idx_apply]

theorem r_46_at (b : Fin 12) (p : Fin 128) : kernelRun.sl.r_46 (F := Ideal) c arg3 harg3 x3 (ix2 b p) = x3 (ix3 2 b p) := by
  unfold kernelRun.sl.r_46
  have e : ∀ v : Vec Ideal S1x12x128 .f32, k0_pay185 v (ix2 b p) = v (ix3 0 b p) := fun v => by pointwise [k0_pay185]
  refine (e _).trans ?_
  rw [harg3.readAt_unread x3 _ _]
  refine congrArg x3 ?_
  rw [eq_ix3 (LoadRect.idx _ _)]
  congr 1 <;> apply Fin.ext <;> simp [LoadRect.idx_apply]

theorem r_67_at (b : Fin 12) (p : Fin 128) : kernelRun.sl.r_67 (F := Ideal) c arg4 harg4 x4 (ix2 b p) = x4 (ix3 0 b p) := by
  unfold kernelRun.sl.r_67
  have e : ∀ v : Vec Ideal S1x12x128 .f32, k0_pay224 v (ix2 b p) = v (ix3 0 b p) := fun v => by pointwise [k0_pay224]
  refine (e _).trans ?_
  rw [harg4.readAt_unread x4 _ _]
  refine congrArg x4 ?_
  rw [eq_ix3 (LoadRect.idx _ _)]
  congr 1 <;> apply Fin.ext <;> simp [LoadRect.idx_apply]

theorem r_87_at (b : Fin 12) (p : Fin 128) : kernelRun.sl.r_87 (F := Ideal) c arg4 harg4 x4 (ix2 b p) = x4 (ix3 1 b p) := by
  unfold kernelRun.sl.r_87
  have e : ∀ v : Vec Ideal S1x12x128 .f32, k0_pay267 v (ix2 b p) = v (ix3 0 b p) := fun v => by pointwise [k0_pay267]
  refine (e _).trans ?_
  rw [harg4.readAt_unread x4 _ _]
  refine congrArg x4 ?_
  rw [eq_ix3 (LoadRect.idx _ _)]
  congr 1 <;> apply Fin.ext <;> simp [LoadRect.idx_apply]

theorem r_107_at (b : Fin 12) (p : Fin 128) : kernelRun.sl.r_107 (F := Ideal) c arg4 harg4 x4 (ix2 b p) = x4 (ix3 2 b p) := by
  unfold kernelRun.sl.r_107
  have e : ∀ v : Vec Ideal S1x12x128 .f32, k0_pay308 v (ix2 b p) = v (ix3 0 b p) := fun v => by pointwise [k0_pay308]
  refine (e _).trans ?_
  rw [harg4.readAt_unread x4 _ _]
  refine congrArg x4 ?_
  rw [eq_ix3 (LoadRect.idx _ _)]
  congr 1 <;> apply Fin.ext <;> simp [LoadRect.idx_apply]

theorem r_130_at : kernelRun.sl.r_130 (F := Ideal) c arg0 harg0 x0 = x0 (ix1 0) := by
  unfold kernelRun.sl.r_130
  rw [harg0.readAt_unread x0 _ _]
  refine congrArg x0 ?_
  rw [eq_ix1 (LoadRect.idx _ _)]
  congr 1

theorem r_131_at : kernelRun.sl.r_131 (F := Ideal) c arg0 harg0 x0 = x0 (ix1 1) := by
  unfold kernelRun.sl.r_131
  rw [harg0.readAt_unread x0 _ _]
  refine congrArg x0 ?_
  rw [eq_ix1 (LoadRect.idx _ _)]
  congr 1

theorem r_132_at : kernelRun.sl.r_132 (F := Ideal) c arg0 harg0 x0 = x0 (ix1 2) := by
  unfold kernelRun.sl.r_132
  rw [harg0.readAt_unread x0 _ _]
  refine congrArg x0 ?_
  rw [eq_ix1 (LoadRect.idx _ _)]
  congr 1

theorem r_13_word : kernelRun.sl.r_13 (F := Ideal) c arg3 harg3 x3 = word (fun b p => x3 (ix3 0 b p)) 0 :=
  (r_13_eq c arg3 harg3 x3).trans ((toW_eq _ _ 0 rfl _).trans (congrArg (fun f => word f 0) (funext fun b => funext fun p => r_2_at c arg3 harg3 x3 b p)))

theorem r_36_word : kernelRun.sl.r_36 (F := Ideal) c arg3 harg3 x3 = word (fun b p => x3 (ix3 1 b p)) 0 :=
  (r_36_eq c arg3 harg3 x3).trans ((toW_eq _ _ 0 rfl _).trans (congrArg (fun f => word f 0) (funext fun b => funext fun p => r_24_at c arg3 harg3 x3 b p)))

theorem r_58_word : kernelRun.sl.r_58 (F := Ideal) c arg3 harg3 x3 = word (fun b p => x3 (ix3 2 b p)) 0 :=
  (r_58_eq c arg3 harg3 x3).trans ((toW_eq _ _ 0 rfl _).trans (congrArg (fun f => word f 0) (funext fun b => funext fun p => r_46_at c arg3 harg3 x3 b p)))

theorem r_78_word : kernelRun.sl.r_78 (F := Ideal) c arg4 harg4 x4 = word (fun b p => x4 (ix3 0 b p)) 0 :=
  (r_78_eq c arg4 harg4 x4).trans ((toW_eq _ _ 0 rfl _).trans (congrArg (fun f => word f 0) (funext fun b => funext fun p => r_67_at c arg4 harg4 x4 b p)))

theorem r_97_word : kernelRun.sl.r_97 (F := Ideal) c arg4 harg4 x4 = word (fun b p => x4 (ix3 1 b p)) 0 :=
  (r_97_eq c arg4 harg4 x4).trans ((toW_eq _ _ 0 rfl _).trans (congrArg (fun f => word f 0) (funext fun b => funext fun p => r_87_at c arg4 harg4 x4 b p)))

theorem r_117_word : kernelRun.sl.r_117 (F := Ideal) c arg4 harg4 x4 = word (fun b p => x4 (ix3 2 b p)) 0 :=
  (r_117_eq c arg4 harg4 x4).trans ((toW_eq _ _ 0 rfl _).trans (congrArg (fun f => word f 0) (funext fun b => funext fun p => r_107_at c arg4 harg4 x4 b p)))

theorem r_133_word : kernelRun.sl.r_133 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14 = word (meanAt x0 x1 x2 x3) 0 := by
  rw [r_133_eq, r_130_at c arg0 harg0 x0, r_131_at c arg0 harg0 x0, r_132_at c arg0 harg0 x0, r_13_word c arg3 harg3 x3, r_36_word c arg3 harg3 x3, r_58_word c arg3 harg3 x3]
  exact mean_group 0 _ _ (v2900_at c arg2 harg2 arg13 x2) (v2903_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)

theorem r_134_word : kernelRun.sl.r_134 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15 = word (rstdAt x0 x1 x2 x3 x4) 0 := by
  rw [r_134_eq, r_130_at c arg0 harg0 x0, r_131_at c arg0 harg0 x0, r_132_at c arg0 harg0 x0, r_13_word c arg3 harg3 x3, r_36_word c arg3 harg3 x3, r_58_word c arg3 harg3 x3, r_78_word c arg4 harg4 x4, r_97_word c arg4 harg4 x4, r_117_word c arg4 harg4 x4]
  exact rstd_group 0 _ _ _ (v2900_at c arg2 harg2 arg13 x2) (v2903_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14) (v2906_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)

theorem r_18_word : kernelRun.sl.r_18 (F := Ideal) c arg3 harg3 x3 = word (fun b p => x3 (ix3 0 b p)) 1 :=
  (r_18_eq c arg3 harg3 x3).trans ((toW_eq _ _ 1 rfl _).trans (congrArg (fun f => word f 1) (funext fun b => funext fun p => r_2_at c arg3 harg3 x3 b p)))

theorem r_41_word : kernelRun.sl.r_41 (F := Ideal) c arg3 harg3 x3 = word (fun b p => x3 (ix3 1 b p)) 1 :=
  (r_41_eq c arg3 harg3 x3).trans ((toW_eq _ _ 1 rfl _).trans (congrArg (fun f => word f 1) (funext fun b => funext fun p => r_24_at c arg3 harg3 x3 b p)))

theorem r_62_word : kernelRun.sl.r_62 (F := Ideal) c arg3 harg3 x3 = word (fun b p => x3 (ix3 2 b p)) 1 :=
  (r_62_eq c arg3 harg3 x3).trans ((toW_eq _ _ 1 rfl _).trans (congrArg (fun f => word f 1) (funext fun b => funext fun p => r_46_at c arg3 harg3 x3 b p)))

theorem r_82_word : kernelRun.sl.r_82 (F := Ideal) c arg4 harg4 x4 = word (fun b p => x4 (ix3 0 b p)) 1 :=
  (r_82_eq c arg4 harg4 x4).trans ((toW_eq _ _ 1 rfl _).trans (congrArg (fun f => word f 1) (funext fun b => funext fun p => r_67_at c arg4 harg4 x4 b p)))

theorem r_101_word : kernelRun.sl.r_101 (F := Ideal) c arg4 harg4 x4 = word (fun b p => x4 (ix3 1 b p)) 1 :=
  (r_101_eq c arg4 harg4 x4).trans ((toW_eq _ _ 1 rfl _).trans (congrArg (fun f => word f 1) (funext fun b => funext fun p => r_87_at c arg4 harg4 x4 b p)))

theorem r_122_word : kernelRun.sl.r_122 (F := Ideal) c arg4 harg4 x4 = word (fun b p => x4 (ix3 2 b p)) 1 :=
  (r_122_eq c arg4 harg4 x4).trans ((toW_eq _ _ 1 rfl _).trans (congrArg (fun f => word f 1) (funext fun b => funext fun p => r_107_at c arg4 harg4 x4 b p)))

theorem r_141_word : kernelRun.sl.r_141 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14 = word (meanAt x0 x1 x2 x3) 1 := by
  rw [r_141_eq, r_130_at c arg0 harg0 x0, r_131_at c arg0 harg0 x0, r_132_at c arg0 harg0 x0, r_18_word c arg3 harg3 x3, r_41_word c arg3 harg3 x3, r_62_word c arg3 harg3 x3]
  exact mean_group 1 _ _ (v2972_at c arg2 harg2 arg13 x2) (v2975_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)

theorem r_142_word : kernelRun.sl.r_142 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15 = word (rstdAt x0 x1 x2 x3 x4) 1 := by
  rw [r_142_eq, r_130_at c arg0 harg0 x0, r_131_at c arg0 harg0 x0, r_132_at c arg0 harg0 x0, r_18_word c arg3 harg3 x3, r_41_word c arg3 harg3 x3, r_62_word c arg3 harg3 x3, r_82_word c arg4 harg4 x4, r_101_word c arg4 harg4 x4, r_122_word c arg4 harg4 x4]
  exact rstd_group 1 _ _ _ (v2972_at c arg2 harg2 arg13 x2) (v2975_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14) (v2978_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)

theorem r_23_word : kernelRun.sl.r_23 (F := Ideal) c arg3 harg3 x3 = word (fun b p => x3 (ix3 0 b p)) 2 :=
  (r_23_eq c arg3 harg3 x3).trans ((toW_eq _ _ 2 rfl _).trans (congrArg (fun f => word f 2) (funext fun b => funext fun p => r_2_at c arg3 harg3 x3 b p)))

theorem r_45_word : kernelRun.sl.r_45 (F := Ideal) c arg3 harg3 x3 = word (fun b p => x3 (ix3 1 b p)) 2 :=
  (r_45_eq c arg3 harg3 x3).trans ((toW_eq _ _ 2 rfl _).trans (congrArg (fun f => word f 2) (funext fun b => funext fun p => r_24_at c arg3 harg3 x3 b p)))

theorem r_66_word : kernelRun.sl.r_66 (F := Ideal) c arg3 harg3 x3 = word (fun b p => x3 (ix3 2 b p)) 2 :=
  (r_66_eq c arg3 harg3 x3).trans ((toW_eq _ _ 2 rfl _).trans (congrArg (fun f => word f 2) (funext fun b => funext fun p => r_46_at c arg3 harg3 x3 b p)))

theorem r_86_word : kernelRun.sl.r_86 (F := Ideal) c arg4 harg4 x4 = word (fun b p => x4 (ix3 0 b p)) 2 :=
  (r_86_eq c arg4 harg4 x4).trans ((toW_eq _ _ 2 rfl _).trans (congrArg (fun f => word f 2) (funext fun b => funext fun p => r_67_at c arg4 harg4 x4 b p)))

theorem r_106_word : kernelRun.sl.r_106 (F := Ideal) c arg4 harg4 x4 = word (fun b p => x4 (ix3 1 b p)) 2 :=
  (r_106_eq c arg4 harg4 x4).trans ((toW_eq _ _ 2 rfl _).trans (congrArg (fun f => word f 2) (funext fun b => funext fun p => r_87_at c arg4 harg4 x4 b p)))

theorem r_127_word : kernelRun.sl.r_127 (F := Ideal) c arg4 harg4 x4 = word (fun b p => x4 (ix3 2 b p)) 2 :=
  (r_127_eq c arg4 harg4 x4).trans ((toW_eq _ _ 2 rfl _).trans (congrArg (fun f => word f 2) (funext fun b => funext fun p => r_107_at c arg4 harg4 x4 b p)))

theorem r_146_word : kernelRun.sl.r_146 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14 = word (meanAt x0 x1 x2 x3) 2 := by
  rw [r_146_eq, r_130_at c arg0 harg0 x0, r_131_at c arg0 harg0 x0, r_132_at c arg0 harg0 x0, r_23_word c arg3 harg3 x3, r_45_word c arg3 harg3 x3, r_66_word c arg3 harg3 x3]
  exact mean_group 2 _ _ (v3044_at c arg2 harg2 arg13 x2) (v3047_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14)

theorem r_147_word : kernelRun.sl.r_147 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15 = word (rstdAt x0 x1 x2 x3 x4) 2 := by
  rw [r_147_eq, r_130_at c arg0 harg0 x0, r_131_at c arg0 harg0 x0, r_132_at c arg0 harg0 x0, r_23_word c arg3 harg3 x3, r_45_word c arg3 harg3 x3, r_66_word c arg3 harg3 x3, r_86_word c arg4 harg4 x4, r_106_word c arg4 harg4 x4, r_127_word c arg4 harg4 x4]
  exact rstd_group 2 _ _ _ (v3044_at c arg2 harg2 arg13 x2) (v3047_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d14) (v3050_at c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x1 x5 x6 d15)

theorem out9 (f : arg9.view.ty.Contents (Elt Ideal)) :
    arg9.view.read (Elt Ideal) (arg9.view.writes (Elt Ideal) f (kernelRun.sl.H9_1 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14)) = fun i => meanAt x0 x1 x2 x3 (i 0) (i 1) := by
  rw [H9_eq, r_133_word, r_141_word, r_146_word, fromW_word]
  funext i
  refine View.read_writes_apply_of_pieces (Val := Elt Ideal) (e := .f32) _ _ (fun i : S12x128.Idx => (meanAt x0 x1 x2 x3 (i 0) (i 1) : EReal)) _ (fun p hp x => ?_) i ?_
  · simp only [List.mem_cons, List.not_mem_nil, or_false] at hp
    subst hp
    have e : (Rect.unit (s := S12x128) ![0, 0] S12x128.size inb_S12x128_S12x128_0_0).emb x = x :=
      funext fun d => Fin.ext ((Rect.emb_apply _ x d).trans (by fin_cases d <;> simp))
    exact (congrArg (fun i : S12x128.Idx => (meanAt x0 x1 x2 x3 (i 0) (i 1) : EReal)) e).symm
  · have h : i ∈ (Rect.unit (s := S12x128) ![0, 0] S12x128.size inb_S12x128_S12x128_0_0).set := Rect.mem_set_unit.mpr fun a => by
      have := (i a).isLt
      fin_cases a <;> simpa using this
    exact ⟨_, List.mem_singleton.mpr rfl, h⟩

theorem out10 (f : arg10.view.ty.Contents (Elt Ideal)) :
    arg10.view.read (Elt Ideal) (arg10.view.writes (Elt Ideal) f (kernelRun.sl.H10_1 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15)) = fun i => rstdAt x0 x1 x2 x3 x4 (i 0) (i 1) := by
  rw [H10_eq, r_134_word, r_142_word, r_147_word, fromW_word]
  funext i
  refine View.read_writes_apply_of_pieces (Val := Elt Ideal) (e := .f32) _ _ (fun i : S12x128.Idx => (rstdAt x0 x1 x2 x3 x4 (i 0) (i 1) : EReal)) _ (fun p hp x => ?_) i ?_
  · simp only [List.mem_cons, List.not_mem_nil, or_false] at hp
    subst hp
    have e : (Rect.unit (s := S12x128) ![0, 0] S12x128.size inb_S12x128_S12x128_0_0).emb x = x :=
      funext fun d => Fin.ext ((Rect.emb_apply _ x d).trans (by fin_cases d <;> simp))
    exact (congrArg (fun i : S12x128.Idx => (rstdAt x0 x1 x2 x3 x4 (i 0) (i 1) : EReal)) e).symm
  · have h : i ∈ (Rect.unit (s := S12x128) ![0, 0] S12x128.size inb_S12x128_S12x128_0_0).set := Rect.mem_set_unit.mpr fun a => by
      have := (i a).isLt
      fin_cases a <;> simpa using this
    exact ⟨_, List.mem_singleton.mpr rfl, h⟩

end Read

end Cert.Ln

end
-- ==== Proof.LnRun.lean ====
/- The run of `KernelIdeal` over the reals with its statistics named: from any memory @main terminates, keeps its
   arguments, and leaves in its last two results what `Cert.Ln.meanAt` and `Cert.Ln.rstdAt` say of the inputs. -/
module

public import proofs.«01_k».proof.Proof.LnGroup
public import proofs.«01_k».proof.Proof.Gen.KernelIdeal.Points

@[expose] public section

set_option maxRecDepth 16384

noncomputable section

namespace Cert.LnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Ln

local notation "𝕄" => MT nD τ sig Unit (Elt Ideal) ℕ (UR sig nD τ) ℕ

/-- The two statistics as the output windows hold them. -/
def meanOut (x0 : Vec Ideal S3 .f32) (x1 : Vec Ideal S1536x6912 .fp8e4m3) (x2 : Vec Ideal S1536x54 .f32)
    (x3 : Vec Ideal S3x12x128 .f32) : Vec Ideal S12x128 .f32 := fun i => meanAt x0 x1 x2 x3 (i 0) (i 1)
def rstdOut (x0 : Vec Ideal S3 .f32) (x1 : Vec Ideal S1536x6912 .fp8e4m3) (x2 : Vec Ideal S1536x54 .f32)
    (x3 x4 : Vec Ideal S3x12x128 .f32) : Vec Ideal S12x128 .f32 := fun i => rstdAt x0 x1 x2 x3 x4 (i 0) (i 1)

section Outs
variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole) (x0 : Vec Ideal S3 .f32) (x1 : Vec Ideal S1536x6912 .fp8e4m3) (x2 : Vec Ideal S1536x54 .f32) (x3 : Vec Ideal S3x12x128 .f32) (x4 : Vec Ideal S3x12x128 .f32) (x5 : Vec Ideal S1x6912 .f32) (x6 : Vec Ideal S1x6912 .f32)
    (d7 : Vec Ideal S1536x6912 .fp8e4m3) (d8 : Vec Ideal S1536x54 .f32) (d9 : Vec Ideal S12x128 .f32) (d10 : Vec Ideal S12x128 .f32) (d11 : Vec Ideal S3x54x512x128 .fp8e4m3) (d12 : Vec Ideal S54x512x128 .bf16) (d13 : Vec Ideal S3x432x128 .f32) (d14 : Vec Ideal S3x432x128 .f32) (d15 : Vec Ideal S3x432x128 .f32) (d16 : Vec Ideal S3x432x128 .f32)

/-- What the body leaves in its last two output windows. -/
theorem run_mean : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).2.2.1 = meanOut x0 x1 x2 x3 :=
  out9 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x5 x6 d14 _
theorem run_rstd : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).2.2.2.1 = rstdOut x0 x1 x2 x3 x4 :=
  out10 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d14 d15 _

end Outs

variable (m : (ℓ : Loc nD τ sig) → Buf (Elt Ideal) ℓ) (ρ : Dev nD → PrngReg)

/-! ## The pipeline's proof data -/

/-- Each window's current staging memref at point `t`, spelled as the pipeline passes it (`bodyAt0`), and its wholeness. -/
abbrev ms0_0 (t : Fin cfg0.N) : Memref sig .tc .smem S3 .f32 := win0_0.stage (cfg0.slots t 0)
abbrev hs0_0 (t : Fin cfg0.N) : (ms0_0 t).IsWhole := hstage0_0 0
abbrev ms0_1 (t : Fin cfg0.N) : Memref sig .tc .vmem S1536x6912 .fp8e4m3 := win0_1.stage (cfg0.slots t 1)
abbrev hs0_1 (t : Fin cfg0.N) : (ms0_1 t).IsWhole := hstage0_1 0
abbrev ms0_2 (t : Fin cfg0.N) : Memref sig .tc .vmem S1536x54 .f32 := win0_2.stage (cfg0.slots t 2)
abbrev hs0_2 (t : Fin cfg0.N) : (ms0_2 t).IsWhole := hstage0_2 0
abbrev ms0_3 (t : Fin cfg0.N) : Memref sig .tc .vmem S3x12x128 .f32 := win0_3.stage (cfg0.slots t 3)
abbrev hs0_3 (t : Fin cfg0.N) : (ms0_3 t).IsWhole := hstage0_3 0
abbrev ms0_4 (t : Fin cfg0.N) : Memref sig .tc .vmem S3x12x128 .f32 := win0_4.stage (cfg0.slots t 4)
abbrev hs0_4 (t : Fin cfg0.N) : (ms0_4 t).IsWhole := hstage0_4 0
abbrev ms0_5 (t : Fin cfg0.N) : Memref sig .tc .vmem S1x6912 .f32 := win0_5.stage (cfg0.slots t 5)
abbrev hs0_5 (t : Fin cfg0.N) : (ms0_5 t).IsWhole := hstage0_5 0
abbrev ms0_6 (t : Fin cfg0.N) : Memref sig .tc .vmem S1x6912 .f32 := win0_6.stage (cfg0.slots t 6)
abbrev hs0_6 (t : Fin cfg0.N) : (ms0_6 t).IsWhole := hstage0_6 0
abbrev ms0_7 (t : Fin cfg0.N) : Memref sig .tc .vmem S1536x6912 .fp8e4m3 := win0_7.stage (cfg0.slots t 7)
abbrev hs0_7 (t : Fin cfg0.N) : (ms0_7 t).IsWhole := hstage0_7 0
abbrev ms0_8 (t : Fin cfg0.N) : Memref sig .tc .vmem S1536x54 .f32 := win0_8.stage (cfg0.slots t 8)
abbrev hs0_8 (t : Fin cfg0.N) : (ms0_8 t).IsWhole := hstage0_8 0
abbrev ms0_9 (t : Fin cfg0.N) : Memref sig .tc .vmem S12x128 .f32 := win0_9.stage (cfg0.slots t 9)
abbrev hs0_9 (t : Fin cfg0.N) : (ms0_9 t).IsWhole := hstage0_9 0
abbrev ms0_10 (t : Fin cfg0.N) : Memref sig .tc .vmem S12x128 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S3x54x512x128 .fp8e4m3 := Memref.whole cc0_scratch0
abbrev scM0_1 : Memref sig .tc .vmem S54x512x128 .bf16 := Memref.whole cc0_scratch1
abbrev scM0_2 : Memref sig .tc .vmem S3x432x128 .f32 := Memref.whole cc0_scratch2
abbrev scM0_3 : Memref sig .tc .vmem S3x432x128 .f32 := Memref.whole cc0_scratch3
abbrev scM0_4 : Memref sig .tc .vmem S3x432x128 .f32 := Memref.whole cc0_scratch4
abbrev scM0_5 : Memref sig .tc .vmem S3x432x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The output windows left unnamed: the codes and their scales. -/
def forgets0 : Fin 11 → Bool := fun w => w.val == 7 || w.val == 8

/-- The proof data of the one pipeline on core `c`: the arrays as the region finds them (`V`); after the body at
    point `t` each input's buffer at its block, the statistics at their formulas and the other outputs unnamed; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, _⟩ => meanOut (iblk m c 0 t) (iblk m c 1 t) (iblk m c 2 t) (iblk m c 3 t)
    | ⟨10, _⟩ => rstdOut (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_9 (c : Dev nD) (t : Fin cfg0.N) : (dats m 0 c).after 9 t = meanOut (iblk m c 0 t) (iblk m c 1 t) (iblk m c 2 t) (iblk m c 3 t) := by dsimp only [dats]
theorem after0_10 (c : Dev nD) (t : Fin cfg0.N) : (dats m 0 c).after 10 t = rstdOut (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_9, after0_10]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun (F := Ideal) c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 ((dats m 0 c).before 9 t d9) ((dats m 0 c).before 10 t d10) s0 s1 s2 s3 s4 s5).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · rw [← run_mean c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 ((dats m 0 c).before 9 t d9) ((dats m 0 c).before 10 t d10) s0 s1 s2 s3 s4 s5]; iexact H9
  rw [← run_rstd c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d7 d8 ((dats m 0 c).before 9 t d9) ((dats m 0 c).before 10 t d10) s0 s1 s2 s3 s4 s5]; iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every fair execution of @main terminates with the input arrays as the region found them and every semaphore
    counter at zero. -/
theorem run_main : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments are kept. -/
theorem kept (r : PUnit × MemSt nD τ sig (Elt Ideal)) (h : Pipeline.RDat.FramePost (cfgs 0) (fun c => (dats m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 0 rfl).trans ((A_eq m c 0).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.LnRun

end
-- ==== Proof.LnKer.lean ====
/- What the input windows of `KernelIdeal` hold, read off the arguments as launched. -/
module

public import proofs.«01_k».proof.Proof.LnRun
public import Idealize.ShloMosaic.Lib.Pipeline.Value
public import Idealize.ShloMosaic.Lib.Claim

@[expose] public section

noncomputable section

namespace Cert.LnKer

open Idealize.ShloMosaic Idealize.ShloMosaic.TcCoe
open Cert.KernelIdeal Cert.KernelIdeal.Gen Cert.Ln

variable (m : (ℓ : Loc nD τ sig) → Buf (Elt Ideal) ℓ)

/-- Window 0's block at the one point is its whole array. -/
theorem idx0 : ∀ t : Fin cfg0.N, win0_0.index t (0 : Fin 1) = 0 := (by decide +kernel : ∀ t : Fin grid0.N, _)
theorem emb0 (t : Fin cfg0.N) (j : S3.Idx) : ((cfg0.win 0).blk t).view.emb j = j := by
  have e0 := idx0 t
  funext a; apply Fin.ext
  match a with
  | ⟨0, _⟩ => show win0_0.index t (0 : Fin 1) * 3 + 1 * (j 0).val = (j 0).val; omega
theorem blk0 (c : Dev nD) (t : Fin cfg0.N) : iblk m c 0 t = V m c main_arg2 := by
  funext j; show V m c main_arg2 (((cfg0.win 0).blk t).view.emb j) = V m c main_arg2 j; rw [emb0]

/-- Window 1's block at the one point is its whole array. -/
theorem idx1 : ∀ t : Fin cfg0.N, win0_1.index t (0 : Fin 2) = 0 ∧ win0_1.index t (1 : Fin 2) = 0 := (by decide +kernel : ∀ t : Fin grid0.N, _)
theorem emb1 (t : Fin cfg0.N) (j : S1536x6912.Idx) : ((cfg0.win 1).blk t).view.emb j = j := by
  obtain ⟨e0, e1⟩ := idx1 t
  funext a; apply Fin.ext
  match a with
  | ⟨0, _⟩ => show win0_1.index t (0 : Fin 2) * 1536 + 1 * (j 0).val = (j 0).val; omega
  | ⟨1, _⟩ => show win0_1.index t (1 : Fin 2) * 6912 + 1 * (j 1).val = (j 1).val; omega
theorem blk1 (c : Dev nD) (t : Fin cfg0.N) : iblk m c 1 t = V m c main_v1 := by
  funext j; show V m c main_v1 (((cfg0.win 1).blk t).view.emb j) = V m c main_v1 j; rw [emb1]

/-- Window 2's block at the one point is its whole array. -/
theorem idx2 : ∀ t : Fin cfg0.N, win0_2.index t (0 : Fin 2) = 0 ∧ win0_2.index t (1 : Fin 2) = 0 := (by decide +kernel : ∀ t : Fin grid0.N, _)
theorem emb2 (t : Fin cfg0.N) (j : S1536x54.Idx) : ((cfg0.win 2).blk t).view.emb j = j := by
  obtain ⟨e0, e1⟩ := idx2 t
  funext a; apply Fin.ext
  match a with
  | ⟨0, _⟩ => show win0_2.index t (0 : Fin 2) * 1536 + 1 * (j 0).val = (j 0).val; omega
  | ⟨1, _⟩ => show win0_2.index t (1 : Fin 2) * 54 + 1 * (j 1).val = (j 1).val; omega
theorem blk2 (c : Dev nD) (t : Fin cfg0.N) : iblk m c 2 t = V m c main_v2 := by
  funext j; show V m c main_v2 (((cfg0.win 2).blk t).view.emb j) = V m c main_v2 j; rw [emb2]

/-- Window 3's block at the one point is its whole array. -/
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem emb3 (t : Fin cfg0.N) (j : S3x12x128.Idx) : ((cfg0.win 3).blk t).view.emb j = j := by
  obtain ⟨e0, e1, e2⟩ := idx3 t
  funext a; apply Fin.ext
  match a with
  | ⟨0, _⟩ => show win0_3.index t (0 : Fin 3) * 3 + 1 * (j 0).val = (j 0).val; omega
  | ⟨1, _⟩ => show win0_3.index t (1 : Fin 3) * 12 + 1 * (j 1).val = (j 1).val; omega
  | ⟨2, _⟩ => show win0_3.index t (2 : Fin 3) * 128 + 1 * (j 2).val = (j 2).val; omega
theorem blk3 (c : Dev nD) (t : Fin cfg0.N) : iblk m c 3 t = V m c main_arg3 := by
  funext j; show V m c main_arg3 (((cfg0.win 3).blk t).view.emb j) = V m c main_arg3 j; rw [emb3]

/-- Window 4's block at the one point is its whole array. -/
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem emb4 (t : Fin cfg0.N) (j : S3x12x128.Idx) : ((cfg0.win 4).blk t).view.emb j = j := by
  obtain ⟨e0, e1, e2⟩ := idx4 t
  funext a; apply Fin.ext
  match a with
  | ⟨0, _⟩ => show win0_4.index t (0 : Fin 3) * 3 + 1 * (j 0).val = (j 0).val; omega
  | ⟨1, _⟩ => show win0_4.index t (1 : Fin 3) * 12 + 1 * (j 1).val = (j 1).val; omega
  | ⟨2, _⟩ => show win0_4.index t (2 : Fin 3) * 128 + 1 * (j 2).val = (j 2).val; omega
theorem blk4 (c : Dev nD) (t : Fin cfg0.N) : iblk m c 4 t = V m c main_arg4 := by
  funext j; show V m c main_arg4 (((cfg0.win 4).blk t).view.emb j) = V m c main_arg4 j; rw [emb4]

/-- Window 5's block at the one point is its whole array. -/
theorem idx5 : ∀ t : Fin cfg0.N, win0_5.index t (0 : Fin 2) = 0 ∧ win0_5.index t (1 : Fin 2) = 0 := (by decide +kernel : ∀ t : Fin grid0.N, _)
theorem emb5 (t : Fin cfg0.N) (j : S1x6912.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 6912 + 1 * (j 1).val = (j 1).val; omega
theorem blk5 (c : Dev nD) (t : Fin cfg0.N) : iblk m c 5 t = V m c main_v3 := by
  funext j; show V m c main_v3 (((cfg0.win 5).blk t).view.emb j) = V m c main_v3 j; rw [emb5]

/-- Window 6's block at the one point is its whole array. -/
theorem idx6 : ∀ t : Fin cfg0.N, win0_6.index t (0 : Fin 2) = 0 ∧ win0_6.index t (1 : Fin 2) = 0 := (by decide +kernel : ∀ t : Fin grid0.N, _)
theorem emb6 (t : Fin cfg0.N) (j : S1x6912.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 6912 + 1 * (j 1).val = (j 1).val; omega
theorem blk6 (c : Dev nD) (t : Fin cfg0.N) : iblk m c 6 t = V m c main_v4 := by
  funext j; show V m c main_v4 (((cfg0.win 6).blk t).view.emb j) = V m c main_v4 j; rw [emb6]

/-- The host's reshaped operand `main_v1`. -/
theorem V_main_v1 (c : Dev nD) : V m c main_v1 = (shapeCast S1536x6912 (Host.convertf (F := Ideal) (s := S12x128x6912) (φ := .f32) .fp8e4m3 (m ((c : Thread nD τ).loc main_arg0))) shapeCasts_S12x128x6912_S1536x6912 : (⟨S1536x6912, .fp8e4m3⟩ : BufTy).Contents (Elt Ideal)) := by
  unfold_abbrev_sides
  after_results
  rfl

/-- The host's reshaped operand `main_v2`. -/
theorem V_main_v2 (c : Dev nD) : V m c main_v2 = (shapeCast S1536x54 (m ((c : Thread nD τ).loc main_arg1)) shapeCasts_S12x128x54_S1536x54 : (⟨S1536x54, .f32⟩ : BufTy).Contents (Elt Ideal)) := by
  unfold_abbrev_sides
  after_results
  rfl

/-- The host's reshaped operand `main_v3`. -/
theorem V_main_v3 (c : Dev nD) : V m c main_v3 = (shapeCast S1x6912 (m ((c : Thread nD τ).loc main_arg5)) shapeCasts_S6912_S1x6912 : (⟨S1x6912, .f32⟩ : BufTy).Contents (Elt Ideal)) := by
  unfold_abbrev_sides
  after_results
  rfl

/-- The host's reshaped operand `main_v4`. -/
theorem V_main_v4 (c : Dev nD) : V m c main_v4 = (shapeCast S1x6912 (m ((c : Thread nD τ).loc main_arg6)) shapeCasts_S6912_S1x6912 : (⟨S1x6912, .f32⟩ : BufTy).Contents (Elt Ideal)) := by
  unfold_abbrev_sides
  after_results
  rfl

/-- The codes window, by batch and position: the codes as given. -/
theorem codes_at (c : Dev nD) (t : Fin cfg0.N) (b : Fin 12) (p : Fin 128) (k : Fin 54) (i : Fin 128) :
    (iblk m c 1 t : Vec Ideal S1536x6912 .fp8e4m3) (ix2 (rowAt b p) (colOf k i)) = (m ((c : Thread nD τ).loc main_arg0)) (ix3 b p (colOf k i)) := by
  rw [blk1, V_main_v1]
  refine (shapeCast_apply _ _ _ (ix3 b p (colOf k i)) ?_).trans rfl
  rw [Shape.rowMajor_val_three, Shape.rowMajor_val_two]
  simp
  omega

/-- The scales window, by batch and position. -/
theorem scales_at (c : Dev nD) (t : Fin cfg0.N) (b : Fin 12) (p : Fin 128) (k : Fin 54) :
    (iblk m c 2 t : Vec Ideal S1536x54 .f32) (ix2 (rowAt b p) k) = (m ((c : Thread nD τ).loc main_arg1)) (ix3 b p k) := by
  rw [blk2, V_main_v2]
  refine (shapeCast_apply _ _ _ (ix3 b p k) ?_).trans rfl
  rw [Shape.rowMajor_val_three, Shape.rowMajor_val_two]
  simp
  omega

theorem gamma_at (c : Dev nD) (t : Fin cfg0.N) (n : Fin 6912) :
    (iblk m c 5 t : Vec Ideal S1x6912 .f32) (ix2 0 n) = (m ((c : Thread nD τ).loc main_arg5)) (ix1 n) := by
  rw [blk5, V_main_v3]
  refine (shapeCast_apply _ _ _ (ix1 n) ?_).trans rfl
  rw [Shape.rowMajor_val_one, Shape.rowMajor_val_two]
  simp

theorem beta_at (c : Dev nD) (t : Fin cfg0.N) (n : Fin 6912) :
    (iblk m c 6 t : Vec Ideal S1x6912 .f32) (ix2 0 n) = (m ((c : Thread nD τ).loc main_arg6)) (ix1 n) := by
  rw [blk6, V_main_v4]
  refine (shapeCast_apply _ _ _ (ix1 n) ?_).trans rfl
  rw [Shape.rowMajor_val_one, Shape.rowMajor_val_two]
  simp

end Cert.LnKer

end
-- ==== Proof.LnRef.lean ====
/- What the reference's single region leaves in its two statistics, position by position. -/
module

public import proofs.«01_k».proof.Proof.Gen.ReferenceIdeal
public import proofs.«01_k».proof.Proof.Gen.ReferenceIdeal.Value
public import Idealize.ShloMosaic.Lib.WholeRead
public import Idealize.ShloMosaic.Lib.Pointwise
public import proofs.«01_k».proof.Proof.LnChan
import all proofs.«01_k».proof.Proof.Gen.ReferenceIdeal.Frame.RunA
import all proofs.«01_k».proof.Proof.Gen.ReferenceIdeal.Frame

@[expose] public section

set_option maxRecDepth 16384

noncomputable section

namespace Cert.LnRef

open Idealize.ShloMosaic Idealize.ShloMosaic.TcCoe
open Cert.ReferenceIdeal Cert.ReferenceIdeal.Gen
open Cert.Ln (chanMean chanVar width eps)

section Spec
variable (x1 : Vec Ideal S12x128x54x128 .fp8e4m3) (x2 : Vec Ideal S12x128x54 .f32)

/-- A position's mean over the columns it holds, and its sum of squared deviations. -/
def rMean (b : Fin 12) (p : Fin 128) : EReal :=
  Ideal.div (∑ k : Fin 54, ∑ i : Fin 128, x1 (ix4 b p k i) * x2 (ix3 b p k)) width
def rM2 (b : Fin 12) (p : Fin 128) : EReal :=
  ∑ k : Fin 54, ∑ i : Fin 128, (x1 (ix4 b p k i) * x2 (ix3 b p k) - rMean x1 x2 b p) * (x1 (ix4 b p k i) * x2 (ix3 b p k) - rMean x1 x2 b p)

theorem pay1_apply (b : Fin 12) (p : Fin 128) (k : Fin 54) (i : Fin 128) :
    k0_pay1 (F := Ideal) x1 x2 (ix4 b p k i) = x1 (ix4 b p k i) * x2 (ix3 b p k) := by
  pointwise [k0_pay1]

theorem pay2_apply (b : Fin 12) (p : Fin 128) : k0_pay2 (F := Ideal) x1 x2 (ix2 b p) = rMean x1 x2 b p := by
  pointwise [k0_pay2, k0_pay1]
  simp only [rMean, width]

theorem pay3_apply (b : Fin 12) (p : Fin 128) : k0_pay3 (F := Ideal) x1 x2 (ix2 b p) = rM2 x1 x2 b p := by
  pointwise [k0_pay3, k0_pay2, k0_pay1]
  simp only [rM2, rMean, width]

theorem pay17_apply (l p0 p1 p2 : FVec Ideal S12x128 .f32) (n0 n1 n2 : EReal) (b : Fin 12) (p : Fin 128) :
    k0_pay17 (F := Ideal) l n0 p0 n1 p1 n2 p2 (ix2 b p)
      = chanMean n0 n1 n2 (p0 (ix2 b p)) (p1 (ix2 b p)) (l (ix2 b p)) (p2 (ix2 b p)) := by
  pointwise [k0_pay9, k0_pay10, k0_pay11, k0_pay12, k0_pay13, k0_pay14, k0_pay15, k0_pay16, k0_pay17]
  simp only [chanMean, width]

theorem pay18_apply (l q p0 p1 p2 v0 v1 : FVec Ideal S12x128 .f32) (v2 : Vec Ideal S1x12x128 .f32) (n0 n1 n2 : EReal) (b : Fin 12) (p : Fin 128) :
    k0_pay18 (F := Ideal) l q n0 p0 v0 n1 p1 v1 n2 p2 v2 (ix2 b p)
      = Ideal.rsqrt (chanVar n0 n1 n2 (p0 (ix2 b p)) (p1 (ix2 b p)) (l (ix2 b p)) (p2 (ix2 b p))
          (v0 (ix2 b p)) (v1 (ix2 b p)) (q (ix2 b p)) (v2 (ix3 0 b p)) + eps) := by
  pointwise [k0_pay9, k0_pay10, k0_pay11, k0_pay12, k0_pay13, k0_pay14, k0_pay15, k0_pay16, k0_pay18]
  simp only [chanVar, width, eps]
end Spec

section Out
variable (c : Dev nD) (arg0 : Memref sig .tc .smem S3 .f32) (harg0 : arg0.IsWhole) (arg1 : Memref sig .tc .vmem S12x128x54x128 .fp8e4m3) (harg1 : arg1.IsWhole) (arg2 : Memref sig .tc .vmem S12x128x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S54x128 .f32) (harg5 : arg5.IsWhole) (arg6 : Memref sig .tc .vmem S54x128 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole)
  (x0 : Vec Ideal S3 .f32) (x1 : Vec Ideal S12x128x54x128 .fp8e4m3) (x2 : Vec Ideal S12x128x54 .f32) (x3 : Vec Ideal S3x12x128 .f32) (x4 : Vec Ideal S3x12x128 .f32) (x5 : Vec Ideal S54x128 .f32) (x6 : Vec Ideal S54x128 .f32)

/-- The reference's merged mean and reciprocal deviation. -/
def refMean (x0 : Vec Ideal S3 .f32) (x1 : Vec Ideal S12x128x54x128 .fp8e4m3) (x2 : Vec Ideal S12x128x54 .f32) (x3 : Vec Ideal S3x12x128 .f32)
    (b : Fin 12) (p : Fin 128) : EReal :=
  chanMean (x0 (ix1 0)) (x0 (ix1 1)) (x0 (ix1 2)) (x3 (ix3 0 b p)) (x3 (ix3 1 b p)) (rMean x1 x2 b p) (x3 (ix3 2 b p))
def refRstd (x0 : Vec Ideal S3 .f32) (x1 : Vec Ideal S12x128x54x128 .fp8e4m3) (x2 : Vec Ideal S12x128x54 .f32) (x3 x4 : Vec Ideal S3x12x128 .f32)
    (b : Fin 12) (p : Fin 128) : EReal :=
  Ideal.rsqrt (chanVar (x0 (ix1 0)) (x0 (ix1 1)) (x0 (ix1 2)) (x3 (ix3 0 b p)) (x3 (ix3 1 b p)) (rMean x1 x2 b p) (x3 (ix3 2 b p))
    (x4 (ix3 0 b p)) (x4 (ix3 1 b p)) (rM2 x1 x2 b p) (x4 (ix3 2 b p)) + eps)

theorem rd1 (off) (h : off = fun _ => 0) (hi) : View.readAt (Elt Ideal) arg1.view (Rect.unit (s := S12x128x54x128) off S12x128x54x128.size hi).toLoadRect (harg1.unread x1) = x1 := by
  subst h
  funext i
  refine (harg1.readAt_unread x1 _ i).trans (congrArg x1 (funext fun d => Fin.ext ((LoadRect.idx_apply _ i d).trans ?_)))
  simp
theorem rd2 (off) (h : off = fun _ => 0) (hi) : View.readAt (Elt Ideal) arg2.view (Rect.unit (s := S12x128x54) off S12x128x54.size hi).toLoadRect (harg2.unread x2) = x2 := by
  subst h
  funext i
  refine (harg2.readAt_unread x2 _ i).trans (congrArg x2 (funext fun d => Fin.ext ((LoadRect.idx_apply _ i d).trans ?_)))
  simp

theorem peer6_at (b : Fin 12) (p : Fin 128) : kernelRun0_A.sl.r_6 (F := Ideal) c arg3 harg3 x3 (ix2 b p) = x3 (ix3 0 b p) := by
  unfold kernelRun0_A.sl.r_6
  have e : ∀ v : Vec Ideal S1x12x128 .f32, k0_pay4 v (ix2 b p) = v (ix3 0 b p) := fun v => by pointwise [k0_pay4]
  refine (e _).trans ?_
  rw [harg3.readAt_unread x3 _ _]
  refine congrArg x3 ?_
  rw [eq_ix3 (LoadRect.idx _ _)]
  congr 1 <;> apply Fin.ext <;> simp [LoadRect.idx_apply]

theorem peer8_at (b : Fin 12) (p : Fin 128) : kernelRun0_A.sl.r_8 (F := Ideal) c arg3 harg3 x3 (ix2 b p) = x3 (ix3 1 b p) := by
  unfold kernelRun0_A.sl.r_8
  have e : ∀ v : Vec Ideal S1x12x128 .f32, k0_pay6 v (ix2 b p) = v (ix3 0 b p) := fun v => by pointwise [k0_pay6]
  refine (e _).trans ?_
  rw [harg3.readAt_unread x3 _ _]
  refine congrArg x3 ?_
  rw [eq_ix3 (LoadRect.idx _ _)]
  congr 1 <;> apply Fin.ext <;> simp [LoadRect.idx_apply]

theorem peer10_at (b : Fin 12) (p : Fin 128) : kernelRun0_A.sl.r_10 (F := Ideal) c arg3 harg3 x3 (ix2 b p) = x3 (ix3 2 b p) := by
  unfold kernelRun0_A.sl.r_10
  have e : ∀ v : Vec Ideal S1x12x128 .f32, k0_pay8 v (ix2 b p) = v (ix3 0 b p) := fun v => by pointwise [k0_pay8]
  refine (e _).trans ?_
  rw [harg3.readAt_unread x3 _ _]
  refine congrArg x3 ?_
  rw [eq_ix3 (LoadRect.idx _ _)]
  congr 1 <;> apply Fin.ext <;> simp [LoadRect.idx_apply]

theorem peer7_at (b : Fin 12) (p : Fin 128) : kernelRun0_A.sl.r_7 (F := Ideal) c arg4 harg4 x4 (ix2 b p) = x4 (ix3 0 b p) := by
  unfold kernelRun0_A.sl.r_7
  have e : ∀ v : Vec Ideal S1x12x128 .f32, k0_pay5 v (ix2 b p) = v (ix3 0 b p) := fun v => by pointwise [k0_pay5]
  refine (e _).trans ?_
  rw [harg4.readAt_unread x4 _ _]
  refine congrArg x4 ?_
  rw [eq_ix3 (LoadRect.idx _ _)]
  congr 1 <;> apply Fin.ext <;> simp [LoadRect.idx_apply]

theorem peer9_at (b : Fin 12) (p : Fin 128) : kernelRun0_A.sl.r_9 (F := Ideal) c arg4 harg4 x4 (ix2 b p) = x4 (ix3 1 b p) := by
  unfold kernelRun0_A.sl.r_9
  have e : ∀ v : Vec Ideal S1x12x128 .f32, k0_pay7 v (ix2 b p) = v (ix3 0 b p) := fun v => by pointwise [k0_pay7]
  refine (e _).trans ?_
  rw [harg4.readAt_unread x4 _ _]
  refine congrArg x4 ?_
  rw [eq_ix3 (LoadRect.idx _ _)]
  congr 1 <;> apply Fin.ext <;> simp [LoadRect.idx_apply]

theorem peer11_at (b : Fin 12) (p : Fin 128) : kernelRun0_A.sl.r_11 (F := Ideal) c arg4 harg4 x4 (ix3 0 b p) = x4 (ix3 2 b p) := by
  unfold kernelRun0_A.sl.r_11
  rw [harg4.readAt_unread x4 _ _]
  refine congrArg x4 ?_
  rw [eq_ix3 (LoadRect.idx _ _)]
  congr 1 <;> apply Fin.ext <;> simp [LoadRect.idx_apply]

theorem count0_at : kernelRun0_A.sl.r (F := Ideal) c arg0 harg0 x0 = x0 (ix1 0) := by
  unfold kernelRun0_A.sl.r
  rw [harg0.readAt_unread x0 _ _]
  refine congrArg x0 ?_
  rw [eq_ix1 (LoadRect.idx _ _)]
  congr 1

theorem count1_at : kernelRun0_A.sl.r_1 (F := Ideal) c arg0 harg0 x0 = x0 (ix1 1) := by
  unfold kernelRun0_A.sl.r_1
  rw [harg0.readAt_unread x0 _ _]
  refine congrArg x0 ?_
  rw [eq_ix1 (LoadRect.idx _ _)]
  congr 1

theorem count2_at : kernelRun0_A.sl.r_2 (F := Ideal) c arg0 harg0 x0 = x0 (ix1 2) := by
  unfold kernelRun0_A.sl.r_2
  rw [harg0.readAt_unread x0 _ _]
  refine congrArg x0 ?_
  rw [eq_ix1 (LoadRect.idx _ _)]
  congr 1

theorem z4 : (![0, 0, 0, 0] : Fin 4 → ℕ) = fun _ => 0 := by decide
theorem z3 : (![0, 0, 0] : Fin 3 → ℕ) = fun _ => 0 := by decide
theorem z2 : (![0, 0] : Fin 2 → ℕ) = fun _ => 0 := by decide

theorem read_one {sig : RefSig} {κ : Kind} {sp : Space} {s : Shape} {e : EltTy} (v : View sig κ sp s e) (f : v.ty.Contents (Elt Ideal))
    (off : Fin s.rank → ℕ) (h : off = fun _ => 0) (hi : ∀ a, off a + s.size a ≤ s.size a) (w : s.Idx → Elt Ideal e) :
    v.read (Elt Ideal) (v.writes (Elt Ideal) f [⟨Rect.unit off s.size hi, w⟩]) = w := by
  rw [View.read_writes_eq_canon _ _ _ fun y => ⟨_, List.mem_singleton_self _, View.mem_set_unit_zero h hi y⟩]
  exact View.canon_unit_zero h hi w

theorem out9_eq : out0_A_9 (F := Ideal) c arg0 harg0 arg1 harg1 arg2 harg2 arg3 harg3 arg4 harg4 arg5 harg5 arg6 harg6 arg7 harg7 arg8 harg8 arg9 harg9 arg10 harg10 x0 x1 x2 x3 x4 x5 x6 = fun i => refMean x0 x1 x2 x3 (i 0) (i 1) := by
  have e : out0_A_9 (F := Ideal) c arg0 harg0 arg1 harg1 arg2 harg2 arg3 harg3 arg4 harg4 arg5 harg5 arg6 harg6 arg7 harg7 arg8 harg8 arg9 harg9 arg10 harg10 x0 x1 x2 x3 x4 x5 x6 = kernelRun0_A.sl.r_12 c arg0 harg0 arg1 harg1 arg2 harg2 arg3 harg3 x0 x1 x2 x3 :=
    read_one _ _ _ z2 _ _
  rw [e]
  funext i
  rw [eq_ix2 i]
  generalize i 0 = b, i 1 = p
  change Fin 12 at b
  change Fin 128 at p
  refine (pay17_apply _ _ _ _ _ _ _ b p).trans ?_
  unfold kernelRun0_A.sl.r_4
  rw [rd1 _ _ _ _ z4, rd2 _ _ _ _ z3, count0_at, count1_at, count2_at, peer6_at, peer8_at, peer10_at, pay2_apply]
  rfl

theorem out10_eq : out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 = fun i => refRstd x0 x1 x2 x3 x4 (i 0) (i 1) := by
  have e : out0_A_10 (F := Ideal) c arg0 harg0 arg1 harg1 arg2 harg2 arg3 harg3 arg4 harg4 arg5 harg5 arg6 harg6 arg7 harg7 arg8 harg8 arg9 harg9 arg10 harg10 x0 x1 x2 x3 x4 x5 x6 = kernelRun0_A.sl.r_13 c arg0 harg0 arg1 harg1 arg2 harg2 arg3 harg3 arg4 harg4 x0 x1 x2 x3 x4 :=
    read_one _ _ _ z2 _ _
  rw [e]
  funext i
  rw [eq_ix2 i]
  generalize i 0 = b, i 1 = p
  change Fin 12 at b
  change Fin 128 at p
  refine (pay18_apply _ _ _ _ _ _ _ _ _ _ _ b p).trans ?_
  unfold kernelRun0_A.sl.r_4 kernelRun0_A.sl.r_5
  rw [rd1 _ _ _ _ z4, rd2 _ _ _ _ z3, count0_at, count1_at, count2_at, peer6_at, peer8_at, peer10_at, peer7_at, peer9_at, peer11_at, pay2_apply, pay3_apply]
  rfl
end Out

end Cert.LnRef

end
-- ==== Proof.LnRefIn.lean ====
/- What the input windows of `ReferenceIdeal` hold, read off the arguments as launched. -/
module

public import proofs.«01_k».proof.Proof.LnRef

@[expose] public section

noncomputable section

namespace Cert.LnRefIn

open Idealize.ShloMosaic Idealize.ShloMosaic.TcCoe
open Cert.ReferenceIdeal Cert.ReferenceIdeal.Gen Cert.LnRef

variable (m : (ℓ : Loc nD τ sig) → Buf (Elt Ideal) ℓ)

/-- Window 0's block at the one point is its whole array. -/
theorem idx0 : ∀ t : Fin cfg0.N, win0_0.index t (0 : Fin 1) = 0 := (by decide +kernel : ∀ t : Fin grid0.N, _)
theorem emb0 (t : Fin cfg0.N) (j : S3.Idx) : ((cfg0.win 0).blk t).view.emb j = j := by
  have e0 := idx0 t
  funext a; apply Fin.ext
  match a with
  | ⟨0, _⟩ => show win0_0.index t (0 : Fin 1) * 3 + 1 * (j 0).val = (j 0).val; omega
theorem blk0 (c : Dev nD) (t : Fin cfg0.N) : iblk m c 0 t = V m c main_arg2 := by
  funext j; show V m c main_arg2 (((cfg0.win 0).blk t).view.emb j) = V m c main_arg2 j; rw [emb0]

/-- Window 1's block at the one point is its whole array. -/
theorem idx1 : ∀ t : Fin cfg0.N, win0_1.index t (0 : Fin 4) = 0 ∧ win0_1.index t (1 : Fin 4) = 0 ∧ win0_1.index t (2 : Fin 4) = 0 ∧ win0_1.index t (3 : Fin 4) = 0 := (by decide +kernel : ∀ t : Fin grid0.N, _)
theorem emb1 (t : Fin cfg0.N) (j : S12x128x54x128.Idx) : ((cfg0.win 1).blk t).view.emb j = j := by
  obtain ⟨e0, e1, e2, e3⟩ := idx1 t
  funext a; apply Fin.ext
  match a with
  | ⟨0, _⟩ => show win0_1.index t (0 : Fin 4) * 12 + 1 * (j 0).val = (j 0).val; omega
  | ⟨1, _⟩ => show win0_1.index t (1 : Fin 4) * 128 + 1 * (j 1).val = (j 1).val; omega
  | ⟨2, _⟩ => show win0_1.index t (2 : Fin 4) * 54 + 1 * (j 2).val = (j 2).val; omega
  | ⟨3, _⟩ => show win0_1.index t (3 : Fin 4) * 128 + 1 * (j 3).val = (j 3).val; omega
theorem blk1 (c : Dev nD) (t : Fin cfg0.N) : iblk m c 1 t = V m c main_v1 := by
  funext j; show V m c main_v1 (((cfg0.win 1).blk t).view.emb j) = V m c main_v1 j; rw [emb1]

/-- Window 2's block at the one point is its whole array. -/
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem emb2 (t : Fin cfg0.N) (j : S12x128x54.Idx) : ((cfg0.win 2).blk t).view.emb j = j := by
  obtain ⟨e0, e1, e2⟩ := idx2 t
  funext a; apply Fin.ext
  match a with
  | ⟨0, _⟩ => show win0_2.index t (0 : Fin 3) * 12 + 1 * (j 0).val = (j 0).val; omega
  | ⟨1, _⟩ => show win0_2.index t (1 : Fin 3) * 128 + 1 * (j 1).val = (j 1).val; omega
  | ⟨2, _⟩ => show win0_2.index t (2 : Fin 3) * 54 + 1 * (j 2).val = (j 2).val; omega
theorem blk2 (c : Dev nD) (t : Fin cfg0.N) : iblk m c 2 t = V m c main_arg1 := by
  funext j; show V m c main_arg1 (((cfg0.win 2).blk t).view.emb j) = V m c main_arg1 j; rw [emb2]

/-- Window 3's block at the one point is its whole array. -/
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem emb3 (t : Fin cfg0.N) (j : S3x12x128.Idx) : ((cfg0.win 3).blk t).view.emb j = j := by
  obtain ⟨e0, e1, e2⟩ := idx3 t
  funext a; apply Fin.ext
  match a with
  | ⟨0, _⟩ => show win0_3.index t (0 : Fin 3) * 3 + 1 * (j 0).val = (j 0).val; omega
  | ⟨1, _⟩ => show win0_3.index t (1 : Fin 3) * 12 + 1 * (j 1).val = (j 1).val; omega
  | ⟨2, _⟩ => show win0_3.index t (2 : Fin 3) * 128 + 1 * (j 2).val = (j 2).val; omega
theorem blk3 (c : Dev nD) (t : Fin cfg0.N) : iblk m c 3 t = V m c main_arg3 := by
  funext j; show V m c main_arg3 (((cfg0.win 3).blk t).view.emb j) = V m c main_arg3 j; rw [emb3]

/-- Window 4's block at the one point is its whole array. -/
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem emb4 (t : Fin cfg0.N) (j : S3x12x128.Idx) : ((cfg0.win 4).blk t).view.emb j = j := by
  obtain ⟨e0, e1, e2⟩ := idx4 t
  funext a; apply Fin.ext
  match a with
  | ⟨0, _⟩ => show win0_4.index t (0 : Fin 3) * 3 + 1 * (j 0).val = (j 0).val; omega
  | ⟨1, _⟩ => show win0_4.index t (1 : Fin 3) * 12 + 1 * (j 1).val = (j 1).val; omega
  | ⟨2, _⟩ => show win0_4.index t (2 : Fin 3) * 128 + 1 * (j 2).val = (j 2).val; omega
theorem blk4 (c : Dev nD) (t : Fin cfg0.N) : iblk m c 4 t = V m c main_arg4 := by
  funext j; show V m c main_arg4 (((cfg0.win 4).blk t).view.emb j) = V m c main_arg4 j; rw [emb4]

/-- Window 5's block at the one point is its whole array. -/
theorem idx5 : ∀ t : Fin cfg0.N, win0_5.index t (0 : Fin 2) = 0 ∧ win0_5.index t (1 : Fin 2) = 0 := (by decide +kernel : ∀ t : Fin grid0.N, _)
theorem emb5 (t : Fin cfg0.N) (j : S54x128.Idx) : ((cfg0.win 5).blk t).view.emb j = j := by
  obtain ⟨e0, e1⟩ := idx5 t
  funext a; apply Fin.ext
  match a with
  | ⟨0, _⟩ => show win0_5.index t (0 : Fin 2) * 54 + 1 * (j 0).val = (j 0).val; omega
  | ⟨1, _⟩ => show win0_5.index t (1 : Fin 2) * 128 + 1 * (j 1).val = (j 1).val; omega
theorem blk5 (c : Dev nD) (t : Fin cfg0.N) : iblk m c 5 t = V m c main_v2 := by
  funext j; show V m c main_v2 (((cfg0.win 5).blk t).view.emb j) = V m c main_v2 j; rw [emb5]

/-- Window 6's block at the one point is its whole array. -/
theorem idx6 : ∀ t : Fin cfg0.N, win0_6.index t (0 : Fin 2) = 0 ∧ win0_6.index t (1 : Fin 2) = 0 := (by decide +kernel : ∀ t : Fin grid0.N, _)
theorem emb6 (t : Fin cfg0.N) (j : S54x128.Idx) : ((cfg0.win 6).blk t).view.emb j = j := by
  obtain ⟨e0, e1⟩ := idx6 t
  funext a; apply Fin.ext
  match a with
  | ⟨0, _⟩ => show win0_6.index t (0 : Fin 2) * 54 + 1 * (j 0).val = (j 0).val; omega
  | ⟨1, _⟩ => show win0_6.index t (1 : Fin 2) * 128 + 1 * (j 1).val = (j 1).val; omega
theorem blk6 (c : Dev nD) (t : Fin cfg0.N) : iblk m c 6 t = V m c main_v3 := by
  funext j; show V m c main_v3 (((cfg0.win 6).blk t).view.emb j) = V m c main_v3 j; rw [emb6]

/-- The host's reshaped operand `main_v1`. -/
theorem V_main_v1 (c : Dev nD) : V m c main_v1 = (shapeCast S12x128x54x128 (Host.convertf (F := Ideal) (s := S12x128x6912) (φ := .f32) .fp8e4m3 (m ((c : Thread nD τ).loc main_arg0))) shapeCasts_S12x128x6912_S12x128x54x128 : (⟨S12x128x54x128, .fp8e4m3⟩ : BufTy).Contents (Elt Ideal)) := by
  unfold_abbrev_sides
  after_results
  rfl

/-- The host's reshaped operand `main_v2`. -/
theorem V_main_v2 (c : Dev nD) : V m c main_v2 = (shapeCast S54x128 (m ((c : Thread nD τ).loc main_arg5)) shapeCasts_S6912_S54x128 : (⟨S54x128, .f32⟩ : BufTy).Contents (Elt Ideal)) := by
  unfold_abbrev_sides
  after_results
  rfl

/-- The host's reshaped operand `main_v3`. -/
theorem V_main_v3 (c : Dev nD) : V m c main_v3 = (shapeCast S54x128 (m ((c : Thread nD τ).loc main_arg6)) shapeCasts_S6912_S54x128 : (⟨S54x128, .f32⟩ : BufTy).Contents (Elt Ideal)) := by
  unfold_abbrev_sides
  after_results
  rfl

/-- The column of a block's element. -/
abbrev col (k : Fin 54) (i : Fin 128) : Fin 6912 := ⟨128 * k.val + i.val, by omega⟩

theorem codes_at (c : Dev nD) (t : Fin cfg0.N) (b : Fin 12) (p : Fin 128) (k : Fin 54) (i : Fin 128) :
    (iblk m c 1 t : Vec Ideal S12x128x54x128 .fp8e4m3) (ix4 b p k i) = (m ((c : Thread nD τ).loc main_arg0)) (ix3 b p (col k i)) := by
  rw [blk1, V_main_v1]
  refine (shapeCast_apply _ _ _ (ix3 b p (col k i)) ?_).trans rfl
  rw [Shape.rowMajor_val_three, Shape.rowMajor_val_four]
  simp
  omega

theorem gamma_at (c : Dev nD) (t : Fin cfg0.N) (k : Fin 54) (i : Fin 128) :
    (iblk m c 5 t : Vec Ideal S54x128 .f32) (ix2 k i) = (m ((c : Thread nD τ).loc main_arg5)) (ix1 (col k i)) := by
  rw [blk5, V_main_v2]
  refine (shapeCast_apply _ _ _ (ix1 (col k i)) ?_).trans rfl
  rw [Shape.rowMajor_val_one, Shape.rowMajor_val_two]
  simp
  omega

theorem beta_at (c : Dev nD) (t : Fin cfg0.N) (k : Fin 54) (i : Fin 128) :
    (iblk m c 6 t : Vec Ideal S54x128 .f32) (ix2 k i) = (m ((c : Thread nD τ).loc main_arg6)) (ix1 (col k i)) := by
  rw [blk6, V_main_v3]
  refine (shapeCast_apply _ _ _ (ix1 (col k i)) ?_).trans rfl
  rw [Shape.rowMajor_val_one, Shape.rowMajor_val_two]
  simp
  omega

end Cert.LnRefIn

end
-- ==== Proof.LnConsts.lean ====
/- The literals both programs spell, as real numbers. -/
module

public import proofs.«01_k».proof.Proof.LnChan

@[expose] public section

noncomputable section

namespace Cert.Ln

open Idealize.ShloMosaic

theorem width_eq : width = ((6912 : ℝ) : EReal) := by
  unfold width; simp [Ideal.ofBits, Ideal.ieee, -EReal.coe_mul]; norm_num

theorem recip128_eq : recip128 = ((1 / 128 : ℝ) : EReal) := by
  unfold recip128; simp [Ideal.ofBits, Ideal.ieee, -EReal.coe_mul]; norm_num

theorem lit128_eq : lit128 = ((128 : ℝ) : EReal) := by
  unfold lit128; simp [Ideal.ofBits, Ideal.ieee, -EReal.coe_mul]; norm_num

/-- The small number added to the variance. -/
def epsR : ℝ := 10995116 / 2 ^ 40

theorem eps_eq : eps = (epsR : EReal) := by
  unfold eps epsR; simp [Ideal.ofBits, Ideal.ieee, -EReal.coe_mul]; norm_num

/-- The word of positive infinity. -/
theorem inf_eq : (Ideal.ofBits .f32 0x7F800000#32 : EReal) = ⊤ := by
  simp [Ideal.ofBits, Ideal.ieee]

/-- The word whose exponent field is `E` and whose other bits are zero. -/
def expWord (E : ℕ) : BitVec 32 := BitVec.ofNat 32 (E * 2 ^ 23)

theorem expWord_fields : ∀ E : Fin 256, (expWord E.val).extractLsb' 31 1 = 0#1 ∧ ((expWord E.val).extractLsb' 23 8).toNat = E.val
    ∧ ((expWord E.val).extractLsb' 0 23).toNat = 0 := by decide +kernel

theorem expWord_eq (E : ℕ) (h1 : 1 ≤ E) (h2 : E ≤ 254) : (Ideal.ofBits .f32 (expWord E) : EReal) = (((2 : ℝ) ^ ((E : ℤ) - 127) : ℝ) : EReal) := by
  obtain ⟨f1, f2, f3⟩ := expWord_fields ⟨E, by omega⟩
  simp only at f1 f2 f3
  show Ideal.ieee 8 23 (expWord E) = _
  unfold Ideal.ieee
  have f1' : (expWord E).extractLsb' (8 + 23) 1 = 0#1 := f1
  simp only [f1', f2, f3]
  rw [if_neg (by omega), if_neg (by omega)]
  refine congrArg _ ?_
  have : (2 : ℝ) ^ ((E : ℤ) - 127) = 2 ^ (23 : ℤ) * 2 ^ ((E : ℤ) - (2 ^ (8 - 1) - 1) - (23 : ℕ)) := by
    rw [← zpow_add₀ (by norm_num)]; congr 1; norm_num
  rw [this]; norm_num

/-- The largest magnitude a code holds, and its negative. -/
theorem hi448_eq : (Ideal.ofBits .f32 1138753536#32 : EReal) = ((448 : ℝ) : EReal) := by
  simp [Ideal.ofBits, Ideal.ieee, -EReal.coe_mul]; norm_num
theorem lo448_eq : (Ideal.ofBits .f32 3286237184#32 : EReal) = ((-448 : ℝ) : EReal) := by
  simp [Ideal.ofBits, Ideal.ieee, -EReal.coe_mul]; norm_num
/-- The reciprocal of 448 as both programs spell it. -/
def recip448 : ℝ := 9586981 / 2 ^ 32
theorem recip448_eq : (Ideal.ofBits .f32 991054117#32 : EReal) = (recip448 : EReal) := by
  unfold recip448; simp [Ideal.ofBits, Ideal.ieee, -EReal.coe_mul]; norm_num
theorem one_eq : (Ideal.ofBits .f32 1065353216#32 : EReal) = ((1 : ℝ) : EReal) := by
  simp [Ideal.ofBits, Ideal.ieee, -EReal.coe_mul]; norm_num
theorem two_eq : (Ideal.ofBits .f32 1073741824#32 : EReal) = ((2 : ℝ) : EReal) := by
  simp [Ideal.ofBits, Ideal.ieee, -EReal.coe_mul]; norm_num
theorem zero_eq : (Ideal.ofBits .f32 0#32 : EReal) = ((0 : ℝ) : EReal) := by
  simp [Ideal.ofBits, Ideal.ieee, -EReal.coe_mul]
theorem ninf_eq : (Ideal.ofBits .f32 4286578688#32 : EReal) = ⊥ := by
  simp [Ideal.ofBits, Ideal.ieee]
theorem tiny_eq : (Ideal.ofBits .f32 8388608#32 : EReal) = (((2 : ℝ) ^ (-126 : ℤ) : ℝ) : EReal) :=
  expWord_eq 1 le_rfl (by norm_num)

end Cert.Ln

end
-- ==== Proof.LnAlg.lean ====
/- The block form of a position's mean and sum of squared deviations is the plain one, for finite codes and scales. -/
module

public import proofs.«01_k».proof.Proof.LnConsts

@[expose] public section

noncomputable section

namespace Cert.Ln

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The plain mean, and the plain sum of squared deviations, of 54 blocks of 128 finite codes. -/
def meanR (s : Fin 54 → ℝ) (x : Fin 54 → Fin 128 → ℝ) : ℝ := (∑ b, ∑ i, x b i * s b) / 6912
def m2R (s : Fin 54 → ℝ) (x : Fin 54 → Fin 128 → ℝ) : ℝ := ∑ b, ∑ i, (x b i * s b - meanR s x) * (x b i * s b - meanR s x)

theorem div_width (a : ℝ) : Ideal.div (a : EReal) width = ((a / 6912 : ℝ) : EReal) := by
  rw [width_eq, Ideal.div_coe (by norm_num : (6912 : ℝ) ≠ 0), ← EReal.coe_mul]
  congr 1; ring

variable (s : Fin 54 → ℝ) (x : Fin 54 → Fin 128 → ℝ)

theorem kMean_coe : kMean (fun b => (s b : EReal)) (fun b => ∑ i, (x b i : EReal)) = (meanR s x : EReal) := by
  unfold kMean
  simp only [← coe_sum, ← EReal.coe_mul]
  rw [div_width]
  unfold meanR
  congr 2
  refine Finset.sum_congr rfl fun b _ => ?_
  rw [Finset.mul_sum]
  exact Finset.sum_congr rfl fun i _ => mul_comm _ _

theorem kM2_coe : kM2 (fun b => (s b : EReal)) (fun b => ∑ i, (x b i : EReal)) (fun b => ∑ i, (x b i : EReal) * (x b i : EReal)) = (m2R s x : EReal) := by
  unfold kM2
  simp only [kMean_coe]
  simp only [recip128_eq, lit128_eq, ← EReal.coe_mul, ← coe_sum, ← EReal.coe_sub, ← EReal.coe_add]
  refine congrArg Real.toEReal ?_
  unfold m2R
  generalize meanR s x = m
  refine Finset.sum_congr rfl fun b _ => ?_
  have e : ∀ i : Fin 128, (x b i * s b - m) * (x b i * s b - m) = s b * s b * (x b i * x b i) - 2 * m * s b * x b i + m * m := fun i => by ring
  simp only [e, Finset.sum_add_distrib, Finset.sum_sub_distrib, ← Finset.mul_sum (s := Finset.univ), Finset.sum_const, Finset.card_univ, Fintype.card_fin, nsmul_eq_mul]
  push_cast
  ring

theorem plain_mean : Ideal.div (∑ b, ∑ i, (x b i : EReal) * (s b : EReal)) width = (meanR s x : EReal) := by
  simp only [← EReal.coe_mul, ← coe_sum]
  exact div_width _

theorem plain_m2 : ∑ b, ∑ i, ((x b i : EReal) * (s b : EReal) - (meanR s x : EReal)) * ((x b i : EReal) * (s b : EReal) - (meanR s x : EReal))
    = (m2R s x : EReal) := by
  simp only [← EReal.coe_mul, ← EReal.coe_sub, ← coe_sum]
  rfl

end Cert.Ln

end
-- ==== Proof.LnStat.lean ====
/- The kernel's statistics are the reference's when the codes and their scales are finite. -/
module

public import proofs.«01_k».proof.Proof.LnKer
public import proofs.«01_k».proof.Proof.LnRefIn
public import proofs.«01_k».proof.Proof.LnAlg
public import Idealize.ShloMosaic.Lib.Pipeline.ValueKit.Geometry

@[expose] public section

noncomputable section

namespace Cert.Ln

open Idealize.ShloMosaic Idealize.ShloMosaic.TcCoe
open Cert.LnRef

section Point
variable (x0 : Vec Ideal Cert.KernelIdeal.S3 .f32) (x3 x4 : Vec Ideal Cert.KernelIdeal.S3x12x128 .f32)
  (k1 : Vec Ideal Cert.KernelIdeal.S1536x6912 .fp8e4m3) (k2 : Vec Ideal Cert.KernelIdeal.S1536x54 .f32)
  (r1 : Vec Ideal Cert.ReferenceIdeal.S12x128x54x128 .fp8e4m3) (r2 : Vec Ideal Cert.ReferenceIdeal.S12x128x54 .f32)
  (b : Fin 12) (p : Fin 128)
  (h1 : ∀ k i, k1 (ix2 (rowAt b p) (colOf k i)) = r1 (ix4 b p k i))
  (h2 : ∀ k, k2 (ix2 (rowAt b p) k) = r2 (ix3 b p k))
  (hc : ∀ k i, ∃ a : ℝ, (r1 (ix4 b p k i) : EReal) = a) (hs : ∀ k, ∃ a : ℝ, (r2 (ix3 b p k) : EReal) = a)

include h1 h2 hc hs

theorem mean_row : kMean (rowScale k2 (rowAt b p)) (blockSum k1 (rowAt b p)) = rMean r1 r2 b p := by
  choose x hx using hc
  choose s hs using hs
  have e1 : rowScale k2 (rowAt b p) = fun k => (s k : EReal) := funext fun k => (h2 k).trans (hs k)
  have e2 : blockSum k1 (rowAt b p) = fun k => ∑ i, (x k i : EReal) :=
    funext fun k => Finset.sum_congr rfl fun i _ => (h1 k i).trans (hx k i)
  rw [e1, e2, kMean_coe]
  unfold rMean
  simp only [hx, hs]
  exact (plain_mean s x).symm

theorem m2_row : kM2 (rowScale k2 (rowAt b p)) (blockSum k1 (rowAt b p)) (blockSq k1 (rowAt b p)) = rM2 r1 r2 b p := by
  have hm := mean_row k1 k2 r1 r2 b p h1 h2 hc hs
  choose x hx using hc
  choose s hs using hs
  have e1 : rowScale k2 (rowAt b p) = fun k => (s k : EReal) := funext fun k => (h2 k).trans (hs k)
  have e2 : blockSum k1 (rowAt b p) = fun k => ∑ i, (x k i : EReal) :=
    funext fun k => Finset.sum_congr rfl fun i _ => (h1 k i).trans (hx k i)
  have e3 : blockSq k1 (rowAt b p) = fun k => ∑ i, (x k i : EReal) * (x k i : EReal) :=
    funext fun k => Finset.sum_congr rfl fun i _ => by rw [(h1 k i).trans (hx k i)]
  have em : rMean r1 r2 b p = (meanR s x : EReal) := by rw [← hm, e1, e2, kMean_coe]
  rw [e1, e2, e3, kM2_coe]
  unfold rM2
  simp only [em, hx, hs]
  exact (plain_m2 s x).symm

theorem meanAt_eq : meanAt x0 k1 k2 x3 b p = refMean x0 r1 r2 x3 b p := by
  unfold meanAt
  rw [mean_row k1 k2 r1 r2 b p h1 h2 hc hs]
  rfl

theorem rstdAt_eq : rstdAt x0 k1 k2 x3 x4 b p = refRstd x0 r1 r2 x3 x4 b p := by
  unfold rstdAt
  rw [mean_row k1 k2 r1 r2 b p h1 h2 hc hs, m2_row k1 k2 r1 r2 b p h1 h2 hc hs]
  rfl

end Point

/-! ## The statistics after the kernel's run -/

section Kernel
open Cert.KernelIdeal Cert.KernelIdeal.Gen
variable (m : (ℓ : Loc nD τ sig) → Buf (Elt Ideal) ℓ)

theorem ker_mean (c : Dev nD) (t : Fin cfg0.N) : (Cert.LnRun.dats m 0 c).arrAt 9 cfg0.N
    = Cert.LnRun.meanOut (iblk m c 0 t) (iblk m c 1 t) (iblk m c 2 t) (iblk m c 3 t) := by
  refine (Cert.LnRun.dats m 0 c).arrAt_eq_of_after_last 9 t ?_ _ fun j => ?_
  · exact (by decide +kernel : ∀ t : Fin grid0.N, (cfg0.win 9).WholeAt t) t
  · rw [Cert.LnRun.after0_9]
    rfl

theorem ker_rstd (c : Dev nD) (t : Fin cfg0.N) : (Cert.LnRun.dats m 0 c).arrAt 10 cfg0.N
    = Cert.LnRun.rstdOut (iblk m c 0 t) (iblk m c 1 t) (iblk m c 2 t) (iblk m c 3 t) (iblk m c 4 t) := by
  refine (Cert.LnRun.dats m 0 c).arrAt_eq_of_after_last 10 t ?_ _ fun j => ?_
  · exact (by decide +kernel : ∀ t : Fin grid0.N, (cfg0.win 10).WholeAt t) t
  · rw [Cert.LnRun.after0_10]
    rfl
end Kernel

section Reference
open Cert.ReferenceIdeal Cert.ReferenceIdeal.Gen
variable (m : (ℓ : Loc nD τ sig) → Buf (Elt Ideal) ℓ)

theorem ref_mean (c : Dev nD) (t : Fin cfg0.N) : (dats m 0 c).arrAt 9 cfg0.N
    = fun i : S12x128.Idx => refMean (iblk m c 0 t) (iblk m c 1 t) (iblk m c 2 t) (iblk m c 3 t) (i 0) (i 1) := by
  refine (dats m 0 c).arrAt_eq_of_after_last 9 t ?_ _ fun j => ?_
  · exact (by decide +kernel : ∀ t : Fin grid0.N, (cfg0.win 9).WholeAt t) t
  · rw [after0_9]
    simp only [outsAt0]
    rw [out9_eq]
    rfl

theorem ref_rstd (c : Dev nD) (t : Fin cfg0.N) : (dats m 0 c).arrAt 10 cfg0.N
    = fun i : S12x128.Idx => refRstd (iblk m c 0 t) (iblk m c 1 t) (iblk m c 2 t) (iblk m c 3 t) (iblk m c 4 t) (i 0) (i 1) := by
  refine (dats m 0 c).arrAt_eq_of_after_last 10 t ?_ _ fun j => ?_
  · exact (by decide +kernel : ∀ t : Fin grid0.N, (cfg0.win 10).WholeAt t) t
  · rw [after0_10]
    simp only [outsAt0]
    rw [out10_eq]
    rfl
end Reference

end Cert.Ln

end
-- ==== Proof.LnNorm.lean ====
/- The pieces the second loop writes, trip by trip: the quantised codes of a block of columns, and the block's scales. -/
module

public import proofs.«01_k».proof.Proof.LnLoop
import all proofs.«01_k».proof.Proof.Gen.KernelIdeal.Loops

@[expose] public section

set_option maxRecDepth 16384

noncomputable section

namespace Cert.Ln

open Idealize.ShloMosaic Idealize.ShloMosaic.TcCoe
open Cert.KernelIdeal Cert.KernelIdeal.Gen

variable {F : FTy → Type} [FloatOps F]

section Ops

/-- The scales of a group and block, as words. -/
def scOp (v : Vec F S1x8x128 .f32) : FVec F S8x128 .f32 := shapeCast S8x128 v shapeCasts_S1x8x128_S8x128

/-- One over the scales. -/
def invOp (v : Vec F S1x8x128 .f32) : FVec F S8x128 .f32 :=
  divf (broadcast S8x128 (Scalar.ofBits .f32 0x3F800000#32 : F .f32)) (scOp v)

/-- A number's three parts, the first two rounded. -/
def hiOp (x : FVec F S8x128 .f32) : FVec F S8x128 .f32 := extf .f32 (truncf .bf16 x)
def midOp (x : FVec F S8x128 .f32) : FVec F S8x128 .f32 := hiOp (subf x (hiOp x))
def loOp (x : FVec F S8x128 .f32) : FVec F S8x128 .f32 := subf (subf x (hiOp x)) (midOp x)

/-- The numbers every weight of a group and block meets: minus the mean over the scale, and one over the scale and the
   reciprocal deviation. -/
def rhsOp (mean rstd : FVec F S8x128 .f32) (v : Vec F S1x8x128 .f32) : FVec F S128x128 .bf16 :=
  have a := mulf (subf (broadcast S8x128 (Scalar.ofBits .f32 0x00000000#32 : F .f32)) mean) (invOp v)
  have b := divf (invOp v) rstd
  have z := broadcast S8x128 (Scalar.ofBits .f32 0x00000000#32 : F .f32)
  truncf .bf16 (concatenate S128x128 0 [⟨S8x128, hiOp a⟩, ⟨S8x128, hiOp a⟩, ⟨S8x128, midOp a⟩, ⟨S8x128, midOp a⟩, ⟨S8x128, loOp a⟩, ⟨S8x128, loOp a⟩, ⟨S8x128, hiOp b⟩, ⟨S8x128, hiOp b⟩, ⟨S8x128, midOp b⟩, ⟨S8x128, midOp b⟩, ⟨S8x128, loOp b⟩, ⟨S8x128, loOp b⟩, ⟨S8x128, z⟩, ⟨S8x128, z⟩, ⟨S8x128, z⟩, ⟨S8x128, z⟩] concatenates_S8x128_S8x128_S8x128_S8x128_S8x128_S8x128_S8x128_S8x128_S8x128_S8x128_S8x128_S8x128_S8x128_S8x128_S8x128_S8x128_S128x128_d0) bitsLt_bf16_f32

/-- The weights times those numbers, the groups side by side and the first weight in the last columns. -/
def accOp (L : Vec F S1x512x128 .bf16) (R0 R1 R2 : FVec F S128x128 .bf16) : FVec F S512x512 .f32 :=
  matmul dot_S512x128_S128x512_S512x512_1_0_0_1_n_n none (shapeCast S512x128 L shapeCasts_S1x512x128_S512x128)
    (concatenate S128x512 1 [⟨S128x128, R0⟩, ⟨S128x128, R1⟩, ⟨S128x128, R2⟩, ⟨S128x128, k0_pay432⟩]
      concatenates_S128x128_S128x128_S128x128_S128x128_S128x512_d1) (constant S512x512 .f32 0x00000000#32)

/-- 128 of its columns. -/
def colOp (o : Fin 2 → ℕ) (h : S512x512.Slices o S512x128) (t : FVec F S512x512 .f32) : FVec F S64x8x128 .f32 :=
  shapeCast S64x8x128 (extractStridedSlice S512x128 o t h) shapeCasts_S512x128_S64x8x128

/-- The normalised numbers, short of the factor they share. -/
def wOp (x : Vec F S1x1x512x128 .fp8e4m3) (gam off : FVec F S64x8x128 .f32) : FVec F S64x8x128 .f32 :=
  addf (mulf (shapeCast S64x8x128 (extf .f32 (shapeCast S512x128 x shapeCasts_S1x1x512x128_S512x128 : FVec F S512x128 .fp8e4m3) bitsLt_fp8e4m3_f32)
    shapeCasts_S512x128_S64x8x128) gam) off

/-- The factor they share. -/
def gainOp (v : Vec F S1x8x128 .f32) (rstd : FVec F S8x128 .f32) : FVec F S8x128 .f32 := mulf (scOp v) rstd

/-- The largest magnitude of a block, over 448. -/
def tOp (gain : FVec F S8x128 .f32) (w : FVec F S64x8x128 .f32) : FVec F S8x128 .f32 :=
  have m : FVec F S8x128 .f32 := multiReduction .maximumf [0] S8x128 (absf w) 0xFF800000#32 reduces_S64x8x128_S8x128 (.inl rfl) rfl
  mulf (mulf (maximumf m (dynamicRotate 0 4#32 none m rotates_S8x128_d0)) gain) (broadcast S8x128 (Scalar.ofBits .f32 0x3B124925#32 : F .f32))

/-- One step of the search for the exponent's bits. -/
def stepOp (c : BitVec 32) (x : FVec F S8x128 .f32) (b : IVec S8x128 32) : IVec S8x128 32 :=
  select (cmpf .oge x (bitcastToFloat .f32 (ori b (broadcast S8x128 c)))) (ori b (broadcast S8x128 c)) b

/-- The bits of a number's exponent. -/
def bitsOp (x : FVec F S8x128 .f32) : IVec S8x128 32 :=
  stepOp 8388608#32 x (stepOp 16777216#32 x (stepOp 33554432#32 x (stepOp 67108864#32 x (stepOp 134217728#32 x
    (stepOp 268435456#32 x (stepOp 536870912#32 x (stepOp 1073741824#32 x (broadcast S8x128 0#32))))))))

/-- The scale a block is stored with. -/
def esOp (gain : FVec F S8x128 .f32) (w : FVec F S64x8x128 .f32) : FVec F S1x8x128 .f32 :=
  have b := bitsOp (tOp gain w)
  shapeCast S1x8x128 (bitcastToFloat .f32 (select (cmpi .eq b (broadcast S8x128 0#32)) (broadcast S8x128 1065353216#32)
    (addi b (broadcast S8x128 8388608#32))) : FVec F S8x128 .f32) shapeCasts_S8x128_S1x8x128

/-- The factor a block is stored with, one over its scale. -/
def kOp (gain : FVec F S8x128 .f32) (w : FVec F S64x8x128 .f32) : FVec F S8x128 .f32 :=
  have b := bitsOp (tOp gain w)
  mulf gain (bitcastToFloat .f32 (select (cmpi .eq b (broadcast S8x128 0#32)) (broadcast S8x128 1065353216#32)
    (subi (broadcast S8x128 2122317824#32) b)))

/-- The codes of a block. -/
def yOp (gain : FVec F S8x128 .f32) (w : FVec F S64x8x128 .f32) : FVec F S512x128 .fp8e4m3 :=
  have q : FVec F S64x8x128 .f32 := minimumf (broadcast S64x8x128 (Scalar.ofBits .f32 0x43E00000#32 : F .f32)) (maximumf (broadcast S64x8x128 (Scalar.ofBits .f32 0xC3E00000#32 : F .f32))
    (mulf w (broadcastTo S64x8x128 (shapeCast S1x8x128 (kOp gain w) shapeCasts_S8x128_S1x8x128) broadcasts_S1x8x128_S64x8x128)))
  shapeCast S512x128 (transpose S128x4x128 [2, 1, 0] (shapeCast S128x4x128 (shapeCast S512x128 (truncf .fp8e4m3 q bitsLt_fp8e4m3_f32 : FVec F S64x8x128 .fp8e4m3)
    shapeCasts_S64x8x128_S512x128) shapeCasts_S512x128_S128x4x128) transposes_S128x4x128_p2_1_0_S128x4x128) shapeCasts_S128x4x128_S512x128

end Ops

section Pieces
variable (arg11 : Memref sig .tc .vmem S3x54x512x128 .fp8e4m3) (arg12 : Memref sig .tc .vmem S54x512x128 .bf16)
  (arg13 : Memref sig .tc .vmem S3x432x128 .f32) (m0 r0 m1 r1 m2 r2 : FVec F S8x128 .f32)
  (X11 : arg11.view.ty.Contents (Elt F)) (X12 : arg12.view.ty.Contents (Elt F)) (X13 : arg13.view.ty.Contents (Elt F))
  (k : Fin k0_t2_loop.trips)

def sc0 : Vec F S1x8x128 .f32 := View.readAt (Elt F) arg13.view (Rect.unit (s := S3x432x128) (k0_off12 k) S1x8x128.size (k0_off12_inb k)).toLoadRect X13
def sc1 : Vec F S1x8x128 .f32 := View.readAt (Elt F) arg13.view (Rect.unit (s := S3x432x128) (k0_off13 k) S1x8x128.size (k0_off13_inb k)).toLoadRect X13
def sc2 : Vec F S1x8x128 .f32 := View.readAt (Elt F) arg13.view (Rect.unit (s := S3x432x128) (k0_off14 k) S1x8x128.size (k0_off14_inb k)).toLoadRect X13
def lh : Vec F S1x512x128 .bf16 := View.readAt (Elt F) arg12.view (Rect.unit (s := S54x512x128) (k0_off15 k) S1x512x128.size (k0_off15_inb k)).toLoadRect X12
def xr0 : Vec F S1x1x512x128 .fp8e4m3 := View.readAt (Elt F) arg11.view (Rect.unit (s := S3x54x512x128) (k0_off16 k) S1x1x512x128.size (k0_off16_inb k)).toLoadRect X11
def xr1 : Vec F S1x1x512x128 .fp8e4m3 := View.readAt (Elt F) arg11.view (Rect.unit (s := S3x54x512x128) (k0_off18 k) S1x1x512x128.size (k0_off18_inb k)).toLoadRect X11
def xr2 : Vec F S1x1x512x128 .fp8e4m3 := View.readAt (Elt F) arg11.view (Rect.unit (s := S3x54x512x128) (k0_off20 k) S1x1x512x128.size (k0_off20_inb k)).toLoadRect X11

/-- The weights times the numbers they meet, for one block. -/
def acc : FVec F S512x512 .f32 :=
  accOp (lh arg12 X12 k) (rhsOp m0 r0 (sc0 arg13 X13 k)) (rhsOp m1 r1 (sc1 arg13 X13 k)) (rhsOp m2 r2 (sc2 arg13 X13 k))

def w0 : FVec F S64x8x128 .f32 := wOp (xr0 arg11 X11 k) (colOp ![0, 384] slices_S512x512_o0_384_S512x128 (acc arg12 arg13 m0 r0 m1 r1 m2 r2 X12 X13 k))
  (colOp ![0, 0] slices_S512x512_o0_0_S512x128 (acc arg12 arg13 m0 r0 m1 r1 m2 r2 X12 X13 k))
def w1 : FVec F S64x8x128 .f32 := wOp (xr1 arg11 X11 k) (colOp ![0, 384] slices_S512x512_o0_384_S512x128 (acc arg12 arg13 m0 r0 m1 r1 m2 r2 X12 X13 k))
  (colOp ![0, 128] slices_S512x512_o0_128_S512x128 (acc arg12 arg13 m0 r0 m1 r1 m2 r2 X12 X13 k))
def w2 : FVec F S64x8x128 .f32 := wOp (xr2 arg11 X11 k) (colOp ![0, 384] slices_S512x512_o0_384_S512x128 (acc arg12 arg13 m0 r0 m1 r1 m2 r2 X12 X13 k))
  (colOp ![0, 256] slices_S512x512_o0_256_S512x128 (acc arg12 arg13 m0 r0 m1 r1 m2 r2 X12 X13 k))

/-- The codes a trip stores. -/
def yL : List (View.Piece (Elt F) S1536x6912 .fp8e4m3) :=
  [⟨Rect.unit (k0_off21 k) S512x128.size (k0_off21_inb k), yOp (gainOp (sc2 arg13 X13 k) r2) (w2 arg11 arg12 arg13 m0 r0 m1 r1 m2 r2 X11 X12 X13 k)⟩,
   ⟨Rect.unit (k0_off19 k) S512x128.size (k0_off19_inb k), yOp (gainOp (sc1 arg13 X13 k) r1) (w1 arg11 arg12 arg13 m0 r0 m1 r1 m2 r2 X11 X12 X13 k)⟩,
   ⟨Rect.unit (k0_off17 k) S512x128.size (k0_off17_inb k), yOp (gainOp (sc0 arg13 X13 k) r0) (w0 arg11 arg12 arg13 m0 r0 m1 r1 m2 r2 X11 X12 X13 k)⟩]

/-- The scales a trip stores. -/
def esL : List (View.Piece (Elt F) S3x432x128 .f32) :=
  [⟨Rect.unit (k0_off14 k) S1x8x128.size (k0_off14_inb k), esOp (gainOp (sc2 arg13 X13 k) r2) (w2 arg11 arg12 arg13 m0 r0 m1 r1 m2 r2 X11 X12 X13 k)⟩,
   ⟨Rect.unit (k0_off13 k) S1x8x128.size (k0_off13_inb k), esOp (gainOp (sc1 arg13 X13 k) r1) (w1 arg11 arg12 arg13 m0 r0 m1 r1 m2 r2 X11 X12 X13 k)⟩,
   ⟨Rect.unit (k0_off12 k) S1x8x128.size (k0_off12_inb k), esOp (gainOp (sc0 arg13 X13 k) r0) (w0 arg11 arg12 arg13 m0 r0 m1 r1 m2 r2 X11 X12 X13 k)⟩]

end Pieces

section Loop
variable (𝒱 : Variants) (c : Dev nD) (bd : Option 𝒱.V) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole) (v2961 : FVec F S8x128 .f32) (v2971 : FVec F S8x128 .f32) (v3033 : FVec F S8x128 .f32) (v3043 : FVec F S8x128 .f32) (v3105 : FVec F S8x128 .f32) (v3115 : FVec F S8x128 .f32) (v3364 : FVec F S128x128 .f32) (v3388 : FVec F S128x128 .f32) (v3412 : FVec F S128x128 .f32) (v3455 : IVec S12x128 1) (v3470 : FVec F S12x128 .f32) (v3480 : FVec F S12x128 .f32) (cst_1268 : F .f32) (X_arg11 : BufTy.Contents (Elt F) arg11.view.ty) (X_arg12 : BufTy.Contents (Elt F) arg12.view.ty) (X_arg13 : BufTy.Contents (Elt F) arg13.view.ty)

/-- One trip's two lists. -/
theorem trip2_eq (k : Fin k0_t2_loop.trips) :
    tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2961 v2971 v3033 v3043 v3105 v3115 v3364 v3388 v3412 v3455 v3470 v3480 cst_1268 X_arg11 X_arg12 X_arg13 k
      = (yL arg11 arg12 arg13 v2961 v2971 v3033 v3043 v3105 v3115 X_arg11 X_arg12 X_arg13 k,
          esL arg11 arg12 arg13 v2961 v2971 v3033 v3043 v3105 v3115 X_arg11 X_arg12 X_arg13 k) := by
  unfold tripL_k0_t2 trip_k0_t2; rfl

/-- The lists after `n` trips. -/
theorem pb2_eq : ∀ n, n ≤ k0_t2_loop.trips →
    pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2961 v2971 v3033 v3043 v3105 v3115 v3364 v3388 v3412 v3455 v3470 v3480 cst_1268 X_arg11 X_arg12 X_arg13 n
      = (upto (yL arg11 arg12 arg13 v2961 v2971 v3033 v3043 v3105 v3115 X_arg11 X_arg12 X_arg13) n,
          upto (esL arg11 arg12 arg13 v2961 v2971 v3033 v3043 v3105 v3115 X_arg11 X_arg12 X_arg13) n)
  | 0, _ => by rw [pb_k0_t2.eq_1]; rfl
  | n + 1, h => by
    have e := pb_k0_t2_succ (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v2961 v2971 v3033 v3043 v3105 v3115 v3364 v3388 v3412 v3455 v3470 v3480 cst_1268 X_arg11 X_arg12 X_arg13 ⟨n, h⟩
    rw [trip2_eq] at e
    have ih := pb2_eq n (Nat.le_of_succ_le h)
    simp only at e
    rw [ih] at e
    rw [e]
    simp only [show n + 1 = (⟨n, h⟩ : Fin k0_t2_loop.trips).val + 1 from rfl, upto_succ]

end Loop

end Cert.Ln

end
-- ==== Proof.LnBlock.lean ====
/- What one trip of the second loop works on: the spread weights, the numbers they meet, and the normalised words short of
   the factor they share. -/
module

public import proofs.«01_k».proof.Proof.LnNorm
public import proofs.«01_k».proof.Proof.LnMasks

@[expose] public section

set_option maxRecDepth 16384

noncomputable section

namespace Cert.Ln

open Idealize.ShloMosaic Idealize.ShloMosaic.TcCoe
open Cert.KernelIdeal Cert.KernelIdeal.Gen

section Ops
variable {F : FTy → Type} [FloatOps F]

def hi1 (x : FVec F S1x128 .f32) : FVec F S1x128 .f32 := extf .f32 (truncf .bf16 x)

/-- The first four sublanes. -/
def firstOp : IVec S8x128 1 := cmpi .slt (iota .tc S8x128 32 [0] iota_S8x128_d0_w32) (broadcast S8x128 4#32)
def zero8 : FVec F S8x128 .f32 := broadcast S8x128 (Scalar.ofBits .f32 0x00000000#32 : F .f32)
def down (x : FVec F S1x128 .f32) : FVec F S8x128 .f32 := broadcastTo S8x128 (shapeCast S1x128 x shapeCasts_S1x128_S1x128) broadcasts_S1x128_S8x128

/-- A row of weights in three parts: the high part over the middle part, and the low part over nothing. -/
def s0 (g : FVec F S1x128 .f32) : FVec F S8x128 .f32 := select firstOp (down (hi1 g)) (down (hi1 (subf g (hi1 g))))
def s1 (g : FVec F S1x128 .f32) : FVec F S8x128 .f32 := select firstOp (down (subf (subf g (hi1 g)) (hi1 (subf g (hi1 g))))) zero8

/-- Both rows of weights, each part three times. -/
def rowsOp (g b : FVec F S1x128 .f32) : FVec F S128x128 .f32 := concatenate S128x128 0 [⟨S8x128, s0 g⟩, ⟨S8x128, s1 g⟩, ⟨S8x128, s0 g⟩, ⟨S8x128, s1 g⟩, ⟨S8x128, s0 g⟩, ⟨S8x128, s1 g⟩, ⟨S8x128, s0 b⟩, ⟨S8x128, s1 b⟩, ⟨S8x128, s0 b⟩, ⟨S8x128, s1 b⟩, ⟨S8x128, s0 b⟩, ⟨S8x128, s1 b⟩, ⟨S8x128, zero8⟩, ⟨S8x128, zero8⟩, ⟨S8x128, zero8⟩, ⟨S8x128, zero8⟩] concatenates_S8x128_S8x128_S8x128_S8x128_S8x128_S8x128_S8x128_S8x128_S8x128_S8x128_S8x128_S8x128_S8x128_S8x128_S8x128_S8x128_S128x128_d0

/-- The weights of a block, spread over the words. -/
def lhsOp (rep : FVec F S512x128 .bf16) (res : IVec S512x128 1) (v5 v6 : Vec F S1x128 .f32) : FVec F S1x512x128 .bf16 :=
  have g : FVec F S1x128 .f32 := shapeCast S1x128 v5 shapeCasts_S1x128_S1x128
  have b : FVec F S1x128 .f32 := shapeCast S1x128 v6 shapeCasts_S1x128_S1x128
  shapeCast S1x512x128 (truncf .bf16 (select res (matmul dot_S512x128_S128x128_S512x128_1_1_0_0_n_n none rep
    (truncf .bf16 (rowsOp g b) bitsLt_bf16_f32 : FVec F S128x128 .bf16)
    (constant S512x128 .f32 0x00000000#32)) (broadcast S512x128 (Scalar.ofBits .f32 0x00000000#32 : F .f32))) bitsLt_bf16_f32 : FVec F S512x128 .bf16) shapeCasts_S512x128_S1x512x128

theorem lhs_eq (rep : FVec F S512x128 .bf16) (res : IVec S512x128 1) (v5 v6 : Vec F S1x128 .f32) :
    k0_pay104 rep res (k0_pay20 v5) (k0_pay21 v5) v6 = lhsOp rep res v5 v6 := rfl

end Ops

theorem select_eq_if {α : Type} (p : Prop) [Decidable p] (a b : α) : Scalar.select (if p then 1#1 else 0#1) a b = if p then a else b := by
  by_cases h : p <;> simp [h, Scalar.select]

/-- Sixteen slabs of eight rows, one under the other. -/
theorem cat16 (f0 f1 f2 f3 f4 f5 f6 f7 f8 f9 f10 f11 f12 f13 f14 f15 : FVec Ideal S8x128 .f32) (c l : Fin 128) :
    concatenate S128x128 0 [⟨S8x128, f0⟩, ⟨S8x128, f1⟩, ⟨S8x128, f2⟩, ⟨S8x128, f3⟩, ⟨S8x128, f4⟩, ⟨S8x128, f5⟩, ⟨S8x128, f6⟩, ⟨S8x128, f7⟩, ⟨S8x128, f8⟩, ⟨S8x128, f9⟩, ⟨S8x128, f10⟩, ⟨S8x128, f11⟩, ⟨S8x128, f12⟩, ⟨S8x128, f13⟩, ⟨S8x128, f14⟩, ⟨S8x128, f15⟩] concatenates_S8x128_S8x128_S8x128_S8x128_S8x128_S8x128_S8x128_S8x128_S8x128_S8x128_S8x128_S8x128_S8x128_S8x128_S8x128_S8x128_S128x128_d0 (ix2 c l)
      = (![f0, f1, f2, f3, f4, f5, f6, f7, f8, f9, f10, f11, f12, f13, f14, f15] : Fin 16 → FVec Ideal S8x128 .f32) ⟨c.val / 8, by omega⟩ (ix2 ⟨c.val % 8, by omega⟩ l) := by
  refine concatenate_ofFn_apply (s₁ := S8x128) (t := S128x128) 0 (![f0, f1, f2, f3, f4, f5, f6, f7, f8, f9, f10, f11, f12, f13, f14, f15] : Fin 16 → FVec Ideal S8x128 .f32) concatenates_S8x128_S8x128_S8x128_S8x128_S8x128_S8x128_S8x128_S8x128_S8x128_S8x128_S8x128_S8x128_S8x128_S8x128_S8x128_S8x128_S128x128_d0 rfl 8 rfl (ix2 c l)
    ⟨c.val / 8, by omega⟩ rfl (ix2 ⟨c.val % 8, by omega⟩ l) rfl fun b hb => ?_
  fin_cases b
  · exact absurd rfl hb
  · rfl

theorem mid_apply (x : FVec Ideal S8x128 .f32) (s : Fin 8) (l : Fin 128) : @Eq EReal (midOp (F := Ideal) x (ix2 s l)) (x (ix2 s l) - x (ix2 s l)) := by
  pointwise [midOp, hiOp]
theorem lo_apply (x : FVec Ideal S8x128 .f32) (s : Fin 8) (l : Fin 128) :
    @Eq EReal (loOp (F := Ideal) x (ix2 s l)) (x (ix2 s l) - x (ix2 s l) - (x (ix2 s l) - x (ix2 s l))) := by
  pointwise [loOp, midOp, hiOp]

/-- The numbers the weights meet, when they are finite. -/
theorem rhs_apply (mean rstd : FVec Ideal S8x128 .f32) (v : Vec Ideal S1x8x128 .f32) (l : Fin 128) (a b : ℕ → ℝ)
    (ha : ∀ s : Fin 8, @Eq EReal ((0 - mean (ix2 s l)) * invOp (F := Ideal) v (ix2 s l)) (a s.val : ℝ))
    (hb : ∀ s : Fin 8, @Eq EReal (Ideal.div (invOp (F := Ideal) v (ix2 s l)) (rstd (ix2 s l))) (b s.val : ℝ)) (c : Fin 128) :
    @Eq EReal (rhsOp (F := Ideal) mean rstd v (ix2 c l))
      (if c.val / 8 < 2 then ((a (c.val % 8) : ℝ) : EReal) else if c.val / 8 < 6 then 0 else if c.val / 8 < 8 then ((b (c.val % 8) : ℝ) : EReal) else 0) := by
  refine (cat16 _ _ _ _ _ _ _ _ _ _ _ _ _ _ _ _ c l).trans ?_
  generalize hq : (⟨c.val / 8, by omega⟩ : Fin 16) = q
  have hv : c.val / 8 = q.val := by rw [← hq]
  generalize hs : (⟨c.val % 8, by omega⟩ : Fin 8) = s
  have hw : c.val % 8 = s.val := by rw [← hs]
  rw [hv, hw]
  have ea : mulf (subf (broadcast S8x128 (Scalar.ofBits .f32 0x00000000#32 : Ideal .f32)) mean) (invOp v) (ix2 s l) = ((a s.val : ℝ) : EReal) := by
    refine Eq.trans ?_ (ha s); pointwise
  have eb : divf (invOp v) rstd (ix2 s l) = ((b s.val : ℝ) : EReal) := by
    refine Eq.trans ?_ (hb s); pointwise
  have z : ∀ r : ℝ, (r : EReal) - (r : EReal) = 0 := fun r => by rw [← EReal.coe_sub, sub_self]; rfl
  have a1 : @Eq EReal (midOp (F := Ideal) (mulf (subf (broadcast S8x128 (Scalar.ofBits .f32 0x00000000#32 : Ideal .f32)) mean) (invOp v)) (ix2 s l)) 0 := (mid_apply _ s l).trans ((congrArg (fun t : EReal => t - t) ea).trans (z _))
  have a2 : @Eq EReal (loOp (F := Ideal) (mulf (subf (broadcast S8x128 (Scalar.ofBits .f32 0x00000000#32 : Ideal .f32)) mean) (invOp v)) (ix2 s l)) 0 := (lo_apply _ s l).trans ((congrArg (fun t : EReal => t - t - (t - t)) ea).trans (by simp only [z, sub_zero]))
  have b1 : @Eq EReal (midOp (F := Ideal) (divf (invOp v) rstd) (ix2 s l)) 0 := (mid_apply _ s l).trans ((congrArg (fun t : EReal => t - t) eb).trans (z _))
  have b2 : @Eq EReal (loOp (F := Ideal) (divf (invOp v) rstd) (ix2 s l)) 0 := (lo_apply _ s l).trans ((congrArg (fun t : EReal => t - t - (t - t)) eb).trans (by simp only [z, sub_zero]))
  have z0 : (broadcast S8x128 (Scalar.ofBits .f32 0x00000000#32 : Ideal .f32)) (ix2 s l) = (0 : EReal) := by pointwise
  fin_cases q
  all_goals
    first
      | exact ea
      | exact eb
      | exact a1
      | exact a2
      | exact b1
      | exact b2
      | exact z0

/-- A row of weights, spread: what each word and column of the left operand holds. -/
def rowR (g b : ℕ → ℝ) (c i : ℕ) : EReal :=
  if c % 8 < 4 then (if c / 8 = 0 ∨ c / 8 = 2 ∨ c / 8 = 4 then ((g i : ℝ) : EReal) else if c / 8 = 6 ∨ c / 8 = 8 ∨ c / 8 = 10 then ((b i : ℝ) : EReal) else 0) else 0

section Weights
variable (v : Vec Ideal S1x128 .f32) (g : ℕ → ℝ) (i : Fin 128) (hg : @Eq EReal (v (ix2 0 i)) (g i.val : ℝ)) (s : Fin 8)
include hg

theorem s0_apply : @Eq EReal (s0 (F := Ideal) (shapeCast S1x128 v shapeCasts_S1x128_S1x128) (ix2 s i)) (if s.val < 4 then ((g i.val : ℝ) : EReal) else 0) := by
  pointwise [s0, hi1, down, firstOp]
  rw [hg, ← EReal.coe_sub, sub_self]
  revert s
  have : ∀ s : Fin 8, IntOp.cmpi CmpIPredicate.slt (BitVec.ofNat 32 s.val) 4#32 = if s.val < 4 then 1#1 else 0#1 := by decide
  intro s
  rw [this, select_eq_if]; rfl

theorem s1_apply : @Eq EReal (s1 (F := Ideal) (shapeCast S1x128 v shapeCasts_S1x128_S1x128) (ix2 s i)) 0 := by
  pointwise [s1, hi1, down, firstOp, zero8]
  rw [hg, ← EReal.coe_sub, sub_self]
  simp [Scalar.select]
end Weights

theorem lhs_apply (v5 v6 : Vec Ideal S1x128 .f32) (g b : ℕ → ℝ) (hg : ∀ i : Fin 128, @Eq EReal (v5 (ix2 0 i)) (g i.val : ℝ))
    (hb : ∀ i : Fin 128, @Eq EReal (v6 (ix2 0 i)) (b i.val : ℝ)) (a : Fin 1) (r : Fin 512) (c : Fin 128) :
    @Eq EReal (lhsOp (F := Ideal) repOp resOp v5 v6 (ix3 a r c)) (if r.val % 4 = c.val % 4 then rowR g b c.val (r.val / 4) else 0) := by
  have hrow : ∀ i : Fin 128, @Eq EReal (rowsOp (F := Ideal) (shapeCast S1x128 v5 shapeCasts_S1x128_S1x128) (shapeCast S1x128 v6 shapeCasts_S1x128_S1x128) (ix2 c i)) (rowR g b c.val i.val) := by
    intro i
    refine (cat16 _ _ _ _ _ _ _ _ _ _ _ _ _ _ _ _ c i).trans ?_
    unfold rowR
    generalize hq : (⟨c.val / 8, by omega⟩ : Fin 16) = q
    have hv : c.val / 8 = q.val := by rw [← hq]
    generalize hs : (⟨c.val % 8, by omega⟩ : Fin 8) = s
    have hw : c.val % 8 = s.val := by rw [← hs]
    rw [hv, hw]
    have g0 := s0_apply v5 g i (hg i) s
    have g1 := s1_apply v5 g i (hg i) s
    have b0 := s0_apply v6 b i (hb i) s
    have b1 := s1_apply v6 b i (hb i) s
    have z0 : zero8 (F := Ideal) (ix2 s i) = (0 : EReal) := by pointwise [zero8]
    fin_cases q
    all_goals
      first
        | exact g0
        | exact b0
        | exact g1.trans (ite_self (0 : EReal)).symm
        | exact b1.trans (ite_self (0 : EReal)).symm
        | exact z0.trans (ite_self (0 : EReal)).symm
  have same : ∀ v : Vec Ideal S1x128 .f32, shapeCast S1x128 v shapeCasts_S1x128_S1x128 = v := fun v => by
    funext i; rw [eq_ix2 i]; pointwise
  rw [same, same] at hrow
  pointwise [lhsOp]
  simp only [hrow, repOp_apply, resOp_apply]
  rw [select_eq_if, Finset.sum_eq_single (⟨r.val / 4, by omega⟩ : Fin 128)]
  · rw [if_pos rfl, one_mul]
  · intro i _ hi
    rw [if_neg (fun h => hi (Fin.ext h.symm)), zero_mul]
  · exact fun h => absurd (Finset.mem_univ _) h

/-- The product with a group's numbers, at its own columns. -/
theorem acc0_apply (L : Vec Ideal S1x512x128 .bf16) (R0 R1 R2 : FVec Ideal S128x128 .bf16) (r : Fin 512) (l : Fin 128) :
    @Eq EReal (accOp (F := Ideal) L R0 R1 R2 (ix2 r ⟨0 + l.val, by omega⟩)) (∑ c : Fin 128, L (ix3 0 r c) * R0 (ix2 c l)) := by
  pointwise [accOp]
theorem acc1_apply (L : Vec Ideal S1x512x128 .bf16) (R0 R1 R2 : FVec Ideal S128x128 .bf16) (r : Fin 512) (l : Fin 128) :
    @Eq EReal (accOp (F := Ideal) L R0 R1 R2 (ix2 r ⟨128 + l.val, by omega⟩)) (∑ c : Fin 128, L (ix3 0 r c) * R1 (ix2 c l)) := by
  pointwise [accOp]
theorem acc2_apply (L : Vec Ideal S1x512x128 .bf16) (R0 R1 R2 : FVec Ideal S128x128 .bf16) (r : Fin 512) (l : Fin 128) :
    @Eq EReal (accOp (F := Ideal) L R0 R1 R2 (ix2 r ⟨256 + l.val, by omega⟩)) (∑ c : Fin 128, L (ix3 0 r c) * R2 (ix2 c l)) := by
  pointwise [accOp]
  refine Finset.sum_congr rfl fun c _ => congrArg (L (ix3 0 r c) * ·) ?_
  rw [dif_neg (by omega), dif_neg (by omega), dif_pos (by omega)]
  congr 2; apply Fin.ext; simp only; omega
theorem acc3_apply (L : Vec Ideal S1x512x128 .bf16) (R0 R1 R2 : FVec Ideal S128x128 .bf16) (r : Fin 512) (l : Fin 128) :
    @Eq EReal (accOp (F := Ideal) L R0 R1 R2 (ix2 r ⟨384 + l.val, by omega⟩)) (∑ c : Fin 128, L (ix3 0 r c) * k0_pay432 (F := Ideal) (ix2 c l)) := by
  pointwise [accOp]
  refine Finset.sum_congr rfl fun c _ => congrArg (L (ix3 0 r c) * ·) ?_
  rw [dif_neg (by omega), dif_neg (by omega), dif_neg (by omega)]
  congr 2; apply Fin.ext; simp only; omega

theorem pick_apply (c l : Fin 128) : @Eq EReal (k0_pay432 (F := Ideal) (ix2 c l)) (if c.val < 16 then 1 else 0) := by
  pointwise [k0_pay432]
  have : ∀ s : Fin 128, IntOp.cmpi CmpIPredicate.slt (BitVec.ofNat 32 s.val) 16#32 = if s.val < 16 then 1#1 else 0#1 := by decide +kernel
  rw [this, select_eq_if]

section Sums
variable (g b : ℕ → ℝ) (r : Fin 512)

/-- The weights of a word against a group's numbers: one term of each kind. -/
theorem dot_rhs (a d : ℕ → ℝ) :
    ∑ c : Fin 128, (if r.val % 4 = c.val % 4 then rowR g b c.val (r.val / 4) else 0)
        * (if c.val / 8 < 2 then ((a (c.val % 8) : ℝ) : EReal) else if c.val / 8 < 6 then 0 else if c.val / 8 < 8 then ((d (c.val % 8) : ℝ) : EReal) else 0)
      = ((g (r.val / 4) * a (r.val % 4) + b (r.val / 4) * d (r.val % 4) : ℝ) : EReal) := by
  have h1 : r.val % 4 < 128 := by omega
  have h2 : 48 + r.val % 4 < 128 := by omega
  rw [Fintype.sum_eq_add (⟨r.val % 4, h1⟩ : Fin 128) ⟨48 + r.val % 4, h2⟩ (fun h => by have := congrArg Fin.val h; simp only at this; omega)]
  · unfold rowR
    rw [if_pos (by simp only; omega), if_pos (by simp only; omega), if_pos (by simp only; omega), if_pos (by simp only; omega),
      if_pos (by simp only; omega), if_pos (by simp only; omega), if_neg (by simp only; omega), if_pos (by simp only; omega),
      if_neg (by simp only; omega), if_neg (by simp only; omega), if_pos (by simp only; omega)]
    have e1 : r.val % 4 % 8 = r.val % 4 := by omega
    have e2 : (48 + r.val % 4) % 8 = r.val % 4 := by omega
    rw [e1, e2, EReal.coe_add, EReal.coe_mul, EReal.coe_mul]
  · intro c hc
    have n1 : c.val ≠ r.val % 4 := fun h => hc.1 (Fin.ext h)
    have n2 : c.val ≠ 48 + r.val % 4 := fun h => hc.2 (Fin.ext h)
    by_cases q1 : r.val % 4 = c.val % 4
    · by_cases q2 : c.val % 8 < 4
      · by_cases q3 : c.val / 8 < 2
        · unfold rowR
          rw [if_pos q1, if_pos q2, if_neg (by omega), if_neg (by omega), zero_mul]
        · by_cases q4 : c.val / 8 < 6
          · rw [if_neg q3, if_pos q4, mul_zero]
          · by_cases q5 : c.val / 8 < 8
            · unfold rowR
              rw [if_pos q1, if_pos q2, if_neg (by omega), if_neg (by omega), zero_mul]
            · rw [if_neg q3, if_neg q4, if_neg q5, mul_zero]
      · unfold rowR
        rw [if_pos q1, if_neg q2, zero_mul]
    · rw [if_neg q1, zero_mul]

/-- The weights of a word against the picking columns: the first weight. -/
theorem dot_pick :
    ∑ c : Fin 128, (if r.val % 4 = c.val % 4 then rowR g b c.val (r.val / 4) else 0) * (if c.val < 16 then (1 : EReal) else 0)
      = ((g (r.val / 4) : ℝ) : EReal) := by
  have h1 : r.val % 4 < 128 := by omega
  rw [Fintype.sum_eq_single (⟨r.val % 4, h1⟩ : Fin 128)]
  · unfold rowR
    rw [if_pos (by simp only; omega), if_pos (by simp only; omega), if_pos (by simp only; omega), if_pos (by simp only; omega), mul_one]
  · intro c hc
    have n1 : c.val ≠ r.val % 4 := fun h => hc (Fin.ext h)
    by_cases q1 : r.val % 4 = c.val % 4
    · by_cases q3 : c.val < 16
      · unfold rowR
        by_cases q2 : c.val % 8 < 4
        · rw [if_pos q1, if_pos q2, if_neg (by omega), if_neg (by omega), zero_mul]
        · rw [if_pos q1, if_neg q2, zero_mul]
      · rw [if_neg q3, mul_zero]
    · rw [if_neg q1, zero_mul]

end Sums

/-- A word short of its factor: the code times its weight, plus its place among the numbers the weights meet. -/
theorem wOp_apply (x : Vec Ideal S1x1x512x128 .fp8e4m3) (gam off : FVec Ideal S64x8x128 .f32) (v : Fin 64) (s : Fin 8) (l : Fin 128) :
    @Eq EReal (wOp (F := Ideal) x gam off (ix3 v s l)) (x (ix4 0 0 ⟨8 * v.val + s.val, by omega⟩ l) * gam (ix3 v s l) + off (ix3 v s l)) := by
  pointwise [wOp]
  simp only [Nat.mul_comm _ 8]

theorem col_apply (n : ℕ) (hn : n + 128 ≤ 512) (h : S512x512.Slices ![0, n] S512x128) (t : FVec Ideal S512x512 .f32) (v : Fin 64) (s : Fin 8) (l : Fin 128) :
    @Eq EReal (colOp (F := Ideal) ![0, n] h t (ix3 v s l)) (t (ix2 ⟨8 * v.val + s.val, by omega⟩ ⟨n + l.val, by omega⟩)) := by
  pointwise [colOp]
  simp only [Nat.mul_comm _ 8]

theorem gain_apply (v : Vec Ideal S1x8x128 .f32) (rstd : FVec Ideal S8x128 .f32) (s : Fin 8) (l : Fin 128) :
    @Eq EReal (gainOp (F := Ideal) v rstd (ix2 s l)) (v (ix3 0 s l) * rstd (ix2 s l)) := by
  pointwise [gainOp, scOp]

theorem inv_apply (v : Vec Ideal S1x8x128 .f32) (s : Fin 8) (l : Fin 128) :
    @Eq EReal (invOp (F := Ideal) v (ix2 s l)) (Ideal.div 1 (v (ix3 0 s l))) := by
  pointwise [invOp, scOp]

end Cert.Ln

end
-- ==== Proof.LnXt.lean ====
/- What the first loop leaves for the second: the codes rearranged into words, and the weights spread over them. -/
module

public import proofs.«01_k».proof.Proof.LnScales
public import proofs.«01_k».proof.Proof.LnBlock

@[expose] public section

set_option maxRecDepth 16384

noncomputable section

namespace Cert.Ln

open Idealize.ShloMosaic Idealize.ShloMosaic.TcCoe
open Cert.KernelIdeal Cert.KernelIdeal.Gen

/-- The code at every group, block, word row and lane. -/
def xtG (x1 : Vec Ideal S1536x6912 .fp8e4m3) (y : S3x54x512x128.Idx) : EReal :=
  x1 (ix2 ⟨512 * (y 0).val + (4 * (y 3).val + (y 2).val % 4), by
      have h0 := (y 0).isLt; have h3 := (y 3).isLt; change (y 0).val < 3 at h0; change (y 3).val < 128 at h3; omega⟩
    ⟨128 * (y 1).val + (y 2).val / 4, by
      have h1 := (y 1).isLt; have h2 := (y 2).isLt; change (y 1).val < 54 at h1; change (y 2).val < 512 at h2; omega⟩)

/-- A block of a row of weights. -/
def cut (x : Vec Ideal S1x6912 .f32) (k : Fin 54) : Vec Ideal S1x128 .f32 := fun i => x (ix2 0 ⟨128 * k.val + (i 1).val, by
  have h1 := (i 1).isLt; change (i 1).val < 128 at h1; omega⟩)

/-- The spread weights at every block. -/
def lhG (x5 x6 : Vec Ideal S1x6912 .f32) (y : S54x512x128.Idx) : EReal :=
  lhsOp (F := Ideal) repOp resOp (cut x5 (y 0)) (cut x6 (y 0)) (ix3 0 (y 1) (y 2))

section Contents
variable (arg1 : Memref sig .tc .vmem S1536x6912 .fp8e4m3) (harg1 : arg1.IsWhole) (x1 : Vec Ideal S1536x6912 .fp8e4m3)

theorem xt_piece (g : Fin 3) (k : Fin k0_t1_loop.trips) (v : Vec Ideal S512x128 .fp8e4m3)
    (hv : ∀ (a : Fin 512) (b : Fin 128), v (ix2 a b)
      = x1 (ix2 ⟨512 * g.val + a.val, by omega⟩ ⟨128 * k.val + b.val, by have := trip_lt k; omega⟩))
    (o : Fin 4 → ℕ) (ho : o = ![g.val, k.val, 0, 0]) (hi : ∀ a, o a + S1x1x512x128.size a ≤ S3x54x512x128.size a)
    (x : (Rect.unit (s := S3x54x512x128) o S1x1x512x128.size hi).shape.Idx) :
    k0_pay4 (F := Ideal) v x = xtG x1 ((Rect.unit (s := S3x54x512x128) o S1x1x512x128.size hi).emb x) := by
  have hk : k.val < 54 := trip_lt k
  subst ho
  have ex : x = ix4 (x 0) (x 1) (x 2) (x 3) := eq_ix4 x
  rw [ex]
  generalize x 0 = a, x 1 = b, x 2 = r, x 3 = l
  change Fin 1 at a; change Fin 1 at b; change Fin 512 at r; change Fin 128 at l
  have e : (Rect.unit (s := S3x54x512x128) ![g.val, k.val, 0, 0] S1x1x512x128.size hi).emb (ix4 a b r l)
      = ix4 g ⟨k.val, hk⟩ r l := by
    funext d; apply Fin.ext
    rw [Rect.emb_apply]
    fin_cases d <;> simp
  refine (pay4_apply v a b r l).trans (((hv _ _)).trans (congrArg (xtG x1) e).symm)

theorem xtL_agrees (k : Fin k0_t1_loop.trips) (p) (hp : p ∈ xtL (F := Ideal) arg1 (harg1.unread x1) k) (x : p.1.shape.Idx) :
    p.2 x = xtG x1 (p.1.emb x) := by
  simp only [xtL, List.mem_cons, List.not_mem_nil, or_false] at hp
  rcases hp with rfl | rfl | rfl
  · exact xt_piece x1 2 k _ (ld2_apply arg1 harg1 x1 k) _ (off8_eq k) (k0_off8_inb k) x
  · exact xt_piece x1 1 k _ (ld1_apply arg1 harg1 x1 k) _ (off5_eq k) (k0_off5_inb k) x
  · exact xt_piece x1 0 k _ (ld0_apply arg1 harg1 x1 k) _ (off2_eq k) (k0_off2_inb k) x

theorem mem_block (y : S3x54x512x128.Idx) (g : Fin 3) (hg : y 0 = g) (o : Fin 4 → ℕ) (ho : o = ![g.val, (y 1).val, 0, 0])
    (hi : ∀ a, o a + S1x1x512x128.size a ≤ S3x54x512x128.size a) : y ∈ (Rect.unit (s := S3x54x512x128) o S1x1x512x128.size hi).set := by
  subst ho
  refine Rect.mem_set_unit.mpr fun a => ?_
  have h2 := (y 2).isLt
  have h3 := (y 3).isLt
  change (y 2).val < 512 at h2
  change (y 3).val < 128 at h3
  subst hg
  fin_cases a
  · exact ⟨le_rfl, Nat.lt_succ_self _⟩
  · exact ⟨le_rfl, Nat.lt_succ_self _⟩
  · exact ⟨Nat.zero_le _, by simpa using h2⟩
  · exact ⟨Nat.zero_le _, by simpa using h3⟩

theorem block_lt (n : ℕ) (h : n < 54) : n < k0_t1_loop.trips := h.trans_eq t1_trips.symm

variable (arg11 : Memref sig .tc .vmem S3x54x512x128 .fp8e4m3) (f11 : arg11.view.ty.Contents (Elt Ideal))

/-- After the loop the array of words reads the codes, whatever it held. -/
theorem xt_read (y : S3x54x512x128.Idx) :
    @Eq EReal (arg11.view.read (Elt Ideal) (arg11.view.writes (Elt Ideal) f11 (upto (xtL (F := Ideal) arg1 (harg1.unread x1)) k0_t1_loop.trips)) y)
      (xtG x1 y) := by
  refine View.read_writes_apply_of_pieces _ _ _ _ (fun p hp x => ?_) y ?_
  · obtain ⟨k, _, hp⟩ := (mem_upto _ _ _).mp hp
    exact xtL_agrees arg1 harg1 x1 k p hp x
  · have h3 : ∀ g : Fin 3, g = 0 ∨ g = 1 ∨ g = 2 := by decide
    have hb : (y 1).val < k0_t1_loop.trips := block_lt _ (y 1).isLt
    rcases h3 (y 0) with h | h | h
    · exact ⟨_, (mem_upto _ _ _).mpr ⟨⟨_, hb⟩, hb, List.mem_cons_of_mem _ (List.mem_cons_of_mem _ List.mem_cons_self)⟩, mem_block y 0 h _ (off2_eq _) (k0_off2_inb _)⟩
    · exact ⟨_, (mem_upto _ _ _).mpr ⟨⟨_, hb⟩, hb, List.mem_cons_of_mem _ List.mem_cons_self⟩, mem_block y 1 h _ (off5_eq _) (k0_off5_inb _)⟩
    · exact ⟨_, (mem_upto _ _ _).mpr ⟨⟨_, hb⟩, hb, List.mem_cons_self⟩, mem_block y 2 h _ (off8_eq _) (k0_off8_inb _)⟩

variable (arg5 : Memref sig .tc .vmem S1x6912 .f32) (harg5 : arg5.IsWhole) (x5 : Vec Ideal S1x6912 .f32)
  (arg6 : Memref sig .tc .vmem S1x6912 .f32) (harg6 : arg6.IsWhole) (x6 : Vec Ideal S1x6912 .f32)

theorem cut_read (arg : Memref sig .tc .vmem S1x6912 .f32) (harg : arg.IsWhole) (x : Vec Ideal S1x6912 .f32) (k : Fin k0_t1_loop.trips) :
    View.readAt (Elt Ideal) arg.view (Rect.unit (s := S1x6912) (k0_off10 k) S1x128.size (k0_off10_inb k)).toLoadRect (harg.unread x)
      = cut x ⟨k.val, trip_lt k⟩ := by
  funext i
  refine (harg.readAt_unread x _ _).trans (congrArg x ?_)
  rw [eq_ix2 (LoadRect.idx _ _)]
  have h0 := (i 0).isLt
  change (i 0).val < 1 at h0
  congr 1 <;> apply Fin.ext <;> simp [LoadRect.idx_apply, off10_eq] <;> omega

theorem lh_piece (k : Fin k0_t1_loop.trips) (o : Fin 3 → ℕ) (ho : o = ![k.val, 0, 0]) (hi : ∀ a, o a + S1x512x128.size a ≤ S54x512x128.size a)
    (x : (Rect.unit (s := S54x512x128) o S1x512x128.size hi).shape.Idx) :
    lhsOp (F := Ideal) repOp resOp (cut x5 ⟨k.val, trip_lt k⟩) (cut x6 ⟨k.val, trip_lt k⟩) x
      = lhG x5 x6 ((Rect.unit (s := S54x512x128) o S1x512x128.size hi).emb x) := by
  have hk : k.val < 54 := trip_lt k
  subst ho
  have ex : x = ix3 (x 0) (x 1) (x 2) := eq_ix3 x
  rw [ex]
  generalize x 0 = a, x 1 = r, x 2 = l
  change Fin 1 at a; change Fin 512 at r; change Fin 128 at l
  have e : (Rect.unit (s := S54x512x128) ![k.val, 0, 0] S1x512x128.size hi).emb (ix3 a r l)
      = ix3 ⟨k.val, hk⟩ r l := by
    funext d; apply Fin.ext
    rw [Rect.emb_apply]
    fin_cases d <;> simp
  have ea : a = 0 := Subsingleton.elim _ _
  subst ea
  exact (congrArg (lhG x5 x6) e).symm

theorem mem_lh (y : S54x512x128.Idx) (o : Fin 3 → ℕ) (ho : o = ![(y 0).val, 0, 0])
    (hi : ∀ a, o a + S1x512x128.size a ≤ S54x512x128.size a) : y ∈ (Rect.unit (s := S54x512x128) o S1x512x128.size hi).set := by
  subst ho
  have h1 := (y 1).isLt
  have h2 := (y 2).isLt
  change (y 1).val < 512 at h1
  change (y 2).val < 128 at h2
  refine Rect.mem_set_unit.mpr fun a => ?_
  fin_cases a
  · exact ⟨le_rfl, Nat.lt_succ_self _⟩
  · exact ⟨Nat.zero_le _, by simpa using h1⟩
  · exact ⟨Nat.zero_le _, by simpa using h2⟩

variable (arg12 : Memref sig .tc .vmem S54x512x128 .bf16) (f12 : arg12.view.ty.Contents (Elt Ideal))

/-- After the loop the array of spread weights reads them, whatever it held. -/
theorem lh_read (y : S54x512x128.Idx) :
    @Eq EReal (arg12.view.read (Elt Ideal) (arg12.view.writes (Elt Ideal) f12
        (upto (lhsL (F := Ideal) arg5 arg6 (harg5.unread x5) (harg6.unread x6) repOp resOp) k0_t1_loop.trips)) y)
      (lhG x5 x6 y) := by
  refine View.read_writes_apply_of_pieces _ _ _ _ (fun p hp x => ?_) y ?_
  · obtain ⟨k, _, hp⟩ := (mem_upto _ _ _).mp hp
    simp only [lhsL, List.mem_cons, List.not_mem_nil, or_false] at hp
    subst hp
    refine Eq.trans ?_ (lh_piece x5 x6 k _ (off11_eq k) (k0_off11_inb k) x)
    refine congrFun (?_ : _ = lhsOp (F := Ideal) repOp resOp (cut x5 ⟨k.val, trip_lt k⟩) (cut x6 ⟨k.val, trip_lt k⟩)) x
    refine (lhs_eq repOp resOp (View.readAt (Elt Ideal) arg5.view (Rect.unit (s := S1x6912) (k0_off10 k) S1x128.size (k0_off10_inb k)).toLoadRect (harg5.unread x5)) _).trans ?_
    rw [cut_read arg5 harg5 x5 k, cut_read arg6 harg6 x6 k]
  · have hb : (y 0).val < k0_t1_loop.trips := block_lt _ (y 0).isLt
    refine ⟨_, (mem_upto _ _ _).mpr ⟨⟨_, hb⟩, hb, List.mem_cons_self⟩, ?_⟩
    exact mem_lh y _ (off11_eq _) (k0_off11_inb _)

end Contents

end Cert.Ln

end
-- ==== Proof.LnQuant.lean ====
/- The scale of a block: the search for an exponent's bits finds the power of two the logarithm finds. -/
module

public import proofs.«01_k».proof.Proof.LnNorm
public import proofs.«01_k».proof.Proof.LnConsts

@[expose] public section

set_option maxRecDepth 16384

noncomputable section

namespace Cert.Ln

open Idealize.ShloMosaic Idealize.ShloMosaic.TcCoe
open Cert.KernelIdeal Cert.KernelIdeal.Gen

/-- One step of the search, on one number. -/
def step1 (c : BitVec 32) (x : EReal) (b : BitVec 32) : BitVec 32 :=
  if Ideal.ofBits .f32 (IntOp.ori b c) ≤ x then IntOp.ori b c else b

/-- The search, on one number. -/
def bits1 (x : EReal) : BitVec 32 :=
  step1 8388608#32 x (step1 16777216#32 x (step1 33554432#32 x (step1 67108864#32 x (step1 134217728#32 x
    (step1 268435456#32 x (step1 536870912#32 x (step1 1073741824#32 x 0#32)))))))

theorem step_apply (c : BitVec 32) (x : FVec Ideal S8x128 .f32) (b : IVec S8x128 32) (s : Fin 8) (l : Fin 128) :
    stepOp c x b (ix2 s l) = step1 c (x (ix2 s l)) (b (ix2 s l)) := by
  pointwise [stepOp]
  rfl

theorem bits_apply (x : FVec Ideal S8x128 .f32) (s : Fin 8) (l : Fin 128) : bitsOp x (ix2 s l) = bits1 (x (ix2 s l)) := by
  unfold bitsOp bits1
  simp only [step_apply]
  rfl

theorem ori_words : ∀ E : Fin 253, ∀ j : Fin 8, E.val % 2 ^ (j.val + 1) = 0 →
    IntOp.ori (expWord E.val) (expWord (2 ^ j.val)) = expWord (E.val + 2 ^ j.val) := by decide +kernel

/-- What the search keeps: a multiple of the next step's double, below the number, and the number below the double's end. -/
def Found (x : ℝ) (j : ℕ) (b : BitVec 32) : Prop :=
  ∃ E : ℕ, E ≤ 252 ∧ E % 2 ^ j = 0 ∧ b = expWord E ∧ (E = 0 ∨ (2 : ℝ) ^ ((E : ℤ) - 127) ≤ x) ∧ x < (2 : ℝ) ^ ((E : ℤ) + 2 ^ j - 127)

theorem found_step (x : ℝ) (hx : x < (2 : ℝ) ^ (126 : ℤ)) (j : Fin 8) (b c : BitVec 32) (hc : c = expWord (2 ^ j.val)) (h : Found x (j.val + 1) b) :
    Found x j.val (step1 c (x : EReal) b) := by
  obtain ⟨E, hE, hm, hb, hl, hu⟩ := h
  have hle : E + 2 ^ j.val ≤ 254 := by
    fin_cases j <;> simp at hm ⊢ <;> omega
  have h1 : 1 ≤ E + 2 ^ j.val := le_trans Nat.one_le_two_pow (Nat.le_add_left _ _)
  have hd : E % 2 ^ j.val = 0 := by
    rw [← Nat.dvd_iff_mod_eq_zero] at hm ⊢
    exact (pow_dvd_pow 2 (Nat.le_succ _)).trans hm
  unfold step1
  rw [hb, hc, ori_words ⟨E, by omega⟩ j hm, expWord_eq _ h1 hle]
  split
  · rename_i hq
    rw [EReal.coe_le_coe_iff] at hq
    have hlt := (zpow_lt_zpow_iff_right₀ (one_lt_two : (1 : ℝ) < 2)).mp (lt_of_le_of_lt hq hx)
    refine ⟨E + 2 ^ j.val, by omega, by rw [Nat.add_mod_right]; exact hd, rfl, .inr hq, lt_of_lt_of_eq hu ?_⟩
    congr 1
    push_cast
    ring
  · rename_i hq
    rw [EReal.coe_le_coe_iff, not_le] at hq
    refine ⟨E, hE, hd, rfl, hl, lt_of_lt_of_eq hq ?_⟩
    congr 1

/-- The exponent the search finds. -/
theorem bits_found (x : ℝ) (hx : x < (2 : ℝ) ^ (126 : ℤ)) : Found x 0 (bits1 (x : EReal)) := by
  have h8 : Found x 8 0#32 := ⟨0, by omega, rfl, rfl, .inl rfl, hx.trans (zpow_lt_zpow_right₀ one_lt_two (by norm_num))⟩
  exact found_step x hx 0 _ _ rfl (found_step x hx 1 _ _ rfl (found_step x hx 2 _ _ rfl (found_step x hx 3 _ _ rfl
    (found_step x hx 4 _ _ rfl (found_step x hx 5 _ _ rfl (found_step x hx 6 _ _ rfl (found_step x hx 7 _ _ rfl h8)))))))

/-- The exponent of a block's scale. -/
def expo (t : ℝ) : ℝ := if t < (2 : ℝ) ^ (-126 : ℤ) then 0 else (⌊Real.log t / Real.log 2⌋ : ℝ) + 1

theorem expo_floor (t : ℝ) (E : ℕ) (h1 : 1 ≤ E) (hl : (2 : ℝ) ^ ((E : ℤ) - 127) ≤ t) (hu : t < (2 : ℝ) ^ ((E : ℤ) + 1 - 127)) :
    expo t = (((E : ℤ) - 126 : ℤ) : ℝ) := by
  have hp : (0 : ℝ) < t := lt_of_lt_of_le (by positivity) hl
  have h2 : (0 : ℝ) < Real.log 2 := Real.log_pos one_lt_two
  have hn : ¬ t < (2 : ℝ) ^ (-126 : ℤ) := not_lt.mpr (le_trans (zpow_le_zpow_right₀ one_le_two (by omega)) hl)
  have hf : ⌊Real.log t / Real.log 2⌋ = (E : ℤ) - 127 := by
    rw [Int.floor_eq_iff]
    constructor
    · rw [le_div_iff₀ h2, ← Real.log_zpow]
      exact Real.log_le_log (by positivity) hl
    · have e : (((E : ℤ) - 127 : ℤ) : ℝ) + 1 = (((E : ℤ) + 1 - 127 : ℤ) : ℝ) := by push_cast; ring
      rw [e, div_lt_iff₀ h2, ← Real.log_zpow]
      exact Real.log_lt_log hp hu
  unfold expo
  rw [if_neg hn, hf]
  push_cast
  ring

theorem scale_words : ∀ E : Fin 253, E.val ≠ 0 →
    Scalar.select (IntOp.cmpi .eq (expWord E.val) 0#32) 1065353216#32 (IntOp.addi (expWord E.val) 8388608#32) = expWord (E.val + 1)
      ∧ Scalar.select (IntOp.cmpi .eq (expWord E.val) 0#32) 1065353216#32 (IntOp.subi 2122317824#32 (expWord E.val)) = expWord (253 - E.val) := by decide +kernel

theorem rpow_int (n : ℤ) : Real.rpow 2 (n : ℝ) = (2 : ℝ) ^ n := Real.rpow_intCast 2 n

/-- The scale and its reciprocal, from the bits found. -/
theorem scales_eq (t : ℝ) (ht : t < (2 : ℝ) ^ (126 : ℤ)) :
    (Ideal.ofBits .f32 (Scalar.select (IntOp.cmpi .eq (bits1 (t : EReal)) 0#32) 1065353216#32 (IntOp.addi (bits1 (t : EReal)) 8388608#32)) : EReal)
        = ((Real.rpow 2 (expo t) : ℝ) : EReal)
      ∧ (Ideal.ofBits .f32 (Scalar.select (IntOp.cmpi .eq (bits1 (t : EReal)) 0#32) 1065353216#32 (IntOp.subi 2122317824#32 (bits1 (t : EReal)))) : EReal)
        = ((Real.rpow 2 (-expo t) : ℝ) : EReal) := by
  obtain ⟨E, hE, -, hb, hl, hu⟩ := bits_found t ht
  rw [hb]
  by_cases h0 : E = 0
  · subst h0
    have hlt : t < (2 : ℝ) ^ (-126 : ℤ) := lt_of_lt_of_eq hu (by norm_num)
    have e0 : expo t = 0 := if_pos hlt
    have s1 : Scalar.select (IntOp.cmpi .eq (expWord 0) 0#32) 1065353216#32 (IntOp.addi (expWord 0) 8388608#32) = 1065353216#32 := by decide
    have s2 : Scalar.select (IntOp.cmpi .eq (expWord 0) 0#32) 1065353216#32 (IntOp.subi 2122317824#32 (expWord 0)) = 1065353216#32 := by decide
    rw [s1, s2, one_eq, e0, neg_zero, show Real.rpow 2 0 = 1 from Real.rpow_zero 2]
    exact ⟨rfl, rfl⟩
  · obtain ⟨s1, s2⟩ := scale_words ⟨E, by omega⟩ h0
    simp only at s1 s2
    have hl' := hl.resolve_left h0
    have e := expo_floor t E (by omega) hl' (lt_of_lt_of_eq hu (by norm_num))
    rw [s1, s2, expWord_eq _ (by omega) (by omega), expWord_eq _ (by omega) (by omega), e, ← Int.cast_neg, rpow_int, rpow_int]
    refine ⟨?_, ?_⟩
    · congr 2; push_cast; ring
    · congr 2; push_cast [Nat.cast_sub (show E ≤ 253 by omega)]; ring

/-- The largest of finitely many real numbers. -/
theorem fold_real {ι : Type*} [Fintype ι] [Nonempty ι] (f : ι → EReal) (r : ι → ℝ) (h : ∀ i, f i = r i) :
    ∃ K : ℝ, (Finset.univ : Finset ι).fold max ⊥ f = K ∧ (∃ i, r i = K) ∧ ∀ i, r i ≤ K := by
  obtain ⟨k, -, hk⟩ := Finset.exists_max_image (Finset.univ : Finset ι) r Finset.univ_nonempty
  refine ⟨r k, le_antisymm ?_ ?_, ⟨k, rfl⟩, fun i => hk i (Finset.mem_univ _)⟩
  · rw [Finset.fold_max_le]
    exact ⟨bot_le, fun i _ => by rw [h]; exact EReal.coe_le_coe_iff.mpr (hk i (Finset.mem_univ _))⟩
  · rw [Finset.le_fold_max]
    exact .inr ⟨k, Finset.mem_univ _, (h k).symm.le⟩

theorem abs_coe (r : ℝ) : @Eq EReal (FloatOps.absf (F := Ideal) (φ := .f32) (r : EReal)) ((|r| : ℝ) : EReal) := by
  show max (r : EReal) (-(r : EReal)) = _
  rw [← EReal.coe_neg, abs_eq_max_neg]
  exact (EReal.coe_strictMono.monotone.map_max).symm

end Cert.Ln

end
-- ==== Proof.LnCode.lean ====
/- A block's scale and codes, from its normalised words short of the factor they share. -/
module

public import proofs.«01_k».proof.Proof.LnQuant
public import proofs.«01_k».proof.Proof.LnBlock

@[expose] public section

set_option maxRecDepth 16384

noncomputable section

namespace Cert.Ln

open Idealize.ShloMosaic Idealize.ShloMosaic.TcCoe
open Cert.KernelIdeal Cert.KernelIdeal.Gen

/-- The largest magnitude of 128 numbers. -/
def amax (z : Fin 128 → ℝ) : ℝ := Finset.univ.sup' Finset.univ_nonempty fun i => |z i|

theorem le_amax (z : Fin 128 → ℝ) (i : Fin 128) : |z i| ≤ amax z := Finset.le_sup' (fun i => |z i|) (Finset.mem_univ i)
theorem amax_le (z : Fin 128 → ℝ) (b : ℝ) (h : ∀ i, |z i| ≤ b) : amax z ≤ b := Finset.sup'_le _ _ fun i _ => h i
theorem amax_at (z : Fin 128 → ℝ) : ∃ i, amax z = |z i| := by
  obtain ⟨i, -, hi⟩ := Finset.exists_mem_eq_sup' (Finset.univ_nonempty (α := Fin 128)) fun i => |z i|
  exact ⟨i, hi⟩

/-- The number whose exponent a block's scale has. -/
def tR (z : Fin 128 → ℝ) : ℝ := amax z * recip448
/-- A block's scale, and a number's code. -/
def scaleR (z : Fin 128 → ℝ) : ℝ := Real.rpow 2 (expo (tR z))
def codeR (z : Fin 128 → ℝ) (i : Fin 128) : ℝ := min 448 (max (-448) (z i * Real.rpow 2 (-expo (tR z))))

theorem recip448_pos : 0 < recip448 := by unfold recip448; norm_num

theorem half_lt (v : Fin 64) (s : Fin 8) : 2 * v.val + s.val / 4 < 128 := by omega

section Block
variable (gain : FVec Ideal S8x128 .f32) (w : FVec Ideal S64x8x128 .f32) (l : Fin 128) (n : ℕ → ℝ) (Z : ℕ → Fin 128 → ℝ)
  (hn : ∀ j, 0 < n j) (hg : ∀ s : Fin 8, @Eq EReal (gain (ix2 s l)) (n (s.val % 4) : ℝ))
  (hw : ∀ (v : Fin 64) (s : Fin 8), @Eq EReal (w (ix3 v s l)) ((Z (s.val % 4) ⟨2 * v.val + s.val / 4, half_lt v s⟩ / n (s.val % 4) : ℝ) : EReal))
include hn hg hw

theorem t_apply (s : Fin 8) : @Eq EReal (tOp (F := Ideal) gain w (ix2 s l)) ((tR (Z (s.val % 4)) : ℝ) : EReal) := by
  pointwise [tOp]
  have ha : ∀ (v : Fin 64) (u : Fin 8), @Eq EReal (FloatOps.absf (F := Ideal) (φ := .f32) (w (ix3 v u l)))
      ((|Z (u.val % 4) ⟨2 * v.val + u.val / 4, by omega⟩| / n (u.val % 4) : ℝ) : EReal) := by
    intro v u
    rw [hw v u, abs_coe, abs_div, abs_of_pos (hn _)]
  rw [hg s, recip448_eq, ninf_eq]
  obtain ⟨K1, e1, ⟨i1, a1⟩, b1⟩ := fold_real _ _ (fun v => ha v s)
  obtain ⟨K2, e2, ⟨i2, a2⟩, b2⟩ := fold_real _ _ (fun v => ha v ⟨(s.val + 8 - 4) % 8, by omega⟩)
  have key : max K1 K2 * n (s.val % 4) = amax (Z (s.val % 4)) := by
    have hp := hn (s.val % 4)
    have hmod : (s.val + 8 - 4) % 8 % 4 = s.val % 4 := by omega
    simp only [hmod] at a2 b2
    rw [max_mul_of_nonneg _ _ hp.le]
    refine le_antisymm (max_le ?_ ?_) (amax_le _ _ fun i => ?_)
    · rw [← a1, div_mul_cancel₀ _ hp.ne']; exact le_amax _ _
    · rw [← a2, div_mul_cancel₀ _ hp.ne']; exact le_amax _ _
    · by_cases hi : i.val % 2 = s.val / 4
      · refine le_max_of_le_left ?_
        rw [← div_le_iff₀ hp]
        refine le_trans (le_of_eq ?_) (b1 ⟨i.val / 2, by omega⟩)
        congr 3
        exact Fin.ext (by simp only; omega)
      · refine le_max_of_le_right ?_
        rw [← div_le_iff₀ hp]
        refine le_trans (le_of_eq ?_) (b2 ⟨i.val / 2, by omega⟩)
        congr 3
        exact Fin.ext (by simp only; omega)
  refine (congrArg₂ (fun a b : EReal => max a b * (n (s.val % 4) : ℝ) * (recip448 : ℝ)) e1 e2).trans ?_
  rw [← EReal.coe_strictMono.monotone.map_max, ← EReal.coe_mul, ← EReal.coe_mul, key]
  rfl

variable (hb : ∀ j, tR (Z j) < (2 : ℝ) ^ (126 : ℤ))
include hb

theorem es_apply (a : Fin 1) (s : Fin 8) : @Eq EReal (esOp (F := Ideal) gain w (ix3 a s l)) ((scaleR (Z (s.val % 4)) : ℝ) : EReal) := by
  pointwise [esOp]
  rw [bits_apply, t_apply gain w l n Z hn hg hw s]
  exact (scales_eq _ (hb _)).1

theorem k_apply (s : Fin 8) : @Eq EReal (kOp (F := Ideal) gain w (ix2 s l)) ((n (s.val % 4) * Real.rpow 2 (-expo (tR (Z (s.val % 4)))) : ℝ) : EReal) := by
  pointwise [kOp]
  rw [bits_apply, t_apply gain w l n Z hn hg hw s, (scales_eq _ (hb _)).2, hg s, EReal.coe_mul]

theorem y_apply (a : Fin 512) (ha : a.val / 4 = l.val) (b : Fin 128) :
    @Eq EReal (yOp (F := Ideal) gain w (ix2 a b)) ((codeR (Z (a.val % 4)) b : ℝ) : EReal) := by
  have e : @Eq EReal (yOp (F := Ideal) gain w (ix2 a b)) (min (Ideal.ofBits .f32 1138753536#32) (max (Ideal.ofBits .f32 3286237184#32)
      (w (ix3 ⟨b.val / 2, by omega⟩ ⟨b.val % 2 * 4 + a.val % 4, by omega⟩ l) * kOp (F := Ideal) gain w (ix2 ⟨b.val % 2 * 4 + a.val % 4, by omega⟩ l)))) := by
    have hl : (⟨a.val / 4, by omega⟩ : Fin 128) = l := Fin.ext ha
    pointwise [yOp]
    rw [hl]
  rw [e, hi448_eq, lo448_eq, hw, k_apply gain w l n Z hn hg hw hb, ← EReal.coe_mul, ← EReal.coe_strictMono.monotone.map_max,
    ← EReal.coe_strictMono.monotone.map_min]
  have hm : (b.val % 2 * 4 + a.val % 4) % 4 = a.val % 4 := by omega
  have hi : (⟨2 * (b.val / 2) + (b.val % 2 * 4 + a.val % 4) / 4, by omega⟩ : Fin 128) = b := Fin.ext (by simp only; omega)
  simp only [hm, hi]
  unfold codeR
  rw [← mul_assoc, div_mul_cancel₀ _ (hn _).ne']

end Block

/-- A normalised word short of its factor, from the weights and the numbers they meet. -/
theorem w_real (x : Vec Ideal S1x1x512x128 .fp8e4m3) (t : FVec Ideal S512x512 .f32) (n : ℕ) (hn : n + 128 ≤ 512) (h3 : S512x512.Slices ![0, 384] S512x128)
    (h : S512x512.Slices ![0, n] S512x128) (l : Fin 128) (X : Fin 512 → ℝ) (G B a d : ℕ → ℝ)
    (hx : ∀ r : Fin 512, @Eq EReal (x (ix4 0 0 r l)) (X r : ℝ))
    (hp : ∀ r : Fin 512, @Eq EReal (t (ix2 r ⟨384 + l.val, by omega⟩)) (G (r.val / 4) : ℝ))
    (ho : ∀ r : Fin 512, @Eq EReal (t (ix2 r ⟨n + l.val, by omega⟩)) ((G (r.val / 4) * a (r.val % 4) + B (r.val / 4) * d (r.val % 4) : ℝ) : EReal))
    (v : Fin 64) (s : Fin 8) :
    @Eq EReal (wOp (F := Ideal) x (colOp ![0, 384] h3 t) (colOp ![0, n] h t) (ix3 v s l))
      ((X ⟨8 * v.val + s.val, by omega⟩ * G (2 * v.val + s.val / 4)
        + (G (2 * v.val + s.val / 4) * a (s.val % 4) + B (2 * v.val + s.val / 4) * d (s.val % 4)) : ℝ) : EReal) := by
  rw [wOp_apply, col_apply 384 (by omega), col_apply n hn, hx, hp, ho, ← EReal.coe_mul, ← EReal.coe_add]
  have q1 : (8 * v.val + s.val) / 4 = 2 * v.val + s.val / 4 := by omega
  have q2 : (8 * v.val + s.val) % 4 = s.val % 4 := by omega
  simp only [q1, q2]

end Cert.Ln

end
-- ==== Proof.LnOut.lean ====
/- What the second loop leaves in the codes and in the scales' scratch array, when every number it reads is real. -/
module

public import proofs.«01_k».proof.Proof.LnXt
public import proofs.«01_k».proof.Proof.LnCode

@[expose] public section

set_option maxRecDepth 16384

noncomputable section

namespace Cert.Ln

open Idealize.ShloMosaic Idealize.ShloMosaic.TcCoe
open Cert.KernelIdeal Cert.KernelIdeal.Gen

theorem rowOf_mod (g : Fin 3) (s : ℕ) (l : Fin 128) : rowOf g (s % 4) l = rowOf g s l := by
  refine Fin.ext ?_
  simp only [rowOf]
  omega

section Spec
variable (X : Fin 1536 → Fin 6912 → ℝ) (S : Fin 1536 → Fin 54 → ℝ) (M R : Fin 1536 → ℝ) (Γ B : Fin 6912 → ℝ)

/-- A row's normalised numbers in one block. -/
def zR (ρ : Fin 1536) (k : Fin 54) (i : Fin 128) : ℝ := (X ρ (colOf k i) * S ρ k - M ρ) * R ρ * Γ (colOf k i) + B (colOf k i)

/-- A block of a row of weights, as a sequence. -/
def seq (Γ : Fin 6912 → ℝ) (k : Fin 54) (i : ℕ) : ℝ := if h : i < 128 then Γ (colOf k ⟨i, h⟩) else 0

theorem seq_lt (k : Fin 54) (i : ℕ) (h : i < 128) : seq Γ k i = Γ (colOf k ⟨i, h⟩) := dif_pos h

variable (hS : ∀ ρ k, 0 < S ρ k) (hR : ∀ ρ, 0 < R ρ) (g : Fin 3) (k : Fin 54)
include hS hR

/-- One group's words, short of the factor they share. -/
theorem group_real (x : Vec Ideal S1x1x512x128 .fp8e4m3) (v : Vec Ideal S1x8x128 .f32) (m r : FVec Ideal S8x128 .f32) (t : FVec Ideal S512x512 .f32)
    (n : ℕ) (hn : n + 128 ≤ 512) (h3 : S512x512.Slices ![0, 384] S512x128) (h : S512x512.Slices ![0, n] S512x128)
    (hx : ∀ (q : Fin 512) (l : Fin 128), @Eq EReal (x (ix4 0 0 q l)) (X (rowOf g q.val l) (colOf k ⟨q.val / 4, by omega⟩) : ℝ))
    (hv : ∀ (s : Fin 8) (l : Fin 128), @Eq EReal (v (ix3 0 s l)) (S (rowOf g s.val l) k : ℝ))
    (hm : ∀ (s : Fin 8) (l : Fin 128), @Eq EReal (m (ix2 s l)) (M (rowOf g s.val l) : ℝ))
    (hr : ∀ (s : Fin 8) (l : Fin 128), @Eq EReal (r (ix2 s l)) (R (rowOf g s.val l) : ℝ))
    (hp : ∀ (q : Fin 512) (l : Fin 128), @Eq EReal (t (ix2 q ⟨384 + l.val, by omega⟩))
      (∑ c : Fin 128, (if q.val % 4 = c.val % 4 then rowR (seq Γ k) (seq B k) c.val (q.val / 4) else 0) * k0_pay432 (F := Ideal) (ix2 c l)))
    (ho : ∀ (q : Fin 512) (l : Fin 128), @Eq EReal (t (ix2 q ⟨n + l.val, by omega⟩))
      (∑ c : Fin 128, (if q.val % 4 = c.val % 4 then rowR (seq Γ k) (seq B k) c.val (q.val / 4) else 0) * rhsOp (F := Ideal) m r v (ix2 c l)))
    (l : Fin 128) (a : Fin 64) (s : Fin 8) :
    @Eq EReal (wOp (F := Ideal) x (colOp ![0, 384] h3 t) (colOp ![0, n] h t) (ix3 a s l))
      ((zR X S M R Γ B (rowOf g (s.val % 4) l) k ⟨2 * a.val + s.val / 4, by omega⟩
        / (S (rowOf g (s.val % 4) l) k * R (rowOf g (s.val % 4) l)) : ℝ) : EReal) := by
  have hinv : ∀ s : Fin 8, @Eq EReal (invOp (F := Ideal) v (ix2 s l)) ((1 / S (rowOf g s.val l) k : ℝ) : EReal) := fun s => by
    rw [inv_apply, hv, Ideal.div_coe (hS _ _).ne', one_mul]
  have ha : ∀ s : Fin 8, @Eq EReal ((0 - m (ix2 s l)) * invOp (F := Ideal) v (ix2 s l))
      (((fun j => (0 - M (rowOf g j l)) * (1 / S (rowOf g j l) k)) s.val : ℝ) : EReal) := fun s => by
    rw [hinv, hm, ← EReal.coe_zero, ← EReal.coe_sub, ← EReal.coe_mul]
  have hd : ∀ s : Fin 8, @Eq EReal (Ideal.div (invOp (F := Ideal) v (ix2 s l)) (r (ix2 s l)))
      (((fun j => (1 / S (rowOf g j l) k) * (1 / R (rowOf g j l))) s.val : ℝ) : EReal) := fun s => by
    rw [hinv, hr, Ideal.div_coe (hR _).ne', ← EReal.coe_mul]
  have key := w_real x t n hn h3 h l (fun q => X (rowOf g q.val l) (colOf k ⟨q.val / 4, by omega⟩)) (seq Γ k) (seq B k)
    (fun j => (0 - M (rowOf g j l)) * (1 / S (rowOf g j l) k)) (fun j => (1 / S (rowOf g j l) k) * (1 / R (rowOf g j l)))
    (fun q => hx q l)
    (fun q => (hp q l).trans (by
      simp only [pick_apply]
      exact dot_pick (seq Γ k) (seq B k) q))
    (fun q => (ho q l).trans (by
      simp only [rhs_apply m r v l (fun j => (0 - M (rowOf g j l)) * (1 / S (rowOf g j l) k)) (fun j => (1 / S (rowOf g j l) k) * (1 / R (rowOf g j l))) ha hd]
      exact dot_rhs (seq Γ k) (seq B k) q (fun j => (0 - M (rowOf g j l)) * (1 / S (rowOf g j l) k)) (fun j => (1 / S (rowOf g j l) k) * (1 / R (rowOf g j l))))) a s
  refine key.trans (congrArg _ ?_)
  have hi : 2 * a.val + s.val / 4 < 128 := by omega
  have q1 : (8 * a.val + s.val) / 4 = 2 * a.val + s.val / 4 := by omega
  have q2 : rowOf g (8 * a.val + s.val) l = rowOf g s.val l := by
    rw [← rowOf_mod g (8 * a.val + s.val) l, ← rowOf_mod g s.val l]
    congr 1; omega
  simp only [seq_lt _ k _ hi, rowOf_mod, q1, q2]
  have p1 := (hS (rowOf g s.val l) k).ne'
  have p2 := (hR (rowOf g s.val l)).ne'
  unfold zR
  field_simp
  ring

end Spec

end Cert.Ln

end
-- ==== Proof.LnTrip.lean ====
/- The second loop's stores, read back: every code and every scale. -/
module

public import proofs.«01_k».proof.Proof.LnOut

@[expose] public section

set_option maxRecDepth 16384

noncomputable section

namespace Cert.Ln

open Idealize.ShloMosaic Idealize.ShloMosaic.TcCoe
open Cert.KernelIdeal Cert.KernelIdeal.Gen

theorem t2_trips : k0_t2_loop.trips = 54 := by decide +kernel
theorem trip2_lt (k : Fin k0_t2_loop.trips) : k.val < 54 := k.isLt.trans_eq t2_trips
theorem off12_eq : ∀ k : Fin k0_t2_loop.trips, k0_off12 k = ![0, 8 * k.val, 0] := by decide +kernel
theorem off13_eq : ∀ k : Fin k0_t2_loop.trips, k0_off13 k = ![1, 8 * k.val, 0] := by decide +kernel
theorem off14_eq : ∀ k : Fin k0_t2_loop.trips, k0_off14 k = ![2, 8 * k.val, 0] := by decide +kernel
theorem off15_eq : ∀ k : Fin k0_t2_loop.trips, k0_off15 k = ![k.val, 0, 0] := by decide +kernel
theorem off16_eq : ∀ k : Fin k0_t2_loop.trips, k0_off16 k = ![0, k.val, 0, 0] := by decide +kernel
theorem off18_eq : ∀ k : Fin k0_t2_loop.trips, k0_off18 k = ![1, k.val, 0, 0] := by decide +kernel
theorem off20_eq : ∀ k : Fin k0_t2_loop.trips, k0_off20 k = ![2, k.val, 0, 0] := by decide +kernel
theorem off17_eq : ∀ k : Fin k0_t2_loop.trips, k0_off17 k = ![0, 128 * k.val] := by decide +kernel
theorem off19_eq : ∀ k : Fin k0_t2_loop.trips, k0_off19 k = ![512, 128 * k.val] := by decide +kernel
theorem off21_eq : ∀ k : Fin k0_t2_loop.trips, k0_off21 k = ![1024, 128 * k.val] := by decide +kernel

section Loop
variable (x1 : Vec Ideal S1536x6912 .fp8e4m3) (x2 : Vec Ideal S1536x54 .f32) (x5 x6 : Vec Ideal S1x6912 .f32)
  (X : Fin 1536 → Fin 6912 → ℝ) (S : Fin 1536 → Fin 54 → ℝ) (M R : Fin 1536 → ℝ) (Γ B : Fin 6912 → ℝ)
  (arg11 : Memref sig .tc .vmem S3x54x512x128 .fp8e4m3) (arg12 : Memref sig .tc .vmem S54x512x128 .bf16)
  (arg13 : Memref sig .tc .vmem S3x432x128 .f32) (m r : Fin 3 → FVec Ideal S8x128 .f32)
  (X11 : arg11.view.ty.Contents (Elt Ideal)) (X12 : arg12.view.ty.Contents (Elt Ideal)) (X13 : arg13.view.ty.Contents (Elt Ideal))

section Reads
variable (k : Fin 54)

theorem sc_at (hx2 : ∀ ρ k, @Eq EReal (x2 (ix2 ρ k)) (S ρ k : ℝ)) (h13 : ∀ y, @Eq EReal (arg13.view.read (Elt Ideal) X13 y) (scG x2 y))
    (g : Fin 3) (o : Fin 3 → ℕ) (ho : o = ![g.val, 8 * k.val, 0]) (hi : ∀ a, o a + S1x8x128.size a ≤ S3x432x128.size a) (s : Fin 8) (l : Fin 128) :
    @Eq EReal (View.readAt (Elt Ideal) arg13.view (Rect.unit (s := S3x432x128) o S1x8x128.size hi).toLoadRect X13 (ix3 0 s l)) (S (rowOf g s.val l) k : ℝ) := by
  subst ho
  have e : (Rect.unit (s := S3x432x128) ![g.val, 8 * k.val, 0] S1x8x128.size hi).toLoadRect.idx (ix3 0 s l) = ix3 g ⟨8 * k.val + s.val, by omega⟩ l := by
    funext d; apply Fin.ext
    rw [LoadRect.idx_apply]
    fin_cases d <;> simp
  refine (congrArg (arg13.view.read (Elt Ideal) X13) e).trans ((h13 _).trans ?_)
  refine (hx2 _ _).trans (congrArg _ ?_)
  show S (rowOf g (8 * k.val + s.val) l) (blkOf _) = _
  congr 1
  · rw [← rowOf_mod g (8 * k.val + s.val) l, ← rowOf_mod g s.val l]
    congr 1; omega
  · refine Fin.ext ?_
    show (8 * k.val + s.val) / 8 = k.val
    omega

theorem xr_at (hx1 : ∀ ρ κ, @Eq EReal (x1 (ix2 ρ κ)) (X ρ κ : ℝ)) (h11 : ∀ y, @Eq EReal (arg11.view.read (Elt Ideal) X11 y) (xtG x1 y))
    (g : Fin 3) (o : Fin 4 → ℕ) (ho : o = ![g.val, k.val, 0, 0]) (hi : ∀ a, o a + S1x1x512x128.size a ≤ S3x54x512x128.size a) (q : Fin 512) (l : Fin 128) :
    @Eq EReal (View.readAt (Elt Ideal) arg11.view (Rect.unit (s := S3x54x512x128) o S1x1x512x128.size hi).toLoadRect X11 (ix4 0 0 q l))
      (X (rowOf g q.val l) (colOf k ⟨q.val / 4, by omega⟩) : ℝ) := by
  subst ho
  have e : (Rect.unit (s := S3x54x512x128) ![g.val, k.val, 0, 0] S1x1x512x128.size hi).toLoadRect.idx (ix4 0 0 q l) = ix4 g k q l := by
    funext d; apply Fin.ext
    rw [LoadRect.idx_apply]
    fin_cases d <;> simp
  exact (congrArg (arg11.view.read (Elt Ideal) X11) e).trans ((h11 _).trans (hx1 _ _))

theorem lh_at (hx5 : ∀ κ, @Eq EReal (x5 (ix2 0 κ)) (Γ κ : ℝ)) (hx6 : ∀ κ, @Eq EReal (x6 (ix2 0 κ)) (B κ : ℝ))
    (h12 : ∀ y, @Eq EReal (arg12.view.read (Elt Ideal) X12 y) (lhG x5 x6 y))
    (o : Fin 3 → ℕ) (ho : o = ![k.val, 0, 0]) (hi : ∀ a, o a + S1x512x128.size a ≤ S54x512x128.size a) (q : Fin 512) (c : Fin 128) :
    @Eq EReal (View.readAt (Elt Ideal) arg12.view (Rect.unit (s := S54x512x128) o S1x512x128.size hi).toLoadRect X12 (ix3 0 q c))
      (if q.val % 4 = c.val % 4 then rowR (seq Γ k) (seq B k) c.val (q.val / 4) else 0) := by
  subst ho
  have e : (Rect.unit (s := S54x512x128) ![k.val, 0, 0] S1x512x128.size hi).toLoadRect.idx (ix3 0 q c) = ix3 k q c := by
    funext d; apply Fin.ext
    rw [LoadRect.idx_apply]
    fin_cases d <;> simp
  refine (congrArg (arg12.view.read (Elt Ideal) X12) e).trans ((h12 _).trans ?_)
  refine lhs_apply _ _ (seq Γ k) (seq B k) (fun i => ?_) (fun i => ?_) 0 q c
  · rw [seq_lt _ _ _ i.isLt]; exact hx5 _
  · rw [seq_lt _ _ _ i.isLt]; exact hx6 _
end Reads

variable (hx1 : ∀ ρ κ, @Eq EReal (x1 (ix2 ρ κ)) (X ρ κ : ℝ)) (hx2 : ∀ ρ k, @Eq EReal (x2 (ix2 ρ k)) (S ρ k : ℝ))
  (hx5 : ∀ κ, @Eq EReal (x5 (ix2 0 κ)) (Γ κ : ℝ)) (hx6 : ∀ κ, @Eq EReal (x6 (ix2 0 κ)) (B κ : ℝ))
  (hm : ∀ (g : Fin 3) (s : Fin 8) (l : Fin 128), @Eq EReal (m g (ix2 s l)) (M (rowOf g s.val l) : ℝ))
  (hr : ∀ (g : Fin 3) (s : Fin 8) (l : Fin 128), @Eq EReal (r g (ix2 s l)) (R (rowOf g s.val l) : ℝ))
  (hS : ∀ ρ k, 0 < S ρ k) (hR : ∀ ρ, 0 < R ρ)
  (h11 : ∀ y, @Eq EReal (arg11.view.read (Elt Ideal) X11 y) (xtG x1 y)) (h12 : ∀ y, @Eq EReal (arg12.view.read (Elt Ideal) X12 y) (lhG x5 x6 y))
  (h13 : ∀ y, @Eq EReal (arg13.view.read (Elt Ideal) X13 y) (scG x2 y))
  (k : Fin k0_t2_loop.trips)

theorem mem_y (y : S1536x6912.Idx) (g : Fin 3) (hg : (y 0).val / 512 = g.val) (o : Fin 2 → ℕ) (ho : o = ![512 * g.val, 128 * ((y 1).val / 128)])
    (hi : ∀ a, o a + S512x128.size a ≤ S1536x6912.size a) : y ∈ (Rect.unit (s := S1536x6912) o S512x128.size hi).set := by
  subst ho
  refine Rect.mem_set_unit.mpr fun a => ?_
  fin_cases a
  · show 512 * g.val ≤ (y 0).val ∧ (y 0).val < 512 * g.val + 512
    omega
  · show 128 * ((y 1).val / 128) ≤ (y 1).val ∧ (y 1).val < 128 * ((y 1).val / 128) + 128
    omega

/-- What one group's words are, in one trip. -/
def WordsAt (X : Fin 1536 → Fin 6912 → ℝ) (S : Fin 1536 → Fin 54 → ℝ) (M R : Fin 1536 → ℝ) (Γ B : Fin 6912 → ℝ)
    (g : Fin 3) (k : Fin 54) (gain : FVec Ideal S8x128 .f32) (w : FVec Ideal S64x8x128 .f32) : Prop :=
  (∀ (l : Fin 128) (s : Fin 8), @Eq EReal (gain (ix2 s l)) ((S (rowOf g (s.val % 4) l) k * R (rowOf g (s.val % 4) l) : ℝ) : EReal)) ∧
  ∀ (l : Fin 128) (a : Fin 64) (s : Fin 8), @Eq EReal (w (ix3 a s l)) ((zR X S M R Γ B (rowOf g (s.val % 4) l) k ⟨2 * a.val + s.val / 4, by omega⟩
        / (S (rowOf g (s.val % 4) l) k * R (rowOf g (s.val % 4) l)) : ℝ) : EReal)

theorem gain_words (g : Fin 3) (k : Fin 54) (v : Vec Ideal S1x8x128 .f32) (r : FVec Ideal S8x128 .f32)
    (hv : ∀ (s : Fin 8) (l : Fin 128), @Eq EReal (v (ix3 0 s l)) (S (rowOf g s.val l) k : ℝ))
    (hr : ∀ (s : Fin 8) (l : Fin 128), @Eq EReal (r (ix2 s l)) (R (rowOf g s.val l) : ℝ)) (l : Fin 128) (s : Fin 8) :
    @Eq EReal (gainOp (F := Ideal) v r (ix2 s l)) ((S (rowOf g (s.val % 4) l) k * R (rowOf g (s.val % 4) l) : ℝ) : EReal) := by
  rw [gain_apply, hv, hr, ← EReal.coe_mul, rowOf_mod]

include hx1 hx2 hx5 hx6 hm hr hS hR h11 h12 h13

theorem words0 : WordsAt X S M R Γ B 0 ⟨k.val, trip2_lt k⟩ (gainOp (sc0 arg13 X13 k) (r 0))
    (w0 (F := Ideal) arg11 arg12 arg13 (m 0) (r 0) (m 1) (r 1) (m 2) (r 2) X11 X12 X13 k) :=
  ⟨gain_words S R 0 _ _ _ (sc_at x2 S arg13 X13 ⟨k.val, trip2_lt k⟩ hx2 h13 0 _ (off12_eq k) (k0_off12_inb k)) (hr 0),
   group_real X S M R Γ B hS hR 0 ⟨k.val, trip2_lt k⟩ _ (sc0 arg13 X13 k) (m 0) (r 0) _ 0 (by omega) _ _
    (xr_at x1 X arg11 X11 ⟨k.val, trip2_lt k⟩ hx1 h11 0 _ (off16_eq k) (k0_off16_inb k))
    (sc_at x2 S arg13 X13 ⟨k.val, trip2_lt k⟩ hx2 h13 0 _ (off12_eq k) (k0_off12_inb k)) (hm 0) (hr 0)
    (fun q l => (acc3_apply _ _ _ _ q l).trans (Finset.sum_congr rfl fun c _ => congrArg (fun z : EReal => z * k0_pay432 (F := Ideal) (ix2 c l))
      (lh_at x5 x6 Γ B arg12 X12 ⟨k.val, trip2_lt k⟩ hx5 hx6 h12 _ (off15_eq k) (k0_off15_inb k) q c)))
    (fun q l => (acc0_apply _ _ _ _ q l).trans (Finset.sum_congr rfl fun c _ => congrArg (fun z : EReal => z * rhsOp (F := Ideal) (m 0) (r 0) (sc0 arg13 X13 k) (ix2 c l))
      (lh_at x5 x6 Γ B arg12 X12 ⟨k.val, trip2_lt k⟩ hx5 hx6 h12 _ (off15_eq k) (k0_off15_inb k) q c)))⟩

theorem words1 : WordsAt X S M R Γ B 1 ⟨k.val, trip2_lt k⟩ (gainOp (sc1 arg13 X13 k) (r 1))
    (w1 (F := Ideal) arg11 arg12 arg13 (m 0) (r 0) (m 1) (r 1) (m 2) (r 2) X11 X12 X13 k) :=
  ⟨gain_words S R 1 _ _ _ (sc_at x2 S arg13 X13 ⟨k.val, trip2_lt k⟩ hx2 h13 1 _ (off13_eq k) (k0_off13_inb k)) (hr 1),
   group_real X S M R Γ B hS hR 1 ⟨k.val, trip2_lt k⟩ _ (sc1 arg13 X13 k) (m 1) (r 1) _ 128 (by omega) _ _
    (xr_at x1 X arg11 X11 ⟨k.val, trip2_lt k⟩ hx1 h11 1 _ (off18_eq k) (k0_off18_inb k))
    (sc_at x2 S arg13 X13 ⟨k.val, trip2_lt k⟩ hx2 h13 1 _ (off13_eq k) (k0_off13_inb k)) (hm 1) (hr 1)
    (fun q l => (acc3_apply _ _ _ _ q l).trans (Finset.sum_congr rfl fun c _ => congrArg (fun z : EReal => z * k0_pay432 (F := Ideal) (ix2 c l))
      (lh_at x5 x6 Γ B arg12 X12 ⟨k.val, trip2_lt k⟩ hx5 hx6 h12 _ (off15_eq k) (k0_off15_inb k) q c)))
    (fun q l => (acc1_apply _ _ _ _ q l).trans (Finset.sum_congr rfl fun c _ => congrArg (fun z : EReal => z * rhsOp (F := Ideal) (m 1) (r 1) (sc1 arg13 X13 k) (ix2 c l))
      (lh_at x5 x6 Γ B arg12 X12 ⟨k.val, trip2_lt k⟩ hx5 hx6 h12 _ (off15_eq k) (k0_off15_inb k) q c)))⟩

theorem words2 : WordsAt X S M R Γ B 2 ⟨k.val, trip2_lt k⟩ (gainOp (sc2 arg13 X13 k) (r 2))
    (w2 (F := Ideal) arg11 arg12 arg13 (m 0) (r 0) (m 1) (r 1) (m 2) (r 2) X11 X12 X13 k) :=
  ⟨gain_words S R 2 _ _ _ (sc_at x2 S arg13 X13 ⟨k.val, trip2_lt k⟩ hx2 h13 2 _ (off14_eq k) (k0_off14_inb k)) (hr 2),
   group_real X S M R Γ B hS hR 2 ⟨k.val, trip2_lt k⟩ _ (sc2 arg13 X13 k) (m 2) (r 2) _ 256 (by omega) _ _
    (xr_at x1 X arg11 X11 ⟨k.val, trip2_lt k⟩ hx1 h11 2 _ (off20_eq k) (k0_off20_inb k))
    (sc_at x2 S arg13 X13 ⟨k.val, trip2_lt k⟩ hx2 h13 2 _ (off14_eq k) (k0_off14_inb k)) (hm 2) (hr 2)
    (fun q l => (acc3_apply _ _ _ _ q l).trans (Finset.sum_congr rfl fun c _ => congrArg (fun z : EReal => z * k0_pay432 (F := Ideal) (ix2 c l))
      (lh_at x5 x6 Γ B arg12 X12 ⟨k.val, trip2_lt k⟩ hx5 hx6 h12 _ (off15_eq k) (k0_off15_inb k) q c)))
    (fun q l => (acc2_apply _ _ _ _ q l).trans (Finset.sum_congr rfl fun c _ => congrArg (fun z : EReal => z * rhsOp (F := Ideal) (m 2) (r 2) (sc2 arg13 X13 k) (ix2 c l))
      (lh_at x5 x6 Γ B arg12 X12 ⟨k.val, trip2_lt k⟩ hx5 hx6 h12 _ (off15_eq k) (k0_off15_inb k) q c)))⟩

/-- The code and the scale of every place. -/
def yG (X : Fin 1536 → Fin 6912 → ℝ) (S : Fin 1536 → Fin 54 → ℝ) (M R : Fin 1536 → ℝ) (Γ B : Fin 6912 → ℝ) (ρ : Fin 1536) (κ : Fin 6912) : EReal :=
  ((codeR (zR X S M R Γ B ρ ⟨κ.val / 128, by omega⟩) ⟨κ.val % 128, by omega⟩ : ℝ) : EReal)
def sG (X : Fin 1536 → Fin 6912 → ℝ) (S : Fin 1536 → Fin 54 → ℝ) (M R : Fin 1536 → ℝ) (Γ B : Fin 6912 → ℝ) (ρ : Fin 1536) (k : Fin 54) : EReal :=
  ((scaleR (zR X S M R Γ B ρ k) : ℝ) : EReal)
def yA (X : Fin 1536 → Fin 6912 → ℝ) (S : Fin 1536 → Fin 54 → ℝ) (M R : Fin 1536 → ℝ) (Γ B : Fin 6912 → ℝ) (y : S1536x6912.Idx) : EReal :=
  yG X S M R Γ B (y 0) (y 1)
def sA (X : Fin 1536 → Fin 6912 → ℝ) (S : Fin 1536 → Fin 54 → ℝ) (M R : Fin 1536 → ℝ) (Γ B : Fin 6912 → ℝ) (y : S3x432x128.Idx) : EReal :=
  sG X S M R Γ B (rowOf (y 0) (y 1).val (y 2)) (blkOf (y 1))

omit hx1 hx2 hx5 hx6 hm hr h11 h12 h13 in
theorem s_piece (hb : ∀ ρ k, tR (zR X S M R Γ B ρ k) < (2 : ℝ) ^ (126 : ℤ)) (g : Fin 3) (k : Fin 54) (gain : FVec Ideal S8x128 .f32) (w : FVec Ideal S64x8x128 .f32)
    (hw : WordsAt X S M R Γ B g k gain w) (o : Fin 3 → ℕ) (ho : o = ![g.val, 8 * k.val, 0]) (hi : ∀ a, o a + S1x8x128.size a ≤ S3x432x128.size a)
    (x : (Rect.unit (s := S3x432x128) o S1x8x128.size hi).shape.Idx) :
    @Eq EReal (esOp (F := Ideal) gain w x) (sA X S M R Γ B ((Rect.unit (s := S3x432x128) o S1x8x128.size hi).emb x)) := by
  subst ho
  have ex : x = ix3 (x 0) (x 1) (x 2) := eq_ix3 x
  rw [ex]
  generalize x 0 = a, x 1 = s, x 2 = l
  change Fin 1 at a; change Fin 8 at s; change Fin 128 at l
  have e : (Rect.unit (s := S3x432x128) ![g.val, 8 * k.val, 0] S1x8x128.size hi).emb (ix3 a s l) = ix3 g ⟨8 * k.val + s.val, by omega⟩ l := by
    funext d; apply Fin.ext
    rw [Rect.emb_apply]
    fin_cases d <;> simp
  refine (es_apply gain w l (fun j => S (rowOf g j l) k * R (rowOf g j l)) (fun j => zR X S M R Γ B (rowOf g j l) k) (fun j => mul_pos (hS _ _) (hR _))
    (hw.1 l) (hw.2 l) (fun j => hb _ _) a s).trans (Eq.trans ?_ (congrArg (sA X S M R Γ B) e).symm)
  show _ = sG X S M R Γ B (rowOf g (8 * k.val + s.val) l) (blkOf _)
  have e1 : rowOf g (8 * k.val + s.val) l = rowOf g s.val l := by
    rw [← rowOf_mod g (8 * k.val + s.val) l, ← rowOf_mod g s.val l]
    congr 1; omega
  have e2 : blkOf (ix3 (n0 := 3) (n1 := 432) (n2 := 128) g ⟨8 * k.val + s.val, by omega⟩ l 1) = k := by
    refine Fin.ext ?_
    show (8 * k.val + s.val) / 8 = k.val
    omega
  rw [e1]
  refine Eq.trans ?_ (congrArg (sG X S M R Γ B (rowOf g s.val l)) e2).symm
  simp only [rowOf_mod]
  rfl

omit hx1 hx2 hx5 hx6 hm hr h11 h12 h13 in
theorem y_piece (hb : ∀ ρ k, tR (zR X S M R Γ B ρ k) < (2 : ℝ) ^ (126 : ℤ)) (g : Fin 3) (k : Fin 54) (gain : FVec Ideal S8x128 .f32) (w : FVec Ideal S64x8x128 .f32)
    (hw : WordsAt X S M R Γ B g k gain w) (o : Fin 2 → ℕ) (ho : o = ![512 * g.val, 128 * k.val]) (hi : ∀ a, o a + S512x128.size a ≤ S1536x6912.size a)
    (x : (Rect.unit (s := S1536x6912) o S512x128.size hi).shape.Idx) :
    @Eq EReal (yOp (F := Ideal) gain w x) (yA X S M R Γ B ((Rect.unit (s := S1536x6912) o S512x128.size hi).emb x)) := by
  subst ho
  have ex : x = ix2 (x 0) (x 1) := eq_ix2 x
  rw [ex]
  generalize x 0 = a, x 1 = b
  change Fin 512 at a; change Fin 128 at b
  have e : (Rect.unit (s := S1536x6912) ![512 * g.val, 128 * k.val] S512x128.size hi).emb (ix2 a b)
      = ix2 ⟨512 * g.val + a.val, by omega⟩ ⟨128 * k.val + b.val, by omega⟩ := by
    funext d; apply Fin.ext
    rw [Rect.emb_apply]
    fin_cases d <;> simp
  generalize hl : (⟨a.val / 4, by omega⟩ : Fin 128) = l
  have hl' : a.val / 4 = l.val := congrArg Fin.val hl
  refine (y_apply gain w l (fun j => S (rowOf g j l) k * R (rowOf g j l)) (fun j => zR X S M R Γ B (rowOf g j l) k) (fun j => mul_pos (hS _ _) (hR _))
    (hw.1 l) (hw.2 l) (fun j => hb _ _) a hl' b).trans (Eq.trans ?_ (congrArg (yA X S M R Γ B) e).symm)
  show _ = yG X S M R Γ B ⟨512 * g.val + a.val, by omega⟩ ⟨128 * k.val + b.val, by omega⟩
  unfold yG
  have e1 : rowOf g (a.val % 4) l = ⟨512 * g.val + a.val, by omega⟩ := Fin.ext (by simp only [rowOf]; omega)
  have e2 : (⟨(128 * k.val + b.val) / 128, by omega⟩ : Fin 54) = k := Fin.ext (by simp only; omega)
  have e3 : (⟨(128 * k.val + b.val) % 128, by omega⟩ : Fin 128) = b := Fin.ext (by simp only; omega)
  simp only [e1, e2, e3]

variable (hb : ∀ ρ k, tR (zR X S M R Γ B ρ k) < (2 : ℝ) ^ (126 : ℤ))
include hb

/-- After the loop the codes read the quantised numbers, whatever they held. -/
theorem y_read (arg7 : Memref sig .tc .vmem S1536x6912 .fp8e4m3) (f7 : arg7.view.ty.Contents (Elt Ideal)) (y : S1536x6912.Idx) :
    @Eq EReal (arg7.view.read (Elt Ideal) (arg7.view.writes (Elt Ideal) f7
        (upto (yL (F := Ideal) arg11 arg12 arg13 (m 0) (r 0) (m 1) (r 1) (m 2) (r 2) X11 X12 X13) k0_t2_loop.trips)) y)
      (yA X S M R Γ B y) := by
  refine View.read_writes_apply_of_pieces _ _ _ _ (fun p hp x => ?_) y ?_
  · obtain ⟨k, _, hp⟩ := (mem_upto _ _ _).mp hp
    simp only [yL, List.mem_cons, List.not_mem_nil, or_false] at hp
    rcases hp with rfl | rfl | rfl
    · exact y_piece X S M R Γ B hS hR hb 2 ⟨k.val, trip2_lt k⟩ _ _ (words2 x1 x2 x5 x6 X S M R Γ B arg11 arg12 arg13 m r X11 X12 X13 hx1 hx2 hx5 hx6 hm hr hS hR h11 h12 h13 k) _ (off21_eq k) (k0_off21_inb k) x
    · exact y_piece X S M R Γ B hS hR hb 1 ⟨k.val, trip2_lt k⟩ _ _ (words1 x1 x2 x5 x6 X S M R Γ B arg11 arg12 arg13 m r X11 X12 X13 hx1 hx2 hx5 hx6 hm hr hS hR h11 h12 h13 k) _ (off19_eq k) (k0_off19_inb k) x
    · exact y_piece X S M R Γ B hS hR hb 0 ⟨k.val, trip2_lt k⟩ _ _ (words0 x1 x2 x5 x6 X S M R Γ B arg11 arg12 arg13 m r X11 X12 X13 hx1 hx2 hx5 hx6 hm hr hS hR h11 h12 h13 k) _ (off17_eq k) (k0_off17_inb k) x
  · have h0 := (y 0).isLt
    have h1 := (y 1).isLt
    change (y 0).val < 1536 at h0
    change (y 1).val < 6912 at h1
    have hk : (y 1).val / 128 < k0_t2_loop.trips := lt_of_lt_of_eq (by omega) t2_trips.symm
    have h3 : (y 0).val / 512 = 0 ∨ (y 0).val / 512 = 1 ∨ (y 0).val / 512 = 2 := by omega
    rcases h3 with h | h | h
    · exact ⟨_, (mem_upto _ _ _).mpr ⟨⟨_, hk⟩, hk, List.mem_cons_of_mem _ (List.mem_cons_of_mem _ List.mem_cons_self)⟩, mem_y y 0 h _ (off17_eq _) (k0_off17_inb _)⟩
    · exact ⟨_, (mem_upto _ _ _).mpr ⟨⟨_, hk⟩, hk, List.mem_cons_of_mem _ List.mem_cons_self⟩, mem_y y 1 h _ (off19_eq _) (k0_off19_inb _)⟩
    · exact ⟨_, (mem_upto _ _ _).mpr ⟨⟨_, hk⟩, hk, List.mem_cons_self⟩, mem_y y 2 h _ (off21_eq _) (k0_off21_inb _)⟩

/-- After the loop the scratch array of scales reads them, whatever it held. -/
theorem s_read (arg16 : Memref sig .tc .vmem S3x432x128 .f32) (f16 : arg16.view.ty.Contents (Elt Ideal)) (y : S3x432x128.Idx) :
    @Eq EReal (arg16.view.read (Elt Ideal) (arg16.view.writes (Elt Ideal) f16
        (upto (esL (F := Ideal) arg11 arg12 arg13 (m 0) (r 0) (m 1) (r 1) (m 2) (r 2) X11 X12 X13) k0_t2_loop.trips)) y)
      (sA X S M R Γ B y) := by
  refine View.read_writes_apply_of_pieces _ _ _ _ (fun p hp x => ?_) y ?_
  · obtain ⟨k, _, hp⟩ := (mem_upto _ _ _).mp hp
    simp only [esL, List.mem_cons, List.not_mem_nil, or_false] at hp
    rcases hp with rfl | rfl | rfl
    · exact s_piece X S M R Γ B hS hR hb 2 ⟨k.val, trip2_lt k⟩ _ _ (words2 x1 x2 x5 x6 X S M R Γ B arg11 arg12 arg13 m r X11 X12 X13 hx1 hx2 hx5 hx6 hm hr hS hR h11 h12 h13 k) _ (off14_eq k) (k0_off14_inb k) x
    · exact s_piece X S M R Γ B hS hR hb 1 ⟨k.val, trip2_lt k⟩ _ _ (words1 x1 x2 x5 x6 X S M R Γ B arg11 arg12 arg13 m r X11 X12 X13 hx1 hx2 hx5 hx6 hm hr hS hR h11 h12 h13 k) _ (off13_eq k) (k0_off13_inb k) x
    · exact s_piece X S M R Γ B hS hR hb 0 ⟨k.val, trip2_lt k⟩ _ _ (words0 x1 x2 x5 x6 X S M R Γ B arg11 arg12 arg13 m r X11 X12 X13 hx1 hx2 hx5 hx6 hm hr hS hR h11 h12 h13 k) _ (off12_eq k) (k0_off12_inb k) x
  · have h1 := (y 1).isLt
    change (y 1).val < 432 at h1
    have hk : (y 1).val / 8 < k0_t2_loop.trips := lt_of_lt_of_eq (by omega) t2_trips.symm
    have h3 : ∀ g : Fin 3, g = 0 ∨ g = 1 ∨ g = 2 := by decide
    rcases h3 (y 0) with h | h | h
    · exact ⟨_, (mem_upto _ _ _).mpr ⟨⟨_, hk⟩, hk, List.mem_cons_of_mem _ (List.mem_cons_of_mem _ List.mem_cons_self)⟩, mem_group y 0 h _ (off12_eq _) (k0_off12_inb _)⟩
    · exact ⟨_, (mem_upto _ _ _).mpr ⟨⟨_, hk⟩, hk, List.mem_cons_of_mem _ List.mem_cons_self⟩, mem_group y 1 h _ (off13_eq _) (k0_off13_inb _)⟩
    · exact ⟨_, (mem_upto _ _ _).mpr ⟨⟨_, hk⟩, hk, List.mem_cons_self⟩, mem_group y 2 h _ (off14_eq _) (k0_off14_inb _)⟩

end Loop

end Cert.Ln

end
-- ==== Proof.LnVal.lean ====
/- The codes and the scales the kernel leaves, when every number it reads is real and none is too large. -/
module

public import proofs.«01_k».proof.Proof.LnTrip
public import proofs.«01_k».proof.Proof.LnGroup

@[expose] public section

set_option maxRecDepth 16384

noncomputable section

namespace Cert.Ln

open Idealize.ShloMosaic Idealize.ShloMosaic.TcCoe
open Cert.KernelIdeal Cert.KernelIdeal.Gen

section Spec
variable (x0 : Vec Ideal S3 .f32) (x1 : Vec Ideal S1536x6912 .fp8e4m3) (x2 : Vec Ideal S1536x54 .f32) (x3 x4 : Vec Ideal S3x12x128 .f32)
  (x5 x6 : Vec Ideal S1x6912 .f32)

/-- The numbers both programs read, as real numbers. -/
def codeOf (ρ : Fin 1536) (κ : Fin 6912) : ℝ := EReal.toReal (x1 (ix2 ρ κ))
def scaleOf (ρ : Fin 1536) (k : Fin 54) : ℝ := EReal.toReal (x2 (ix2 ρ k))
def weightOf (κ : Fin 6912) : ℝ := EReal.toReal (x5 (ix2 0 κ))
def meanOf (ρ : Fin 1536) : ℝ := EReal.toReal (meanAt x0 x1 x2 x3 ⟨ρ.val / 128, by omega⟩ ⟨ρ.val % 128, by omega⟩)
def rstdOf (ρ : Fin 1536) : ℝ := EReal.toReal (rstdAt x0 x1 x2 x3 x4 ⟨ρ.val / 128, by omega⟩ ⟨ρ.val % 128, by omega⟩)

/-- A row's normalised numbers in one block. -/
def normOf (ρ : Fin 1536) (k : Fin 54) (i : Fin 128) : ℝ :=
  zR (codeOf x1) (scaleOf x2) (meanOf x0 x1 x2 x3) (rstdOf x0 x1 x2 x3 x4) (weightOf x5) (weightOf x6) ρ k i

/-- Inputs on which every number is real and none is too large. -/
structure Tame : Prop where
  codes : ∀ ρ κ, @Eq EReal (x1 (ix2 ρ κ)) (codeOf x1 ρ κ : ℝ)
  scales : ∀ ρ k, @Eq EReal (x2 (ix2 ρ k)) (scaleOf x2 ρ k : ℝ)
  scales_pos : ∀ ρ k, 0 < scaleOf x2 ρ k
  gamma : ∀ κ, @Eq EReal (x5 (ix2 0 κ)) (weightOf x5 κ : ℝ)
  beta : ∀ κ, @Eq EReal (x6 (ix2 0 κ)) (weightOf x6 κ : ℝ)
  mean : ∀ ρ : Fin 1536, @Eq EReal (meanAt x0 x1 x2 x3 ⟨ρ.val / 128, by omega⟩ ⟨ρ.val % 128, by omega⟩) (meanOf x0 x1 x2 x3 ρ : ℝ)
  rstd : ∀ ρ : Fin 1536, @Eq EReal (rstdAt x0 x1 x2 x3 x4 ⟨ρ.val / 128, by omega⟩ ⟨ρ.val % 128, by omega⟩) (rstdOf x0 x1 x2 x3 x4 ρ : ℝ)
  rstd_pos : ∀ ρ, 0 < rstdOf x0 x1 x2 x3 x4 ρ
  small : ∀ ρ k, tR (normOf x0 x1 x2 x3 x4 x5 x6 ρ k) < (2 : ℝ) ^ (126 : ℤ)

/-- The codes and the scales. -/
def yOut : Vec Ideal S1536x6912 .fp8e4m3 := fun i =>
  yG (codeOf x1) (scaleOf x2) (meanOf x0 x1 x2 x3) (rstdOf x0 x1 x2 x3 x4) (weightOf x5) (weightOf x6) (i 0) (i 1)
def sOut : Vec Ideal S1536x54 .f32 := fun i =>
  sG (codeOf x1) (scaleOf x2) (meanOf x0 x1 x2 x3) (rstdOf x0 x1 x2 x3 x4) (weightOf x5) (weightOf x6) (i 0) (i 1)

theorem row_split (g : Fin 3) (s : Fin 8) (l : Fin 128) : (⟨(rowOf g s.val l).val / 128, by omega⟩ : Fin 12) = batchOf g l
    ∧ (⟨(rowOf g s.val l).val % 128, by omega⟩ : Fin 128) = posOf s l := by
  constructor <;> refine Fin.ext ?_ <;> simp only [rowOf, batchOf, posOf] <;> omega

variable {x0 x1 x2 x3 x4 x5 x6}

theorem word_mean (T : Tame x0 x1 x2 x3 x4 x5 x6) (g : Fin 3) (s : Fin 8) (l : Fin 128) :
    @Eq EReal (word (meanAt x0 x1 x2 x3) g (ix2 s l)) (meanOf x0 x1 x2 x3 (rowOf g s.val l) : ℝ) := by
  rw [word_apply, ← T.mean, (row_split g s l).1, (row_split g s l).2]

theorem word_rstd (T : Tame x0 x1 x2 x3 x4 x5 x6) (g : Fin 3) (s : Fin 8) (l : Fin 128) :
    @Eq EReal (word (rstdAt x0 x1 x2 x3 x4) g (ix2 s l)) (rstdOf x0 x1 x2 x3 x4 (rowOf g s.val l) : ℝ) := by
  rw [word_apply, ← T.rstd, (row_split g s l).1, (row_split g s l).2]
end Spec

/-- The rows of group `g` congruent to `j` modulo 4, and the strip of the scratch array they take their scales from. -/
def ysRect (g : Fin 3) (j : Fin 4) : Rect S1536x54 where
  off := ![512 * g.val + j.val, 0]
  size := S128x54.size
  stride := ![4, 1]
  inb a := by right; fin_cases a <;> simp; omega
  stride_pos a := by fin_cases a <;> simp
def esRect (g : Fin 3) (j : Fin 4) : LoadRect S3x432x128 where
  off := ![g.val, j.val, 0]
  size := S1x54x128.size
  stride := ![1, 8, 1]
  inb a := by right; fin_cases a <;> simp; omega

/-- The order in which the strips are stored, the last first. -/
def ysOrder : List (Fin 3 × Fin 4) := [(2, 3), (2, 2), (2, 1), (2, 0), (1, 3), (1, 2), (1, 1), (1, 0), (0, 3), (0, 2), (0, 1), (0, 0)]
theorem mem_ysOrder : ∀ p : Fin 3 × Fin 4, p ∈ ysOrder := by decide

def ysPay (v : Vec Ideal S1x54x128 .f32) : FVec Ideal S128x54 .f32 := k0_pay2 v
def ysPiece (arg16 : Memref sig .tc .vmem S3x432x128 .f32) (C : arg16.view.ty.Contents (Elt Ideal)) (p : Fin 3 × Fin 4) :
    View.Piece (Elt Ideal) S1536x54 .f32 := ⟨ysRect p.1 p.2, ysPay (View.readAt (Elt Ideal) arg16.view (esRect p.1 p.2) C)⟩

theorem ysPay_apply (v : Vec Ideal S1x54x128 .f32) (l : Fin 128) (b : Fin 54) : @Eq EReal (ysPay v (ix2 l b)) (v (ix3 0 b l)) := by
  pointwise [ysPay, k0_pay2]

theorem mem_ysRect (y : S1536x54.Idx) : y ∈ (ysRect ⟨(y 0).val / 512, by
    have h0 := (y 0).isLt; change (y 0).val < 1536 at h0; omega⟩ ⟨(y 0).val % 4, by omega⟩).set := by
  have h0 := (y 0).isLt
  change (y 0).val < 1536 at h0
  have h1 := (y 1).isLt
  change (y 1).val < 54 at h1
  refine (LoadRect.mem_set _).mpr fun a => ?_
  fin_cases a
  · exact ⟨(y 0).val % 512 / 4, by simp [ysRect]; omega, by simp [ysRect]; omega⟩
  · exact ⟨(y 1).val, h1, by simp [ysRect]⟩

/-- The scales row by row. -/
def sB (X : Fin 1536 → Fin 6912 → ℝ) (S : Fin 1536 → Fin 54 → ℝ) (M R : Fin 1536 → ℝ) (Γ B : Fin 6912 → ℝ) : Vec Ideal S1536x54 .f32 :=
  fun y => sG X S M R Γ B (y 0) (y 1)

/-- The strips, once stored, hold the scales row by row. -/
theorem ys_read (X : Fin 1536 → Fin 6912 → ℝ) (S : Fin 1536 → Fin 54 → ℝ) (M R : Fin 1536 → ℝ) (Γ B : Fin 6912 → ℝ)
    (arg8 : Memref sig .tc .vmem S1536x54 .f32) (f : arg8.view.ty.Contents (Elt Ideal))
    (arg16 : Memref sig .tc .vmem S3x432x128 .f32) (C : arg16.view.ty.Contents (Elt Ideal))
    (hC : ∀ y, @Eq EReal (arg16.view.read (Elt Ideal) C y) (sA X S M R Γ B y)) (y : S1536x54.Idx) :
    @Eq EReal (arg8.view.read (Elt Ideal) (arg8.view.writes (Elt Ideal) f (ysOrder.map (ysPiece arg16 C))) y) (sG X S M R Γ B (y 0) (y 1)) := by
  refine View.read_writes_apply_of_pieces _ _ (sB X S M R Γ B) _ (fun p hp x => ?_) y ?_
  · obtain ⟨⟨g, j⟩, -, rfl⟩ := List.mem_map.mp hp
    change S128x54.Idx at x
    have ex : x = ix2 (x 0) (x 1) := eq_ix2 x
    rw [ex]
    generalize x 0 = l, x 1 = b
    change Fin 128 at l; change Fin 54 at b
    have e : (ysRect g j).emb (ix2 l b) = ix2 (rowOf g j.val l) b := by
      funext d; apply Fin.ext
      refine (Rect.emb_apply _ _ d).trans ?_
      fin_cases d
      · show 512 * g.val + j.val + 4 * l.val = 512 * g.val + (4 * l.val + j.val % 4)
        omega
      · show 0 + 1 * b.val = b.val
        omega
    have e2 : (esRect g j).idx (ix3 0 b l) = ix3 g ⟨8 * b.val + j.val, by omega⟩ l := by
      funext d; apply Fin.ext
      refine (LoadRect.idx_apply _ _ d).trans ?_
      fin_cases d
      · show g.val + 1 * 0 = g.val
        omega
      · show j.val + 8 * b.val = 8 * b.val + j.val
        omega
      · show 0 + 1 * l.val = l.val
        omega
    refine Eq.trans (ysPay_apply (View.readAt (Elt Ideal) arg16.view (esRect g j) C) l b) (Eq.trans ((congrArg (arg16.view.read (Elt Ideal) C) e2).trans (hC _)) ?_)
    refine Eq.trans ?_ (congrArg (sB X S M R Γ B) e).symm
    have e3 : rowOf g (8 * b.val + j.val) l = rowOf g j.val l := by
      rw [← rowOf_mod g (8 * b.val + j.val) l, ← rowOf_mod g j.val l]
      congr 1; omega
    have e4 : (⟨(8 * b.val + j.val) / 8, by omega⟩ : Fin 54) = b := Fin.ext (by simp only; omega)
    show sG X S M R Γ B (rowOf g (8 * b.val + j.val) l) ⟨(8 * b.val + j.val) / 8, by omega⟩ = sG X S M R Γ B (rowOf g j.val l) b
    rw [e3, e4]
  · have h0 := (y 0).isLt
    change (y 0).val < 1536 at h0
    exact ⟨_, List.mem_map.mpr ⟨(⟨(y 0).val / 512, by omega⟩, ⟨(y 0).val % 4, by omega⟩), mem_ysOrder _, rfl⟩, mem_ysRect y⟩

section Outs
variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole) (x0 : Vec Ideal S3 .f32) (x1 : Vec Ideal S1536x6912 .fp8e4m3) (x2 : Vec Ideal S1536x54 .f32) (x3 : Vec Ideal S3x12x128 .f32) (x4 : Vec Ideal S3x12x128 .f32) (x5 : Vec Ideal S1x6912 .f32) (x6 : Vec Ideal S1x6912 .f32)
    (d7 : Vec Ideal S1536x6912 .fp8e4m3) (d8 : Vec Ideal S1536x54 .f32) (d9 : Vec Ideal S12x128 .f32) (d10 : Vec Ideal S12x128 .f32) (d11 : Vec Ideal S3x54x512x128 .fp8e4m3) (d12 : Vec Ideal S54x512x128 .bf16) (d13 : Vec Ideal S3x432x128 .f32) (d14 : Vec Ideal S3x432x128 .f32) (d15 : Vec Ideal S3x432x128 .f32) (d16 : Vec Ideal S3x432x128 .f32)

theorem out7 (T : Tame x0 x1 x2 x3 x4 x5 x6) : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).1 = yOut x0 x1 x2 x3 x4 x5 x6 := by
  unfold kernelRun
  dsimp only
  rw [pb2_eq _ _ _ _ _ _ _ _ _ _ _ _ _ _ _ _ _ _ _ _ _ _ _ _ _ _ _ _ _ _ _ _ _ _ _ _ _ _ _ _ _ _ _ _ _ _ _ _ _ _ _ _ _ _ le_rfl, pb_eq _ _ _ _ _ _ _ _ _ _ _ _ _ _ _ _ _ _ _ _ _ _ _ _ _ _ _ _ _ _ _ _ _ _ _ _ _ _ _ _ _ _ _ _ _ _ _  le_rfl, rep_eq, res_eq,
    r_133_word, r_134_word, r_141_word, r_142_word, r_146_word, r_147_word]
  funext y
  exact y_read x1 x2 x5 x6 (codeOf x1) (scaleOf x2) (meanOf x0 x1 x2 x3) (rstdOf x0 x1 x2 x3 x4) (weightOf x5) (weightOf x6) arg11 arg12 arg13
    (fun g => word (meanAt x0 x1 x2 x3) g) (fun g => word (rstdAt x0 x1 x2 x3 x4) g) _ _ _ T.codes T.scales T.gamma T.beta (word_mean T) (word_rstd T)
    T.scales_pos T.rstd_pos (xt_read arg1 harg1 x1 arg11 _) (lh_read arg5 harg5 x5 arg6 harg6 x6 arg12 _) (sc_read arg2 harg2 x2 c arg13 arg13.view.junk)
    T.small arg7 _ y

theorem out8 (T : Tame x0 x1 x2 x3 x4 x5 x6) : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).2.1 = sOut x0 x1 x2 x3 x4 x5 x6 := by
  unfold kernelRun
  dsimp only
  funext y
  refine (show @Eq EReal _ (arg8.view.read (Elt Ideal) (arg8.view.writes (Elt Ideal) (harg8.unread d8) (ysOrder.map (ysPiece arg16 (arg16.view.writes (Elt Ideal) (harg16.unread d16)
    (pb_k0_t2 (F := Ideal) _ _ _ _ _ _ _ _ _ _ _ _ _ _ _ _ _ _ _ _ _ _ _ _ _ _ _ _ _ _ _ _ _ _ _ _ _ _ _ _ _ _ _ _ _ _ _ _ _ _ _ _ _ _).2)))) y) from rfl).trans ?_
  rw [pb2_eq _ _ _ _ _ _ _ _ _ _ _ _ _ _ _ _ _ _ _ _ _ _ _ _ _ _ _ _ _ _ _ _ _ _ _ _ _ _ _ _ _ _ _ _ _ _ _ _ _ _ _ _ _ _ le_rfl, pb_eq _ _ _ _ _ _ _ _ _ _ _ _ _ _ _ _ _ _ _ _ _ _ _ _ _ _ _ _ _ _ _ _ _ _ _ _ _ _ _ _ _ _ _ _ _ _ _  le_rfl, rep_eq, res_eq,
    r_133_word, r_134_word, r_141_word, r_142_word, r_146_word, r_147_word]
  exact ys_read (codeOf x1) (scaleOf x2) (meanOf x0 x1 x2 x3) (rstdOf x0 x1 x2 x3 x4) (weightOf x5) (weightOf x6) arg8 _ arg16 _
    (s_read x1 x2 x5 x6 (codeOf x1) (scaleOf x2) (meanOf x0 x1 x2 x3) (rstdOf x0 x1 x2 x3 x4) (weightOf x5) (weightOf x6) arg11 arg12 arg13
    (fun g => word (meanAt x0 x1 x2 x3) g) (fun g => word (rstdAt x0 x1 x2 x3 x4) g) _ _ _ T.codes T.scales T.gamma T.beta (word_mean T) (word_rstd T)
    T.scales_pos T.rstd_pos (xt_read arg1 harg1 x1 arg11 _) (lh_read arg5 harg5 x5 arg6 harg6 x6 arg12 _) (sc_read arg2 harg2 x2 c arg13 arg13.view.junk)
    T.small arg16 _) y

end Outs

end Cert.Ln

end
-- ==== Proof.LnAll.lean ====
/- The run of `KernelIdeal` over the reals with all four results named: on inputs whose numbers are real and not too large,
   @main terminates, keeps its arguments, and leaves the codes, their scales and the statistics. -/
module

public import proofs.«01_k».proof.Proof.LnRun
public import proofs.«01_k».proof.Proof.LnVal
@[expose] public section

set_option maxRecDepth 16384

noncomputable section

namespace Cert.LnAll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Ln

local notation "𝕄" => MT nD τ sig Unit (Elt Ideal) ℕ (UR sig nD τ) ℕ
open Cert.LnRun

section Outs
variable (c : Dev nD) (arg0 : Memref sig .tc .smem S3 .f32) (harg0 : arg0.IsWhole) (arg1 : Memref sig .tc .vmem S1536x6912 .fp8e4m3) (harg1 : arg1.IsWhole) (arg2 : Memref sig .tc .vmem S1536x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S1x6912 .f32) (harg5 : arg5.IsWhole) (arg6 : Memref sig .tc .vmem S1x6912 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole) (arg11 : Memref sig .tc .vmem S3x54x512x128 .fp8e4m3) (harg11 : arg11.IsWhole) (arg12 : Memref sig .tc .vmem S54x512x128 .bf16) (harg12 : arg12.IsWhole) (arg13 : Memref sig .tc .vmem S3x432x128 .f32) (harg13 : arg13.IsWhole) (arg14 : Memref sig .tc .vmem S3x432x128 .f32) (harg14 : arg14.IsWhole) (arg15 : Memref sig .tc .vmem S3x432x128 .f32) (harg15 : arg15.IsWhole) (arg16 : Memref sig .tc .vmem S3x432x128 .f32) (harg16 : arg16.IsWhole) (x0 : Vec Ideal S3 .f32) (x1 : Vec Ideal S1536x6912 .fp8e4m3) (x2 : Vec Ideal S1536x54 .f32) (x3 : Vec Ideal S3x12x128 .f32) (x4 : Vec Ideal S3x12x128 .f32) (x5 : Vec Ideal S1x6912 .f32) (x6 : Vec Ideal S1x6912 .f32)
    (d7 : Vec Ideal S1536x6912 .fp8e4m3) (d8 : Vec Ideal S1536x54 .f32) (d9 : Vec Ideal S12x128 .f32) (d10 : Vec Ideal S12x128 .f32) (d11 : Vec Ideal S3x54x512x128 .fp8e4m3) (d12 : Vec Ideal S54x512x128 .bf16) (d13 : Vec Ideal S3x432x128 .f32) (d14 : Vec Ideal S3x432x128 .f32) (d15 : Vec Ideal S3x432x128 .f32) (d16 : Vec Ideal S3x432x128 .f32)

/-- What the body leaves in its first two output windows. -/
theorem run_y (T : Tame x0 x1 x2 x3 x4 x5 x6) : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).1 = yOut x0 x1 x2 x3 x4 x5 x6 :=
  out7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16 T
theorem run_s (T : Tame x0 x1 x2 x3 x4 x5 x6) : (kernelRun (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16).2.1 = sOut x0 x1 x2 x3 x4 x5 x6 :=
  out8 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 d7 d8 d9 d10 d11 d12 d13 d14 d15 d16 T

end Outs

variable (m : (ℓ : Loc nD τ sig) → Buf (Elt Ideal) ℓ) (ρ : Dev nD → PrngReg)

/-- No output window is left unnamed. -/
def forgets0 : Fin 11 → Bool := fun _ => false

/-- The proof data of the one pipeline on core `c`: the arrays as the region finds them (`V`); after the body at
    point `t` each input's buffer at its block, the outputs at their formulas; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut (iblk m c 0 t) (iblk m c 1 t) (iblk m c 2 t) (iblk m c 3 t) (iblk m c 4 t) (iblk m c 5 t) (iblk m c 6 t)
    | ⟨8, _⟩ => sOut (iblk m c 0 t) (iblk m c 1 t) (iblk m c 2 t) (iblk m c 3 t) (iblk m c 4 t) (iblk m c 5 t) (iblk m c 6 t)
    | ⟨9, _⟩ => meanOut (iblk m c 0 t) (iblk m c 1 t) (iblk m c 2 t) (iblk m c 3 t)
    | ⟨10, _⟩ => rstdOut (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yOut (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = sOut (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = meanOut (iblk m c 0 t) (iblk m c 1 t) (iblk m c 2 t) (iblk m c 3 t) := by dsimp only [dats]
theorem after0_10 (c : Dev nD) (t : Fin cfg0.N) : (dats m 0 c).after 10 t = rstdOut (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hT : ∀ (c : Dev nD) (t : Fin cfg0.N), Tame (iblk m c 0 t) (iblk m c 1 t) (iblk m c 2 t) (iblk m c 3 t) (iblk m c 4 t) (iblk m c 5 t) (iblk m c 6 t)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun (F := Ideal) c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · rw [← run_y c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5 (hT c t)]; iexact H7
  isplitl [H8]; · rw [← run_s c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5 (hT c t)]; iexact H8
  isplitl [H9]; · rw [← run_mean c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5]; iexact H9
  rw [← run_rstd c _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) s0 s1 s2 s3 s4 s5]; iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hT : ∀ (c : Dev nD) (t : Fin cfg0.N), Tame (iblk m c 0 t) (iblk m c 1 t) (iblk m c 2 t) (iblk m c 3 t) (iblk m c 4 t) (iblk m c 5 t) (iblk m c 6 t)) (c : Dev nD) : BodyObligation (dats m 0 c) (defs₀ (F := Ideal)) Variants.none () Set.univ forgets0 := fun t => by
  rw [bigSep_W0, bigSep_W0, defs₀_row]
  exact triple_restated (sound_body m hT c t) rfl .rfl fun _ => .rfl

/-! ## The run and the frame -/

set_option backward.isDefEq.respectTransparency.types false in
set_option maxHeartbeats 800000 in
/-- Every fair execution of @main terminates with the input arrays as the region found them and every semaphore
    counter at zero. -/
theorem run_main (hT : ∀ (c : Dev nD) (t : Fin cfg0.N), Tame (iblk m c 0 t) (iblk m c 1 t) (iblk m c 2 t) (iblk m c 3 t) (iblk m c 4 t) (iblk m c 5 t) (iblk m c 6 t)) : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m hT c).loose) (hshare := fun c => (dats m 0 c).share_full fun _ => rfl)
    (howed := fun _ _ => rfl) (V := V m) (hmain := hmain m Variants.none) (hA := A_eq m) (hΦ := fun _ _ => rfl)

/-- The arguments are kept. -/
theorem kept (r : PUnit × MemSt nD τ sig (Elt Ideal)) (h : Pipeline.RDat.FramePost (cfgs 0) (fun c => (dats m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 0 rfl).trans ((A_eq m c 0).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.LnAll

end
-- ==== Proof.LnRefY.lean ====
/- What the reference's region leaves in its codes and their scales, as real numbers. -/
module

public import proofs.«01_k».proof.Proof.LnRef
public import proofs.«01_k».proof.Proof.LnTrip
public import proofs.«01_k».proof.Proof.LnGroup
import all proofs.«01_k».proof.Proof.Gen.ReferenceIdeal.Frame.RunA
import all proofs.«01_k».proof.Proof.Gen.ReferenceIdeal.Frame

@[expose] public section

set_option maxRecDepth 16384

noncomputable section

namespace Cert.LnRef

open Idealize.ShloMosaic Idealize.ShloMosaic.TcCoe
open Cert.ReferenceIdeal Cert.ReferenceIdeal.Gen
open Cert.Ln (amax le_amax amax_le tR scaleR codeR expo recip448 rowAt colOf zR yG sG)

theorem pay19_apply (x : FVec Ideal S12x128x54x128 .f32) (l q p0 p1 p2 v0 v1 : FVec Ideal S12x128 .f32) (v2 : Vec Ideal S1x12x128 .f32) (n0 n1 n2 : EReal)
    (b : Fin 12) (p : Fin 128) (k : Fin 54) (i : Fin 128) :
    k0_pay19 (F := Ideal) x l q n0 p0 v0 n1 p1 v1 n2 p2 v2 (ix4 b p k i)
      = (x (ix4 b p k i) - k0_pay17 (F := Ideal) l n0 p0 n1 p1 n2 p2 (ix2 b p)) * k0_pay18 (F := Ideal) l q n0 p0 v0 n1 p1 v1 n2 p2 v2 (ix2 b p) := by
  pointwise [k0_pay19]

theorem pay20_apply (g : Vec Ideal S54x128 .f32) (k : Fin 54) (i : Fin 128) : k0_pay20 (F := Ideal) g (ix4 0 0 k i) = g (ix2 k i) := by
  pointwise [k0_pay20]

theorem pay21_apply (x : FVec Ideal S12x128x54x128 .f32) (g : FVec Ideal S1x1x54x128 .f32) (a : Vec Ideal S54x128 .f32)
    (b : Fin 12) (p : Fin 128) (k : Fin 54) (i : Fin 128) :
    k0_pay21 (F := Ideal) x g a (ix4 b p k i) = x (ix4 b p k i) * g (ix4 0 0 k i) + a (ix2 k i) := by
  pointwise [k0_pay21]

/-- A block's largest magnitude, that over the largest code, and the exponent it is given. -/
def maxOp (y : FVec Ideal S12x128x54x128 .f32) : FVec Ideal S12x128x54 .f32 :=
  multiReduction .maximumf [3] S12x128x54 (absf y) 0xFF800000#32 reduces_S12x128x54x128_S12x128x54 (.inl rfl) rfl
def tOp (y : FVec Ideal S12x128x54x128 .f32) : FVec Ideal S12x128x54 .f32 :=
  mulf (maxOp y) (broadcast S12x128x54 (Scalar.ofBits .f32 0x3B124925#32 : Ideal .f32))
def eOp (t : FVec Ideal S12x128x54 .f32) : FVec Ideal S12x128x54 .f32 :=
  select (cmpf .olt t (broadcast S12x128x54 (Scalar.ofBits .f32 0x00800000#32 : Ideal .f32)))
    (broadcast S12x128x54 (Scalar.ofBits .f32 0x00000000#32 : Ideal .f32))
    (addf (floor (divf (log t) (log (broadcast S12x128x54 (Scalar.ofBits .f32 0x40000000#32 : Ideal .f32)))))
      (broadcast S12x128x54 (Scalar.ofBits .f32 0x3F800000#32 : Ideal .f32)))
/-- A block's codes, from its numbers and its exponent. -/
def qOp (y : FVec Ideal S12x128x54x128 .f32) (e : FVec Ideal S12x128x54 .f32) : FVec Ideal S12x128x54x128 .f32 :=
  minimumf (broadcast S12x128x54x128 (Scalar.ofBits .f32 0x43E00000#32 : Ideal .f32))
    (maximumf (broadcast S12x128x54x128 (Scalar.ofBits .f32 0xC3E00000#32 : Ideal .f32))
      (mulf y (broadcastTo S12x128x54x128 (shapeCast S12x128x54x1 (exp2 (subf (broadcast S12x128x54 (Scalar.ofBits .f32 0x00000000#32 : Ideal .f32)) e))
        shapeCasts_S12x128x54_S12x128x54x1) broadcasts_S12x128x54x1_S12x128x54x128)))

theorem pay22_eq (x : FVec Ideal S12x128x54x128 .f32) (g : FVec Ideal S1x1x54x128 .f32) (a : Vec Ideal S54x128 .f32) :
    k0_pay22 (F := Ideal) x g a = eOp (tOp (k0_pay21 (F := Ideal) x g a)) := rfl

theorem pay23_eq (x : FVec Ideal S12x128x54x128 .f32) (g : FVec Ideal S1x1x54x128 .f32) (a : Vec Ideal S54x128 .f32) :
    k0_pay23 (F := Ideal) x g a = shapeCast S1536x6912 (truncf .fp8e4m3 (qOp (k0_pay21 (F := Ideal) x g a) (k0_pay22 (F := Ideal) x g a)) bitsLt_fp8e4m3_f32)
      shapeCasts_S12x128x54x128_S1536x6912 := rfl

theorem max_read (y : FVec Ideal S12x128x54x128 .f32) (b : Fin 12) (p : Fin 128) (k : Fin 54) :
    maxOp y (ix3 b p k) = Finset.fold max (Ideal.ofBits .f32 4286578688#32) (fun i => FloatOps.absf (F := Ideal) (φ := .f32) (y (ix4 b p k i))) Finset.univ := by
  pointwise [maxOp]

theorem scaled (m : FVec Ideal S12x128x54 .f32) (i : S12x128x54.Idx) :
    @Eq EReal (mulf m (broadcast S12x128x54 (Scalar.ofBits .f32 0x3B124925#32 : Ideal .f32)) i) (m i * Ideal.ofBits .f32 991054117#32) := rfl

theorem t_read (y : FVec Ideal S12x128x54x128 .f32) (b : Fin 12) (p : Fin 128) (k : Fin 54) :
    @Eq EReal (tOp y (ix3 b p k)) (maxOp y (ix3 b p k) * Ideal.ofBits .f32 991054117#32) := by
  unfold tOp
  generalize maxOp y = m
  exact scaled m _

theorem e_read (t : FVec Ideal S12x128x54 .f32) (b : Fin 12) (p : Fin 128) (k : Fin 54) :
    @Eq EReal (eOp t (ix3 b p k)) (if @LT.lt EReal _ (t (ix3 b p k)) (Ideal.ofBits .f32 8388608#32) then 0
      else Ideal.liftRound Int.floor (Ideal.div (Ideal.log (t (ix3 b p k))) (Ideal.log (Ideal.ofBits .f32 1073741824#32))) + 1) := by
  pointwise [eOp]

theorem q_read (y : FVec Ideal S12x128x54x128 .f32) (e : FVec Ideal S12x128x54 .f32) (b : Fin 12) (p : Fin 128) (k : Fin 54) (i : Fin 128) :
    @Eq EReal (qOp y e (ix4 b p k i)) (min (Ideal.ofBits .f32 1138753536#32) (max (Ideal.ofBits .f32 3286237184#32)
      (y (ix4 b p k i) * FloatOps.exp2 (F := Ideal) (φ := .f32) (@HSub.hSub EReal EReal EReal _ 0 (e (ix3 b p k)))))) := by
  pointwise [qOp]

section Quantiser
variable (y : FVec Ideal S12x128x54x128 .f32) (Z : Fin 12 → Fin 128 → Fin 54 → Fin 128 → ℝ)
  (h : ∀ b p k i, @Eq EReal (y (ix4 b p k i)) (Z b p k i : ℝ))
include h

theorem t_real (b : Fin 12) (p : Fin 128) (k : Fin 54) : @Eq EReal (tOp y (ix3 b p k)) (tR (Z b p k) : ℝ) := by
  have ha : ∀ i, @Eq EReal (FloatOps.absf (F := Ideal) (φ := .f32) (y (ix4 b p k i))) ((|Z b p k i| : ℝ) : EReal) := fun i => by
    rw [h, Cert.Ln.abs_coe]
  obtain ⟨K, e, ⟨i, a⟩, hb⟩ := Cert.Ln.fold_real _ _ ha
  have key : K = amax (Z b p k) := le_antisymm (a ▸ le_amax _ _) (amax_le _ _ hb)
  rw [t_read, max_read, Cert.Ln.ninf_eq, Cert.Ln.recip448_eq]
  refine (congrArg (fun a : EReal => a * (recip448 : ℝ)) e).trans ?_
  rw [key, ← EReal.coe_mul]
  rfl

theorem e_real (b : Fin 12) (p : Fin 128) (k : Fin 54) : @Eq EReal (eOp (tOp y) (ix3 b p k)) (expo (tR (Z b p k)) : ℝ) := by
  rw [e_read, t_real y Z h, Cert.Ln.tiny_eq, Cert.Ln.two_eq]
  generalize tR (Z b p k) = t
  unfold expo
  by_cases ht : t < (2 : ℝ) ^ (-126 : ℤ)
  · rw [if_pos ht, if_pos (EReal.coe_lt_coe_iff.mpr ht)]
    rfl
  · have hp : 0 < t := lt_of_lt_of_le (by positivity) (not_lt.mp ht)
    rw [if_neg ht, if_neg (fun c => ht (EReal.coe_lt_coe_iff.mp c)), Ideal.log_coe, Ideal.log_coe, if_neg (not_le.mpr hp), if_neg (by norm_num),
      Ideal.div_coe (Real.log_pos (by norm_num : (1 : ℝ) < 2)).ne', ← EReal.coe_mul, Ideal.liftRound_coe, mul_one_div, EReal.coe_add]
    rfl

theorem q_real (b : Fin 12) (p : Fin 128) (k : Fin 54) (i : Fin 128) :
    @Eq EReal (qOp y (eOp (tOp y)) (ix4 b p k i)) (codeR (Z b p k) i : ℝ) := by
  rw [q_read, e_real y Z h, h, Cert.Ln.hi448_eq, Cert.Ln.lo448_eq, zero_sub, ← EReal.coe_neg]
  refine (congrArg (fun a : EReal => min ((448 : ℝ) : EReal) (max ((-448 : ℝ) : EReal) (((Z b p k i : ℝ) : EReal) * a))) (Ideal.exp2_coe _)).trans ?_
  rw [← EReal.coe_mul, ← EReal.coe_strictMono.monotone.map_max, ← EReal.coe_strictMono.monotone.map_min]
  rfl

end Quantiser

theorem row_again (ρ : Fin 1536) : rowAt ⟨ρ.val / 128, by omega⟩ ⟨ρ.val % 128, by omega⟩ = ρ := Fin.ext (by simp only [rowAt]; omega)

theorem rows_cols (y : FVec Ideal S12x128x54x128 .fp8e4m3) (ρ : Fin 1536) (κ : Fin 6912) :
    shapeCast S1536x6912 y shapeCasts_S12x128x54x128_S1536x6912 (ix2 ρ κ)
      = y (ix4 ⟨ρ.val / 128, by omega⟩ ⟨ρ.val % 128, by omega⟩ ⟨κ.val / 128, by omega⟩ ⟨κ.val % 128, by omega⟩) := by
  pointwise []

theorem rows (e : FVec Ideal S12x128x54 .f32) (ρ : Fin 1536) (k : Fin 54) :
    @Eq EReal (shapeCast S1536x54 (exp2 e) shapeCasts_S12x128x54_S1536x54 (ix2 ρ k))
      (FloatOps.exp2 (F := Ideal) (φ := .f32) (e (ix3 ⟨ρ.val / 128, by omega⟩ ⟨ρ.val % 128, by omega⟩ k))) := by
  pointwise []

theorem pay24_eq (x : FVec Ideal S12x128x54x128 .f32) (g : FVec Ideal S1x1x54x128 .f32) (a : Vec Ideal S54x128 .f32) :
    k0_pay24 (F := Ideal) x g a = shapeCast S1536x54 (exp2 (k0_pay22 (F := Ideal) x g a)) shapeCasts_S12x128x54_S1536x54 := rfl

section Out
variable (c : Dev nD) (arg0 : Memref sig .tc .smem S3 .f32) (harg0 : arg0.IsWhole) (arg1 : Memref sig .tc .vmem S12x128x54x128 .fp8e4m3) (harg1 : arg1.IsWhole) (arg2 : Memref sig .tc .vmem S12x128x54 .f32) (harg2 : arg2.IsWhole) (arg3 : Memref sig .tc .vmem S3x12x128 .f32) (harg3 : arg3.IsWhole) (arg4 : Memref sig .tc .vmem S3x12x128 .f32) (harg4 : arg4.IsWhole) (arg5 : Memref sig .tc .vmem S54x128 .f32) (harg5 : arg5.IsWhole) (arg6 : Memref sig .tc .vmem S54x128 .f32) (harg6 : arg6.IsWhole) (arg7 : Memref sig .tc .vmem S1536x6912 .fp8e4m3) (harg7 : arg7.IsWhole) (arg8 : Memref sig .tc .vmem S1536x54 .f32) (harg8 : arg8.IsWhole) (arg9 : Memref sig .tc .vmem S12x128 .f32) (harg9 : arg9.IsWhole) (arg10 : Memref sig .tc .vmem S12x128 .f32) (harg10 : arg10.IsWhole)
  (x0 : Vec Ideal S3 .f32) (x1 : Vec Ideal S12x128x54x128 .fp8e4m3) (x2 : Vec Ideal S12x128x54 .f32) (x3 : Vec Ideal S3x12x128 .f32) (x4 : Vec Ideal S3x12x128 .f32) (x5 : Vec Ideal S54x128 .f32) (x6 : Vec Ideal S54x128 .f32)

theorem rdw (a : Memref sig .tc .vmem S54x128 .f32) (ha : a.IsWhole) (x : Vec Ideal S54x128 .f32) (off) (h : off = fun _ => 0) (hi) :
    View.readAt (Elt Ideal) a.view (Rect.unit (s := S54x128) off S54x128.size hi).toLoadRect (ha.unread x) = x := by
  subst h
  funext i
  refine (ha.readAt_unread x _ i).trans (congrArg x (funext fun d => Fin.ext ((LoadRect.idx_apply _ i d).trans ?_)))
  simp

theorem weights_at : kernelRun0_A.sl.r_15 (F := Ideal) c arg5 harg5 x5 = k0_pay20 (F := Ideal) x5 := by
  unfold kernelRun0_A.sl.r_15
  rw [rdw arg5 harg5 x5 _ z2]

theorem out7_pay : out0_A_7 (F := Ideal) c arg0 harg0 arg1 harg1 arg2 harg2 arg3 harg3 arg4 harg4 arg5 harg5 arg6 harg6 arg7 harg7 arg8 harg8 arg9 harg9 arg10 harg10 x0 x1 x2 x3 x4 x5 x6 = k0_pay23 (F := Ideal) (kernelRun0_A.sl.r_14 c arg0 harg0 arg1 harg1 arg2 harg2 arg3 harg3 arg4 harg4 x0 x1 x2 x3 x4) (k0_pay20 (F := Ideal) x5) x6 := by
  rw [← weights_at c arg5 harg5 x5]
  exact (read_one _ _ _ z2 _ _).trans (congrArg (k0_pay23 (F := Ideal) (kernelRun0_A.sl.r_14 c arg0 harg0 arg1 harg1 arg2 harg2 arg3 harg3 arg4 harg4 x0 x1 x2 x3 x4) (kernelRun0_A.sl.r_15 c arg5 harg5 x5)) (rdw arg6 harg6 x6 _ z2 _))

theorem out8_pay : out0_A_8 (F := Ideal) c arg0 harg0 arg1 harg1 arg2 harg2 arg3 harg3 arg4 harg4 arg5 harg5 arg6 harg6 arg7 harg7 arg8 harg8 arg9 harg9 arg10 harg10 x0 x1 x2 x3 x4 x5 x6 = k0_pay24 (F := Ideal) (kernelRun0_A.sl.r_14 c arg0 harg0 arg1 harg1 arg2 harg2 arg3 harg3 arg4 harg4 x0 x1 x2 x3 x4) (k0_pay20 (F := Ideal) x5) x6 := by
  rw [← weights_at c arg5 harg5 x5]
  exact (read_one _ _ _ z2 _ _).trans (congrArg (k0_pay24 (F := Ideal) (kernelRun0_A.sl.r_14 c arg0 harg0 arg1 harg1 arg2 harg2 arg3 harg3 arg4 harg4 x0 x1 x2 x3 x4) (kernelRun0_A.sl.r_15 c arg5 harg5 x5)) (rdw arg6 harg6 x6 _ z2 _))

/-- A position's number less the mean, over the deviation. -/
theorem centred (b : Fin 12) (p : Fin 128) (k : Fin 54) (i : Fin 128) : @Eq EReal (kernelRun0_A.sl.r_14 (F := Ideal) c arg0 harg0 arg1 harg1 arg2 harg2 arg3 harg3 arg4 harg4 x0 x1 x2 x3 x4 (ix4 b p k i))
    ((x1 (ix4 b p k i) * x2 (ix3 b p k) - refMean x0 x1 x2 x3 b p) * refRstd x0 x1 x2 x3 x4 b p) := by
  unfold kernelRun0_A.sl.r_14
  refine (pay19_apply _ _ _ _ _ _ _ _ _ _ _ _ b p k i).trans ?_
  rw [pay17_apply, pay18_apply]
  unfold kernelRun0_A.sl.r_3 kernelRun0_A.sl.r_4 kernelRun0_A.sl.r_5
  rw [rd1 _ _ _ _ z4, rd2 _ _ _ _ z3, count0_at, count1_at, count2_at, peer6_at, peer8_at, peer10_at, peer7_at, peer9_at, peer11_at, pay1_apply, pay2_apply, pay3_apply]
  rfl

variable (X : Fin 1536 → Fin 6912 → ℝ) (S : Fin 1536 → Fin 54 → ℝ) (M R : Fin 1536 → ℝ) (Γ B : Fin 6912 → ℝ)
  (hx : ∀ b p k i, @Eq EReal (x1 (ix4 b p k i)) (X (rowAt b p) (colOf k i) : ℝ)) (hs : ∀ b p k, @Eq EReal (x2 (ix3 b p k)) (S (rowAt b p) k : ℝ))
  (hm : ∀ b p, refMean x0 x1 x2 x3 b p = (M (rowAt b p) : ℝ)) (hr : ∀ b p, refRstd x0 x1 x2 x3 x4 b p = (R (rowAt b p) : ℝ))
  (hg : ∀ k i, @Eq EReal (x5 (ix2 k i)) (Γ (colOf k i) : ℝ)) (hb : ∀ k i, @Eq EReal (x6 (ix2 k i)) (B (colOf k i) : ℝ))
include hx hs hm hr hg hb

theorem numbers (b : Fin 12) (p : Fin 128) (k : Fin 54) (i : Fin 128) :
    @Eq EReal (k0_pay21 (F := Ideal) (kernelRun0_A.sl.r_14 (F := Ideal) c arg0 harg0 arg1 harg1 arg2 harg2 arg3 harg3 arg4 harg4 x0 x1 x2 x3 x4) (k0_pay20 (F := Ideal) x5) x6 (ix4 b p k i))
      (zR X S M R Γ B (rowAt b p) k i : ℝ) := by
  rw [pay21_apply, pay20_apply, centred, hx, hs, hm, hr, hg, hb, ← EReal.coe_mul, ← EReal.coe_sub, ← EReal.coe_mul, ← EReal.coe_mul, ← EReal.coe_add]
  rfl

theorem out7_real : out0_A_7 (F := Ideal) c arg0 harg0 arg1 harg1 arg2 harg2 arg3 harg3 arg4 harg4 arg5 harg5 arg6 harg6 arg7 harg7 arg8 harg8 arg9 harg9 arg10 harg10 x0 x1 x2 x3 x4 x5 x6 = fun i => yG X S M R Γ B (i 0) (i 1) := by
  rw [out7_pay]
  funext i
  rw [eq_ix2 i]
  generalize i 0 = ρ, i 1 = κ
  change Fin 1536 at ρ
  change Fin 6912 at κ
  have e := q_real _ _ (numbers c arg0 harg0 arg1 harg1 arg2 harg2 arg3 harg3 arg4 harg4 x0 x1 x2 x3 x4 x5 x6 X S M R Γ B hx hs hm hr hg hb) ⟨ρ.val / 128, by omega⟩ ⟨ρ.val % 128, by omega⟩
    ⟨κ.val / 128, by omega⟩ ⟨κ.val % 128, by omega⟩
  rw [row_again ρ] at e
  rw [pay23_eq, rows_cols, pay22_eq]
  exact e

theorem out8_real : out0_A_8 (F := Ideal) c arg0 harg0 arg1 harg1 arg2 harg2 arg3 harg3 arg4 harg4 arg5 harg5 arg6 harg6 arg7 harg7 arg8 harg8 arg9 harg9 arg10 harg10 x0 x1 x2 x3 x4 x5 x6 = fun i => sG X S M R Γ B (i 0) (i 1) := by
  rw [out8_pay]
  funext i
  rw [eq_ix2 i]
  generalize i 0 = ρ, i 1 = k
  change Fin 1536 at ρ
  change Fin 54 at k
  have e := e_real _ _ (numbers c arg0 harg0 arg1 harg1 arg2 harg2 arg3 harg3 arg4 harg4 x0 x1 x2 x3 x4 x5 x6 X S M R Γ B hx hs hm hr hg hb) ⟨ρ.val / 128, by omega⟩ ⟨ρ.val % 128, by omega⟩ k
  rw [row_again ρ] at e
  rw [pay24_eq, rows, pay22_eq, e]
  exact Ideal.exp2_coe _

end Out

end Cert.LnRef

end
-- ==== Proof.LnEnds.lean ====
/- The four results after the two programs' runs, on inputs whose numbers are real and not too large. -/
module

public import proofs.«01_k».proof.Proof.LnStat
public import proofs.«01_k».proof.Proof.LnAll
public import proofs.«01_k».proof.Proof.LnRefY

@[expose] public section

noncomputable section

namespace Cert.Ln

open Idealize.ShloMosaic Idealize.ShloMosaic.TcCoe
open Cert.LnRef

section Kernel
open Cert.KernelIdeal Cert.KernelIdeal.Gen
variable (m : (ℓ : Loc nD τ sig) → Buf (Elt Ideal) ℓ)

theorem all_y (c : Dev nD) (t : Fin cfg0.N) : (Cert.LnAll.dats m 0 c).arrAt 7 cfg0.N
    = yOut (iblk m c 0 t) (iblk m c 1 t) (iblk m c 2 t) (iblk m c 3 t) (iblk m c 4 t) (iblk m c 5 t) (iblk m c 6 t) := by
  refine (Cert.LnAll.dats m 0 c).arrAt_eq_of_after_last 7 t ?_ _ fun j => ?_
  · exact (by decide +kernel : ∀ t : Fin grid0.N, (cfg0.win 7).WholeAt t) t
  · rw [Cert.LnAll.after0_7]
    rfl

theorem all_s (c : Dev nD) (t : Fin cfg0.N) : (Cert.LnAll.dats m 0 c).arrAt 8 cfg0.N
    = sOut (iblk m c 0 t) (iblk m c 1 t) (iblk m c 2 t) (iblk m c 3 t) (iblk m c 4 t) (iblk m c 5 t) (iblk m c 6 t) := by
  refine (Cert.LnAll.dats m 0 c).arrAt_eq_of_after_last 8 t ?_ _ fun j => ?_
  · exact (by decide +kernel : ∀ t : Fin grid0.N, (cfg0.win 8).WholeAt t) t
  · rw [Cert.LnAll.after0_8]
    rfl

theorem all_mean (c : Dev nD) (t : Fin cfg0.N) : (Cert.LnAll.dats m 0 c).arrAt 9 cfg0.N
    = Cert.LnRun.meanOut (iblk m c 0 t) (iblk m c 1 t) (iblk m c 2 t) (iblk m c 3 t) := by
  refine (Cert.LnAll.dats m 0 c).arrAt_eq_of_after_last 9 t ?_ _ fun j => ?_
  · exact (by decide +kernel : ∀ t : Fin grid0.N, (cfg0.win 9).WholeAt t) t
  · rw [Cert.LnAll.after0_9]
    rfl

theorem all_rstd (c : Dev nD) (t : Fin cfg0.N) : (Cert.LnAll.dats m 0 c).arrAt 10 cfg0.N
    = Cert.LnRun.rstdOut (iblk m c 0 t) (iblk m c 1 t) (iblk m c 2 t) (iblk m c 3 t) (iblk m c 4 t) := by
  refine (Cert.LnAll.dats m 0 c).arrAt_eq_of_after_last 10 t ?_ _ fun j => ?_
  · exact (by decide +kernel : ∀ t : Fin grid0.N, (cfg0.win 10).WholeAt t) t
  · rw [Cert.LnAll.after0_10]
    rfl
end Kernel

theorem place (b : Fin 12) (p : Fin 128) : (⟨(rowAt b p).val / 128, by omega⟩ : Fin 12) = b ∧ (⟨(rowAt b p).val % 128, by omega⟩ : Fin 128) = p := by
  constructor <;> refine Fin.ext ?_ <;> simp only [rowAt] <;> omega

section Stats
variable {x0 : Vec Ideal Cert.KernelIdeal.S3 .f32} {x1 : Vec Ideal Cert.KernelIdeal.S1536x6912 .fp8e4m3} {x2 : Vec Ideal Cert.KernelIdeal.S1536x54 .f32}
  {x3 x4 : Vec Ideal Cert.KernelIdeal.S3x12x128 .f32} {x5 x6 : Vec Ideal Cert.KernelIdeal.S1x6912 .f32} (T : Tame x0 x1 x2 x3 x4 x5 x6) (b : Fin 12) (p : Fin 128)
include T

theorem mean_at : meanAt x0 x1 x2 x3 b p = (meanOf x0 x1 x2 x3 (rowAt b p) : ℝ) := by
  have e := T.mean (rowAt b p)
  rwa [(place b p).1, (place b p).2] at e

theorem rstd_at : rstdAt x0 x1 x2 x3 x4 b p = (rstdOf x0 x1 x2 x3 x4 (rowAt b p) : ℝ) := by
  have e := T.rstd (rowAt b p)
  rwa [(place b p).1, (place b p).2] at e
end Stats

section Reference
open Cert.ReferenceIdeal Cert.ReferenceIdeal.Gen
variable (m : (ℓ : Loc nD τ sig) → Buf (Elt Ideal) ℓ) (c : Dev nD) (t : Fin cfg0.N)
  (X : Fin 1536 → Fin 6912 → ℝ) (S : Fin 1536 → Fin 54 → ℝ) (M R : Fin 1536 → ℝ) (Γ B : Fin 6912 → ℝ)
  (hx : ∀ b p k i, @Eq EReal ((iblk m c 1 t : Vec Ideal S12x128x54x128 .fp8e4m3) (ix4 b p k i)) (X (rowAt b p) (colOf k i) : ℝ))
  (hs : ∀ b p k, @Eq EReal ((iblk m c 2 t : Vec Ideal S12x128x54 .f32) (ix3 b p k)) (S (rowAt b p) k : ℝ))
  (hm : ∀ b p, refMean (iblk m c 0 t) (iblk m c 1 t) (iblk m c 2 t) (iblk m c 3 t) b p = (M (rowAt b p) : ℝ))
  (hr : ∀ b p, refRstd (iblk m c 0 t) (iblk m c 1 t) (iblk m c 2 t) (iblk m c 3 t) (iblk m c 4 t) b p = (R (rowAt b p) : ℝ))
  (hg : ∀ k i, @Eq EReal ((iblk m c 5 t : Vec Ideal S54x128 .f32) (ix2 k i)) (Γ (colOf k i) : ℝ))
  (hb : ∀ k i, @Eq EReal ((iblk m c 6 t : Vec Ideal S54x128 .f32) (ix2 k i)) (B (colOf k i) : ℝ))
include hx hs hm hr hg hb

theorem ref_y : (dats m 0 c).arrAt 7 cfg0.N = fun i : S1536x6912.Idx => yG X S M R Γ B (i 0) (i 1) := by
  refine (dats m 0 c).arrAt_eq_of_after_last 7 t ?_ _ fun j => ?_
  · exact (by decide +kernel : ∀ t : Fin grid0.N, (cfg0.win 7).WholeAt t) t
  · rw [after0_7]
    simp only [outsAt0]
    rw [out7_real _ _ _ _ _ _ _ _ _ _ _ _ _ _ _ _ _ _ _ _ _ _ _ _ _ _ _ _ _ _ X S M R Γ B hx hs hm hr hg hb]
    rfl

theorem ref_s : (dats m 0 c).arrAt 8 cfg0.N = fun i : S1536x54.Idx => sG X S M R Γ B (i 0) (i 1) := by
  refine (dats m 0 c).arrAt_eq_of_after_last 8 t ?_ _ fun j => ?_
  · exact (by decide +kernel : ∀ t : Fin grid0.N, (cfg0.win 8).WholeAt t) t
  · rw [after0_8]
    simp only [outsAt0]
    rw [out8_real _ _ _ _ _ _ _ _ _ _ _ _ _ _ _ _ _ _ _ _ _ _ _ _ _ _ _ _ _ _ X S M R Γ B hx hs hm hr hg hb]
    rfl
end Reference

end Cert.Ln

end
-- ==== Proof.LnTame.lean ====
/- Inputs of bounded size give real statistics and normalised numbers that are not too large. -/
module

public import proofs.«01_k».proof.Proof.LnVal
public import proofs.«01_k».proof.Proof.LnAlg

@[expose] public section

noncomputable section

namespace Cert.Ln

open Idealize.ShloMosaic Idealize.ShloMosaic.TcCoe
open Cert.KernelIdeal Cert.KernelIdeal.Gen

theorem div_real (a d : ℝ) (h : d ≠ 0) : Ideal.div (a : EReal) (d : EReal) = ((a / d : ℝ) : EReal) := by
  rw [Ideal.div_coe h, ← EReal.coe_mul, mul_one_div]

/-- A point between two numbers is no larger than they are. -/
theorem between (a b t M : ℝ) (ha : |a| ≤ M) (hb : |b| ≤ M) (h0 : 0 ≤ t) (h1 : t ≤ 1) : |a + (b - a) * t| ≤ M := by
  obtain ⟨a1, a2⟩ := abs_le.mp ha
  obtain ⟨b1, b2⟩ := abs_le.mp hb
  exact abs_le.mpr ⟨by nlinarith, by nlinarith⟩

theorem share (a b : ℝ) (ha : 0 ≤ a) (hb : 0 < b) : 0 ≤ b / (a + b) ∧ b / (a + b) ≤ 1 :=
  ⟨by positivity, by rw [div_le_one (by positivity)]; linarith⟩

section Merge
variable (n0 n1 n2 p0 p1 ml p2 : ℝ) (h0 : 0 < n0) (h1 : 0 < n1) (h2 : 0 < n2)
include h0 h1 h2

theorem chanMean_real (M : ℝ) (b0 : |p0| ≤ M) (b1 : |p1| ≤ M) (bl : |ml| ≤ M) (b2 : |p2| ≤ M) :
    ∃ r : ℝ, chanMean n0 n1 n2 p0 p1 ml p2 = r ∧ |r| ≤ M := by
  have s1 := share n0 n1 h0.le h1
  have s2 := share (n0 + n1) 6912 (by positivity) (by norm_num)
  have s3 := share (n0 + n1 + 6912) n2 (by positivity) h2
  refine ⟨_, ?_, between _ p2 _ M (between _ ml _ M (between p0 p1 _ M b0 b1 s1.1 s1.2) bl s2.1 s2.2) b2 s3.1 s3.2⟩
  simp only [chanMean, width_eq, ← EReal.coe_add, ← EReal.coe_sub]
  rw [div_real _ _ (by positivity), div_real _ _ (by positivity), div_real _ _ (by positivity)]
  simp only [← EReal.coe_add, ← EReal.coe_sub, ← EReal.coe_mul]

theorem chanVar_real (v0 v1 vl v2 : ℝ) (c0 : 0 ≤ v0) (c1 : 0 ≤ v1) (cl : 0 ≤ vl) (c2 : 0 ≤ v2) :
    ∃ r : ℝ, chanVar n0 n1 n2 p0 p1 ml p2 v0 v1 vl v2 = r ∧ 0 ≤ r := by
  simp only [chanVar, width_eq, ← EReal.coe_add, ← EReal.coe_sub, ← EReal.coe_mul]
  rw [div_real _ _ (by positivity), div_real _ _ (by positivity), div_real _ _ (by positivity), div_real _ _ (by positivity), div_real _ _ (by positivity)]
  simp only [← EReal.coe_add, ← EReal.coe_sub, ← EReal.coe_mul]
  rw [div_real _ _ (by positivity)]
  refine ⟨_, rfl, ?_⟩
  have q0 := mul_self_nonneg (p1 - p0)
  have q1 := mul_self_nonneg (ml - (p0 + (p1 - p0) * (n1 / (n0 + n1))))
  have q2 := mul_self_nonneg (p2 - (p0 + (p1 - p0) * (n1 / (n0 + n1)) + (ml - (p0 + (p1 - p0) * (n1 / (n0 + n1)))) * (6912 / (n0 + n1 + 6912))))
  positivity
end Merge

theorem rsqrt_real (v : ℝ) (h : 0 ≤ v) : ∃ r : ℝ, Ideal.rsqrt (v + eps) = r ∧ 0 < r ∧ r ≤ 512 := by
  have he : (1 / 512 : ℝ) ^ 2 ≤ v + epsR := by
    refine le_trans ?_ (le_add_of_nonneg_left h)
    unfold epsR; norm_num
  have hp : 0 < v + epsR := lt_of_lt_of_le (by norm_num) he
  have hs : 1 / 512 ≤ Real.sqrt (v + epsR) := Real.le_sqrt_of_sq_le he
  refine ⟨(Real.sqrt (v + epsR))⁻¹, ?_, by positivity, ?_⟩
  · rw [eps_eq, ← EReal.coe_add, Ideal.rsqrt_coe, if_neg (not_lt.mpr hp.le), if_neg hp.ne']
  · rw [inv_le_comm₀ (lt_of_lt_of_le (by norm_num) hs) (by norm_num)]
    exact le_trans (by norm_num) hs

theorem meanR_le (s : Fin 54 → ℝ) (x : Fin 54 → Fin 128 → ℝ) (M : ℝ) (h : ∀ b i, |x b i * s b| ≤ M) : |meanR s x| ≤ M := by
  unfold meanR
  rw [abs_div, abs_of_pos (by norm_num : (0 : ℝ) < 6912), div_le_iff₀ (by norm_num)]
  refine (Finset.abs_sum_le_sum_abs _ _).trans ?_
  refine (Finset.sum_le_sum fun b _ => (Finset.abs_sum_le_sum_abs _ _).trans (Finset.sum_le_sum fun i _ => h b i)).trans (le_of_eq ?_)
  simp; ring

theorem m2R_nonneg (s : Fin 54 → ℝ) (x : Fin 54 → Fin 128 → ℝ) : 0 ≤ m2R s x :=
  Finset.sum_nonneg fun _ _ => Finset.sum_nonneg fun _ _ => mul_self_nonneg _

section Inputs
variable (x0 : Vec Ideal S3 .f32) (x1 : Vec Ideal S1536x6912 .fp8e4m3) (x2 : Vec Ideal S1536x54 .f32) (x3 x4 : Vec Ideal S3x12x128 .f32)
  (x5 x6 : Vec Ideal S1x6912 .f32)

/-- Inputs of bounded size: finite codes, positive scales and counts, non-negative sums of squares. -/
structure Bounded : Prop where
  counts : ∀ a, ∃ r : ℝ, @Eq EReal (x0 (ix1 a)) r ∧ 0 < r
  codes : ∀ ρ κ, ∃ r : ℝ, @Eq EReal (x1 (ix2 ρ κ)) r ∧ |r| ≤ 448
  scales : ∀ ρ k, ∃ r : ℝ, @Eq EReal (x2 (ix2 ρ k)) r ∧ 0 < r ∧ r ≤ 2 ^ 40
  means : ∀ a b p, ∃ r : ℝ, @Eq EReal (x3 (ix3 a b p)) r ∧ |r| ≤ 2 ^ 48
  squares : ∀ a b p, ∃ r : ℝ, @Eq EReal (x4 (ix3 a b p)) r ∧ 0 ≤ r
  gamma : ∀ κ, ∃ r : ℝ, @Eq EReal (x5 (ix2 0 κ)) r ∧ |r| ≤ 2 ^ 40
  beta : ∀ κ, ∃ r : ℝ, @Eq EReal (x6 (ix2 0 κ)) r ∧ |r| ≤ 2 ^ 100

variable {x0 x1 x2 x3 x4 x5 x6} (H : Bounded x0 x1 x2 x3 x4 x5 x6)
include H

/-- The two statistics of a position are real, and not too large. -/
theorem stats_real (b : Fin 12) (p : Fin 128) : (∃ r : ℝ, meanAt x0 x1 x2 x3 b p = r ∧ |r| ≤ 2 ^ 49)
    ∧ ∃ r : ℝ, rstdAt x0 x1 x2 x3 x4 b p = r ∧ 0 < r ∧ r ≤ 512 := by
  obtain ⟨n0, e0, h0⟩ := H.counts 0
  obtain ⟨n1, e1, h1⟩ := H.counts 1
  obtain ⟨n2, e2, h2⟩ := H.counts 2
  obtain ⟨p0, f0, b0⟩ := H.means 0 b p
  obtain ⟨p1, f1, b1⟩ := H.means 1 b p
  obtain ⟨p2, f2, b2⟩ := H.means 2 b p
  obtain ⟨v0, g0, c0⟩ := H.squares 0 b p
  obtain ⟨v1, g1, c1⟩ := H.squares 1 b p
  obtain ⟨v2, g2, c2⟩ := H.squares 2 b p
  choose s hs sp sb using H.scales (rowAt b p)
  choose x hx xb using fun k i => H.codes (rowAt b p) (colOf k i)
  have w1 : rowScale x2 (rowAt b p) = fun k => (s k : EReal) := funext hs
  have w2 : blockSum x1 (rowAt b p) = fun k => ∑ i, (x k i : EReal) := funext fun k => Finset.sum_congr rfl fun i _ => hx k i
  have w3 : blockSq x1 (rowAt b p) = fun k => ∑ i, (x k i : EReal) * (x k i : EReal) :=
    funext fun k => Finset.sum_congr rfl fun i _ => by rw [hx k i]
  have up : (2 : ℝ) ^ 48 ≤ 2 ^ 49 := by norm_num
  have ml : |meanR s x| ≤ 2 ^ 49 := meanR_le s x _ fun k i => by
    rw [abs_mul, abs_of_pos (sp k)]
    refine (mul_le_mul (xb k i) (sb k) (sp k).le (by norm_num)).trans (by norm_num)
  unfold meanAt rstdAt
  rw [w1, w2, w3, kMean_coe, kM2_coe, e0, e1, e2, f0, f1, f2, g0, g1, g2]
  refine ⟨chanMean_real n0 n1 n2 p0 p1 _ p2 h0 h1 h2 _ (b0.trans up) (b1.trans up) ml (b2.trans up), ?_⟩
  obtain ⟨v, ev, hv⟩ := chanVar_real n0 n1 n2 p0 p1 (meanR s x) p2 h0 h1 h2 v0 v1 _ v2 c0 c1 (m2R_nonneg s x) c2
  rw [ev]
  exact rsqrt_real v hv

theorem tame : Tame x0 x1 x2 x3 x4 x5 x6 := by
  have hM := fun ρ : Fin 1536 => (stats_real H ⟨ρ.val / 128, by omega⟩ ⟨ρ.val % 128, by omega⟩).1
  have hR := fun ρ : Fin 1536 => (stats_real H ⟨ρ.val / 128, by omega⟩ ⟨ρ.val % 128, by omega⟩).2
  have tr : ∀ {P : ℝ → Prop} {x : EReal}, (∃ r : ℝ, x = r ∧ P r) → x = (x.toReal : ℝ) ∧ P x.toReal := by
    rintro P x ⟨r, rfl, h⟩
    rw [EReal.toReal_coe]
    exact ⟨rfl, h⟩
  refine ⟨fun ρ κ => (tr (H.codes ρ κ)).1, fun ρ k => (tr (H.scales ρ k)).1, fun ρ k => (tr (H.scales ρ k)).2.1, fun κ => (tr (H.gamma κ)).1,
    fun κ => (tr (H.beta κ)).1, fun ρ => (tr (hM ρ)).1, fun ρ => (tr (hR ρ)).1, fun ρ => (tr (hR ρ)).2.1, fun ρ k => ?_⟩
  have hz : ∀ i, |normOf x0 x1 x2 x3 x4 x5 x6 ρ k i| ≤ 2 ^ 101 := fun i => by
    have hx := (tr (H.codes ρ (colOf k i))).2
    have hs := (tr (H.scales ρ k)).2
    have hm := (tr (hM ρ)).2
    have hr := (tr (hR ρ)).2
    have hg := (tr (H.gamma (colOf k i))).2
    have hb := (tr (H.beta (colOf k i))).2
    unfold normOf zR
    refine (abs_add_le _ _).trans ?_
    rw [abs_mul, abs_mul]
    have d : |codeOf x1 ρ (colOf k i) * scaleOf x2 ρ k - meanOf x0 x1 x2 x3 ρ| ≤ 2 ^ 50 := by
      refine (abs_sub _ _).trans ?_
      rw [abs_mul]
      have := mul_le_mul hx ((abs_of_pos hs.1).trans_le hs.2) (abs_nonneg _) (by norm_num)
      refine (add_le_add this hm).trans (by norm_num)
    have r := (abs_of_pos hr.1).trans_le hr.2
    refine (add_le_add (mul_le_mul (mul_le_mul d r (abs_nonneg _) (by norm_num)) hg (abs_nonneg _) (by norm_num)) hb).trans (by norm_num)
  have ha := amax_le _ _ hz
  unfold tR
  refine lt_of_le_of_lt (mul_le_mul_of_nonneg_right ha recip448_pos.le) ?_
  unfold recip448
  norm_num

end Inputs

end Cert.Ln

end
-- ==== Proof.lean ====
module

public import proofs.«01_k».proof.Defs
public import proofs.«01_k».proof.Proof.KernelFrame
public import proofs.«01_k».proof.Proof.KernelIdealFrame
public import proofs.«01_k».proof.Proof.LnStat
public import proofs.«01_k».proof.Proof.LnEnds
public import proofs.«01_k».proof.Proof.LnTame

@[expose] public section

noncomputable section

namespace Cert.Proof

open Idealize.ShloMosaic Idealize.ShloMosaic.TcCoe Idealize.SL.Sem

theorem preFacts : Cert.Pre_finite_inputs.Facts := ⟨by decide, by decide⟩
theorem boundedFacts : Cert.Pre_bounded_inputs.Facts := ⟨by decide, by decide, by decide, by decide, by decide⟩
theorem onFacts : Cert.On_statistics.Facts := ⟨by decide, by decide, by decide⟩

/-- An extended real whose magnitude is below infinity is a real. -/
theorem real_of_abs_lt (x : EReal) (h : Ideal.cmp .olt (max x (-x)) (Ideal.ofBits .f32 0x7F800000#32) = 1#1) :
    ∃ a : ℝ, x = a := by
  rw [Cert.Ln.inf_eq] at h
  induction x using EReal.rec with
  | bot => simp [Ideal.cmp] at h
  | coe a => exact ⟨a, rfl⟩
  | top => simp [Ideal.cmp] at h

section Pre
attribute [local instance] preFacts
variable (x0 : FVec Ideal Cert.Pre_finite_inputs.S12x128x6912 .f32) (x1 : FVec Ideal Cert.Pre_finite_inputs.S12x128x54 .f32)
  (x2 : FVec Ideal Cert.Pre_finite_inputs.S3 .f32) (x3 x4 : FVec Ideal Cert.Pre_finite_inputs.S3x12x128 .f32)
  (x5 x6 : FVec Ideal Cert.Pre_finite_inputs.S6912 .f32)

/-- The precondition, element by element. -/
theorem codes_real (h : (Cert.Pre_finite_inputs.fn x0 x1 x2 x3 x4 x5 x6).1 = fun _ => 1#1) (j) : ∃ a : ℝ, (x0 j : EReal) = a :=
  real_of_abs_lt _ (congrFun h j)
theorem scales_real (h : (Cert.Pre_finite_inputs.fn x0 x1 x2 x3 x4 x5 x6).2 = fun _ => 1#1) (j) : ∃ a : ℝ, (x1 j : EReal) = a :=
  real_of_abs_lt _ (congrFun h j)

end Pre

/-! ## The bounds, element by element -/

theorem of_word (p : Prop) [Decidable p] (h : BitVec.ofBool (decide p) = 1#1) : p := by
  by_contra hp
  rw [decide_eq_false hp] at h
  exact absurd h (by decide)

theorem real_of_abs_le (x : EReal) (w : BitVec 32) (b : ℝ) (hw : Ideal.ofBits .f32 w = (b : EReal))
    (h : Ideal.cmp .ole (max x (-x)) (Ideal.ofBits .f32 w) = 1#1) : ∃ r : ℝ, x = r ∧ |r| ≤ b := by
  rw [hw] at h
  induction x using EReal.rec with
  | bot => simp [Ideal.cmp] at h
  | coe a =>
    refine ⟨a, rfl, ?_⟩
    rw [← EReal.coe_neg, ← EReal.coe_strictMono.monotone.map_max, ← abs_eq_max_neg] at h
    exact EReal.coe_le_coe_iff.mp (of_word _ h)
  | top => simp [Ideal.cmp] at h

theorem real_of_pos_le (x : EReal) (w : BitVec 32) (b : ℝ) (hw : Ideal.ofBits .f32 w = (b : EReal))
    (h0 : Ideal.cmp .ogt x (Ideal.ofBits .f32 0x00000000#32) = 1#1) (h : Ideal.cmp .ole x (Ideal.ofBits .f32 w) = 1#1) : ∃ r : ℝ, x = r ∧ 0 < r ∧ r ≤ b := by
  rw [hw] at h
  rw [Cert.Ln.zero_eq] at h0
  induction x using EReal.rec with
  | bot => simp [Ideal.cmp] at h0
  | coe a => exact ⟨a, rfl, EReal.coe_pos.mp (of_word _ h0), EReal.coe_le_coe_iff.mp (of_word _ h)⟩
  | top => simp [Ideal.cmp] at h

theorem real_of_pos_lt (x : EReal) (h0 : Ideal.cmp .ogt x (Ideal.ofBits .f32 0x00000000#32) = 1#1)
    (h : Ideal.cmp .olt x (Ideal.ofBits .f32 0x7F800000#32) = 1#1) : ∃ r : ℝ, x = r ∧ 0 < r := by
  rw [Cert.Ln.inf_eq] at h
  rw [Cert.Ln.zero_eq] at h0
  induction x using EReal.rec with
  | bot => simp [Ideal.cmp] at h0
  | coe a => exact ⟨a, rfl, EReal.coe_pos.mp (of_word _ h0)⟩
  | top => simp [Ideal.cmp] at h

theorem real_of_nonneg_lt (x : EReal) (h0 : Ideal.cmp .oge x (Ideal.ofBits .f32 0x00000000#32) = 1#1)
    (h : Ideal.cmp .olt x (Ideal.ofBits .f32 0x7F800000#32) = 1#1) : ∃ r : ℝ, x = r ∧ 0 ≤ r := by
  rw [Cert.Ln.inf_eq] at h
  rw [Cert.Ln.zero_eq] at h0
  induction x using EReal.rec with
  | bot => simp [Ideal.cmp] at h0
  | coe a => exact ⟨a, rfl, EReal.coe_nonneg.mp (of_word _ h0)⟩
  | top => simp [Ideal.cmp] at h

theorem two40 : Ideal.ofBits .f32 0x53800000#32 = (((2 : ℝ) ^ 40 : ℝ) : EReal) := by
  rw [show 0x53800000#32 = Cert.Ln.expWord 167 from by decide, Cert.Ln.expWord_eq _ (by norm_num) (by norm_num)]; norm_num
theorem two48 : Ideal.ofBits .f32 0x57800000#32 = (((2 : ℝ) ^ 48 : ℝ) : EReal) := by
  rw [show 0x57800000#32 = Cert.Ln.expWord 175 from by decide, Cert.Ln.expWord_eq _ (by norm_num) (by norm_num)]; norm_num
theorem two100 : Ideal.ofBits .f32 0x71800000#32 = (((2 : ℝ) ^ 100 : ℝ) : EReal) := by
  rw [show 0x71800000#32 = Cert.Ln.expWord 227 from by decide, Cert.Ln.expWord_eq _ (by norm_num) (by norm_num)]; norm_num

section Bounded
attribute [local instance] boundedFacts Cert.KernelIdeal.Gen.facts
open Cert.Ln Cert.KernelIdeal Cert.KernelIdeal.Gen

theorem col_again (κ : Fin 6912) : colOf ⟨κ.val / 128, by omega⟩ ⟨κ.val % 128, by omega⟩ = κ := Fin.ext (by simp only [colOf]; omega)

theorem bounded (m : (ℓ : Loc nD τ sig) → Buf (Elt Ideal) ℓ) (h : Cert.Pre_KernelIdeal_bounded_inputs m) (c : Dev nD) (t : Fin cfg0.N) :
    Bounded (iblk m c 0 t) (iblk m c 1 t) (iblk m c 2 t) (iblk m c 3 t) (iblk m c 4 t) (iblk m c 5 t) (iblk m c 6 t) := by
  obtain ⟨k0, s0, s1, n0, n1, p0, q0, q1, g0, b0⟩ := h c
  refine ⟨fun a => ?_, fun ρ κ => ?_, fun ρ k => ?_, fun a b p => ?_, fun a b p => ?_, fun κ => ?_, fun κ => ?_⟩
  · rw [Cert.LnKer.blk0, V_main_arg2]
    exact real_of_pos_lt _ (congrFun n0 _) (congrFun n1 _)
  · rw [← Cert.LnRef.row_again ρ, ← col_again κ, Cert.LnKer.codes_at]
    exact real_of_abs_le _ _ _ hi448_eq (congrFun k0 _)
  · rw [← Cert.LnRef.row_again ρ, Cert.LnKer.scales_at]
    exact real_of_pos_le _ _ _ two40 (congrFun s0 _) (congrFun s1 _)
  · rw [Cert.LnKer.blk3, V_main_arg3]
    exact real_of_abs_le _ _ _ two48 (congrFun p0 _)
  · rw [Cert.LnKer.blk4, V_main_arg4]
    exact real_of_nonneg_lt _ (congrFun q0 _) (congrFun q1 _)
  · rw [Cert.LnKer.gamma_at]
    exact real_of_abs_le _ _ _ two40 (congrFun g0 _)
  · rw [Cert.LnKer.beta_at]
    exact real_of_abs_le _ _ _ two100 (congrFun b0 _)

end Bounded

section Algebraic
attribute [local instance] preFacts boundedFacts onFacts Cert.KernelIdeal.Gen.facts Cert.ReferenceIdeal.Gen.facts
open Cert.Ln

theorem zero_ne (h : (0#1 : BitVec 1) = 1#1) : False := absurd h (by decide)

theorem one_point : (0 : Nat) < Cert.KernelIdeal.cfg0.N := by decide
theorem one_point' : (0 : Nat) < Cert.ReferenceIdeal.cfg0.N := by decide

section Blocks
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments hold the same numbers. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'} {c : Dev Cert.KernelIdeal.nD} (h : Agree m m' c)
include h

theorem win0 : (Cert.KernelIdeal.Gen.iblk m c 0 ⟨0, one_point⟩ : Vec Ideal Cert.KernelIdeal.S3 .f32) = (Cert.ReferenceIdeal.Gen.iblk m' c 0 ⟨0, one_point'⟩ : Vec Ideal Cert.ReferenceIdeal.S3 .f32) := by
  rw [Cert.LnKer.blk0, Cert.LnRefIn.blk0, Cert.KernelIdeal.Gen.V_main_arg2, Cert.ReferenceIdeal.Gen.V_main_arg2]
  exact h.2.2.1.symm
theorem win3 : (Cert.KernelIdeal.Gen.iblk m c 3 ⟨0, one_point⟩ : Vec Ideal Cert.KernelIdeal.S3x12x128 .f32) = (Cert.ReferenceIdeal.Gen.iblk m' c 3 ⟨0, one_point'⟩ : Vec Ideal Cert.ReferenceIdeal.S3x12x128 .f32) := by
  rw [Cert.LnKer.blk3, Cert.LnRefIn.blk3, Cert.KernelIdeal.Gen.V_main_arg3, Cert.ReferenceIdeal.Gen.V_main_arg3]
  exact h.2.2.2.1.symm
theorem win4 : (Cert.KernelIdeal.Gen.iblk m c 4 ⟨0, one_point⟩ : Vec Ideal Cert.KernelIdeal.S3x12x128 .f32) = (Cert.ReferenceIdeal.Gen.iblk m' c 4 ⟨0, one_point'⟩ : Vec Ideal Cert.ReferenceIdeal.S3x12x128 .f32) := by
  rw [Cert.LnKer.blk4, Cert.LnRefIn.blk4, Cert.KernelIdeal.Gen.V_main_arg4, Cert.ReferenceIdeal.Gen.V_main_arg4]
  exact h.2.2.2.2.1.symm
theorem win1 (b : Fin 12) (p : Fin 128) (k : Fin 54) (i : Fin 128) : (Cert.KernelIdeal.Gen.iblk m c 1 ⟨0, one_point⟩ : Vec Ideal Cert.KernelIdeal.S1536x6912 .fp8e4m3) (ix2 (rowAt b p) (colOf k i))
    = (Cert.ReferenceIdeal.Gen.iblk m' c 1 ⟨0, one_point'⟩ : Vec Ideal Cert.ReferenceIdeal.S12x128x54x128 .fp8e4m3) (ix4 b p k i) := by
  rw [Cert.LnKer.codes_at, Cert.LnRefIn.codes_at]; exact (congrFun h.1 _).symm
theorem win2 (b : Fin 12) (p : Fin 128) (k : Fin 54) : (Cert.KernelIdeal.Gen.iblk m c 2 ⟨0, one_point⟩ : Vec Ideal Cert.KernelIdeal.S1536x54 .f32) (ix2 (rowAt b p) k)
    = (Cert.ReferenceIdeal.Gen.iblk m' c 2 ⟨0, one_point'⟩ : Vec Ideal Cert.ReferenceIdeal.S12x128x54 .f32) (ix3 b p k) := by
  rw [Cert.LnKer.scales_at, Cert.LnRefIn.blk2, Cert.ReferenceIdeal.Gen.V_main_arg1]; exact (congrFun h.2.1 _).symm
theorem win5 (k : Fin 54) (i : Fin 128) : (Cert.KernelIdeal.Gen.iblk m c 5 ⟨0, one_point⟩ : Vec Ideal Cert.KernelIdeal.S1x6912 .f32) (ix2 0 (colOf k i)) = (Cert.ReferenceIdeal.Gen.iblk m' c 5 ⟨0, one_point'⟩ : Vec Ideal Cert.ReferenceIdeal.S54x128 .f32) (ix2 k i) := by
  rw [Cert.LnKer.gamma_at, Cert.LnRefIn.gamma_at]; exact (congrFun h.2.2.2.2.2.1 _).symm
theorem win6 (k : Fin 54) (i : Fin 128) : (Cert.KernelIdeal.Gen.iblk m c 6 ⟨0, one_point⟩ : Vec Ideal Cert.KernelIdeal.S1x6912 .f32) (ix2 0 (colOf k i)) = (Cert.ReferenceIdeal.Gen.iblk m' c 6 ⟨0, one_point'⟩ : Vec Ideal Cert.ReferenceIdeal.S54x128 .f32) (ix2 k i) := by
  rw [Cert.LnKer.beta_at, Cert.LnRefIn.beta_at]; exact (congrFun h.2.2.2.2.2.2 _).symm

end Blocks

set_option maxHeartbeats 800000 in
theorem algebraic : Cert.algebraic_KernelIdeal_ReferenceIdeal_on_statistics_pre_finite_inputs := by
  intro m g m' g' hpre hargs
  refine ⟨fun _ _ => (0 : EReal), fun _ _ => (0 : EReal), fun c => (Cert.LnRun.dats m 0 c).arrAt 9 Cert.KernelIdeal.cfg0.N,
    fun c => (Cert.LnRun.dats m 0 c).arrAt 10 Cert.KernelIdeal.cfg0.N, ?_, ?_⟩
  · refine (θ_run _ _ _).mono (fun r h c => ?_) (Cert.LnRun.run_main m g)
    exact ⟨fun i hi => (zero_ne hi).elim, fun i hi => (zero_ne hi).elim,
      fun i _ => congrFun (((Cert.LnRun.dats m 0 c).toRForget_arrAt_iff (w := 9) rfl _ _).mp ((h.1 c).1 9)) i,
      fun i _ => congrFun (((Cert.LnRun.dats m 0 c).toRForget_arrAt_iff (w := 10) rfl _ _).mp ((h.1 c).1 10)) i,
      Cert.LnRun.kept m r h.1 c⟩
  · refine (θ_run _ _ _).mono (fun r h c => ?_) (Cert.ReferenceIdeal.Value.run_blocks m' g')
    obtain ⟨h7, h8, h9, h10, hk⟩ := h c
    have ha : Agree m m' c := hargs c
    have hx : ∀ b p k i, ∃ a : ℝ, @Eq EReal ((Cert.ReferenceIdeal.Gen.iblk m' c 1 ⟨0, one_point'⟩ : Vec Ideal Cert.ReferenceIdeal.S12x128x54x128 .fp8e4m3) (ix4 b p k i)) a := fun b p k i => by
      rw [← win1 ha, Cert.LnKer.codes_at]; exact codes_real _ _ _ _ _ _ _ (hpre c).1 _
    have hs : ∀ b p k, ∃ a : ℝ, @Eq EReal ((Cert.ReferenceIdeal.Gen.iblk m' c 2 ⟨0, one_point'⟩ : Vec Ideal Cert.ReferenceIdeal.S12x128x54 .f32) (ix3 b p k)) a := fun b p k => by
      rw [← win2 ha, Cert.LnKer.scales_at]; exact scales_real _ _ _ _ _ _ _ (hpre c).2 _
    refine ⟨fun i hi => (zero_ne hi).elim, fun i hi => (zero_ne hi).elim, fun i _ => ?_, fun i _ => ?_, hk⟩
    · refine (congrFun (h9.trans (ref_mean m' c ⟨0, one_point'⟩)) i).trans (Eq.trans ?_ (congrFun (ker_mean m c ⟨0, one_point⟩) i).symm)
      rw [← win0 ha, ← win3 ha]
      exact (meanAt_eq _ _ _ _ _ _ (i 0) (i 1) (win1 ha _ _) (win2 ha _ _) (hx _ _) (hs _ _)).symm
    · refine (congrFun (h10.trans (ref_rstd m' c ⟨0, one_point'⟩)) i).trans (Eq.trans ?_ (congrFun (ker_rstd m c ⟨0, one_point⟩) i).symm)
      rw [← win0 ha, ← win3 ha, ← win4 ha]
      exact (rstdAt_eq _ _ _ _ _ _ _ (i 0) (i 1) (win1 ha _ _) (win2 ha _ _) (hx _ _) (hs _ _)).symm

set_option maxHeartbeats 800000 in
/-- All four results, on inputs of bounded size. -/
theorem all_results : Cert.algebraic_KernelIdeal_ReferenceIdeal_pre_bounded_inputs := by
  intro m g m' g' hpre hargs
  have T : ∀ (c : Dev Cert.KernelIdeal.nD) (t : Fin Cert.KernelIdeal.cfg0.N), Tame (Cert.KernelIdeal.Gen.iblk m c 0 t) (Cert.KernelIdeal.Gen.iblk m c 1 t)
      (Cert.KernelIdeal.Gen.iblk m c 2 t) (Cert.KernelIdeal.Gen.iblk m c 3 t) (Cert.KernelIdeal.Gen.iblk m c 4 t) (Cert.KernelIdeal.Gen.iblk m c 5 t)
      (Cert.KernelIdeal.Gen.iblk m c 6 t) := fun c t => tame (bounded m hpre c t)
  refine ⟨fun c => (Cert.LnAll.dats m 0 c).arrAt 7 Cert.KernelIdeal.cfg0.N, fun c => (Cert.LnAll.dats m 0 c).arrAt 8 Cert.KernelIdeal.cfg0.N,
    fun c => (Cert.LnAll.dats m 0 c).arrAt 9 Cert.KernelIdeal.cfg0.N, fun c => (Cert.LnAll.dats m 0 c).arrAt 10 Cert.KernelIdeal.cfg0.N, ?_, ?_⟩
  · refine (θ_run _ _ _).mono (fun r h c => ?_) (Cert.LnAll.run_main m g T)
    exact ⟨((Cert.LnAll.dats m 0 c).toRForget_arrAt_iff (w := 7) rfl _ _).mp ((h.1 c).1 7),
      ((Cert.LnAll.dats m 0 c).toRForget_arrAt_iff (w := 8) rfl _ _).mp ((h.1 c).1 8),
      ((Cert.LnAll.dats m 0 c).toRForget_arrAt_iff (w := 9) rfl _ _).mp ((h.1 c).1 9),
      ((Cert.LnAll.dats m 0 c).toRForget_arrAt_iff (w := 10) rfl _ _).mp ((h.1 c).1 10),
      Cert.LnAll.kept m r h.1 c⟩
  · refine (θ_run _ _ _).mono (fun r h c => ?_) (Cert.ReferenceIdeal.Value.run_blocks m' g')
    obtain ⟨h7, h8, h9, h10, hk⟩ := h c
    have ha : Agree m m' c := hargs c
    have Tc := T c ⟨0, one_point⟩
    have hx : ∀ b p k i, @Eq EReal ((Cert.ReferenceIdeal.Gen.iblk m' c 1 ⟨0, one_point'⟩ : Vec Ideal Cert.ReferenceIdeal.S12x128x54x128 .fp8e4m3) (ix4 b p k i)) (codeOf (Cert.KernelIdeal.Gen.iblk m c 1 ⟨0, one_point⟩) (rowAt b p) (colOf k i) : ℝ) := fun b p k i =>
      (win1 ha b p k i).symm.trans (Tc.codes _ _)
    have hs : ∀ b p k, @Eq EReal ((Cert.ReferenceIdeal.Gen.iblk m' c 2 ⟨0, one_point'⟩ : Vec Ideal Cert.ReferenceIdeal.S12x128x54 .f32) (ix3 b p k)) (scaleOf (Cert.KernelIdeal.Gen.iblk m c 2 ⟨0, one_point⟩) (rowAt b p) k : ℝ) := fun b p k =>
      (win2 ha b p k).symm.trans (Tc.scales _ _)
    have em : ∀ b p, Cert.LnRef.refMean (Cert.ReferenceIdeal.Gen.iblk m' c 0 ⟨0, one_point'⟩) (Cert.ReferenceIdeal.Gen.iblk m' c 1 ⟨0, one_point'⟩) (Cert.ReferenceIdeal.Gen.iblk m' c 2 ⟨0, one_point'⟩) (Cert.ReferenceIdeal.Gen.iblk m' c 3 ⟨0, one_point'⟩) b p
        = meanAt (Cert.KernelIdeal.Gen.iblk m c 0 ⟨0, one_point⟩) (Cert.KernelIdeal.Gen.iblk m c 1 ⟨0, one_point⟩) (Cert.KernelIdeal.Gen.iblk m c 2 ⟨0, one_point⟩) (Cert.KernelIdeal.Gen.iblk m c 3 ⟨0, one_point⟩) b p := fun b p => by
      rw [← win0 ha, ← win3 ha]
      exact (meanAt_eq _ _ _ _ _ _ b p (win1 ha _ _) (win2 ha _ _) (fun k i => ⟨_, hx b p k i⟩) (fun k => ⟨_, hs b p k⟩)).symm
    have er : ∀ b p, Cert.LnRef.refRstd (Cert.ReferenceIdeal.Gen.iblk m' c 0 ⟨0, one_point'⟩) (Cert.ReferenceIdeal.Gen.iblk m' c 1 ⟨0, one_point'⟩) (Cert.ReferenceIdeal.Gen.iblk m' c 2 ⟨0, one_point'⟩) (Cert.ReferenceIdeal.Gen.iblk m' c 3 ⟨0, one_point'⟩) (Cert.ReferenceIdeal.Gen.iblk m' c 4 ⟨0, one_point'⟩) b p
        = rstdAt (Cert.KernelIdeal.Gen.iblk m c 0 ⟨0, one_point⟩) (Cert.KernelIdeal.Gen.iblk m c 1 ⟨0, one_point⟩) (Cert.KernelIdeal.Gen.iblk m c 2 ⟨0, one_point⟩) (Cert.KernelIdeal.Gen.iblk m c 3 ⟨0, one_point⟩) (Cert.KernelIdeal.Gen.iblk m c 4 ⟨0, one_point⟩) b p := fun b p => by
      rw [← win0 ha, ← win3 ha, ← win4 ha]
      exact (rstdAt_eq _ _ _ _ _ _ _ b p (win1 ha _ _) (win2 ha _ _) (fun k i => ⟨_, hx b p k i⟩) (fun k => ⟨_, hs b p k⟩)).symm
    have hm := fun b p => (em b p).trans (mean_at Tc b p)
    have hr := fun b p => (er b p).trans (rstd_at Tc b p)
    have hg := fun k i => (win5 ha k i).symm.trans (Tc.gamma (colOf k i))
    have hb := fun k i => (win6 ha k i).symm.trans (Tc.beta (colOf k i))
    refine ⟨?_, ?_, ?_, ?_, hk⟩
    · exact (h7.trans (ref_y m' c ⟨0, one_point'⟩ _ _ _ _ _ _ hx hs hm hr hg hb)).trans (all_y m c ⟨0, one_point⟩).symm
    · exact (h8.trans (ref_s m' c ⟨0, one_point'⟩ _ _ _ _ _ _ hx hs hm hr hg hb)).trans (all_s m c ⟨0, one_point⟩).symm
    · exact (h9.trans (ref_mean m' c ⟨0, one_point'⟩)).trans (Eq.trans (funext fun i => em (i 0) (i 1)) (all_mean m c ⟨0, one_point⟩).symm)
    · exact (h10.trans (ref_rstd m' c ⟨0, one_point'⟩)).trans (Eq.trans (funext fun i => er (i 0) (i 1)) (all_rstd m c ⟨0, one_point⟩).symm)

end Algebraic

theorem claim : Cert.Claim := ⟨Cert.Kernel.Gen.facts, Cert.KernelIdeal.Gen.facts, Cert.ReferenceIdeal.Gen.facts, preFacts, boundedFacts, onFacts,
  fun m ρ _ => Cert.Kernel.Gen.frame m ρ, fun m ρ _ => Cert.KernelIdeal.Gen.frame m ρ, fun m ρ _ => Cert.KernelIdeal.Gen.frame m ρ,
  fun m ρ _ => Cert.KernelIdeal.Gen.frame m ρ, fun m ρ _ => Cert.ReferenceIdeal.Gen.frame m ρ, fun m ρ _ => Cert.ReferenceIdeal.Gen.frame m ρ,
  fun m ρ _ => Cert.ReferenceIdeal.Gen.frame m ρ,
  ⟨IdealRules.bf16_pack.statement _, IdealRules.bf16_pack.statement _⟩, algebraic, all_results⟩

end Cert.Proof

end
